-- ==== Defs.lean ====
def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3)
      ∧ r.2.mem ((c.tc : Thread Cert.GateUp.nD Cert.GateUp.τ).loc Cert.GateUp.main_arg4) = m ((c.tc : Thread Cert.GateUp.nD Cert.GateUp.τ).loc Cert.GateUp.main_arg4)
      ∧ r.2.mem ((c.tc : Thread Cert.GateUp.nD Cert.GateUp.τ).loc Cert.GateUp.main_arg5) = m ((c.tc : Thread Cert.GateUp.nD Cert.GateUp.τ).loc Cert.GateUp.main_arg5))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
      ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
      ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2)
      ∧ r.2.mem ((c.tc : Thread Cert.GateUpRefIdeal.nD Cert.GateUpRefIdeal.τ).loc Cert.GateUpRefIdeal.main_arg3) = m ((c.tc : Thread Cert.GateUpRefIdeal.nD Cert.GateUpRefIdeal.τ).loc Cert.GateUpRefIdeal.main_arg3)
      ∧ r.2.mem ((c.tc : Thread Cert.GateUpRefIdeal.nD Cert.GateUpRefIdeal.τ).loc Cert.GateUpRefIdeal.main_arg4) = m ((c.tc : Thread Cert.GateUpRefIdeal.nD Cert.GateUpRefIdeal.τ).loc Cert.GateUpRefIdeal.main_arg4)
      ∧ r.2.mem ((c.tc : Thread Cert.GateUpRefIdeal.nD Cert.GateUpRefIdeal.τ).loc Cert.GateUpRefIdeal.main_arg5) = m ((c.tc : Thread Cert.GateUpRefIdeal.nD Cert.GateUpRefIdeal.τ).loc Cert.GateUpRefIdeal.main_arg5))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6)
      ∧ r.2.mem ((c.tc : Thread Cert.Qkv.nD Cert.Qkv.τ).loc Cert.Qkv.main_arg7) = m ((c.tc : Thread Cert.Qkv.nD Cert.Qkv.τ).loc Cert.Qkv.main_arg7))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
      ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6)
      ∧ r.2.mem ((c.tc : Thread Cert.QkvRefIdeal.nD Cert.QkvRefIdeal.τ).loc Cert.QkvRefIdeal.main_arg7) = m ((c.tc : Thread Cert.QkvRefIdeal.nD Cert.QkvRefIdeal.τ).loc Cert.QkvRefIdeal.main_arg7))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4)
      ∧ r.2.mem ((c.tc : Thread Cert.Down.nD Cert.Down.τ).loc Cert.Down.main_arg5) = m ((c.tc : Thread Cert.Down.nD Cert.Down.τ).loc Cert.Down.main_arg5))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4)
      ∧ r.2.mem ((c.tc : Thread Cert.DownRefIdeal.nD Cert.DownRefIdeal.τ).loc Cert.DownRefIdeal.main_arg5) = m ((c.tc : Thread Cert.DownRefIdeal.nD Cert.DownRefIdeal.τ).loc Cert.DownRefIdeal.main_arg5))
      ∧ r.2.sem = fun _ => 0)

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)
      ∧ m' ((c.tc : Thread Cert.GateUpRefIdeal.nD Cert.GateUpRefIdeal.τ).loc Cert.GateUpRefIdeal.main_arg3) = m ((c.tc : Thread Cert.GateUpIdeal.nD Cert.GateUpIdeal.τ).loc Cert.GateUpIdeal.main_arg3)
      ∧ m' ((c.tc : Thread Cert.GateUpRefIdeal.nD Cert.GateUpRefIdeal.τ).loc Cert.GateUpRefIdeal.main_arg4) = m ((c.tc : Thread Cert.GateUpIdeal.nD Cert.GateUpIdeal.τ).loc Cert.GateUpIdeal.main_arg4)
      ∧ m' ((c.tc : Thread Cert.GateUpRefIdeal.nD Cert.GateUpRefIdeal.τ).loc Cert.GateUpRefIdeal.main_arg5) = m ((c.tc : Thread Cert.GateUpIdeal.nD Cert.GateUpIdeal.τ).loc Cert.GateUpIdeal.main_arg5)) →
    ∃ (v0 : (c : Dev Cert.GateUpIdeal.nD) → Buf (Elt Ideal) ((c.tc : Thread Cert.GateUpIdeal.nD Cert.GateUpIdeal.τ).loc Cert.GateUpIdeal.main_v2_0)) (v1 : (c : Dev Cert.GateUpIdeal.nD) → Buf (Elt Ideal) ((c.tc : Thread Cert.GateUpIdeal.nD Cert.GateUpIdeal.τ).loc Cert.GateUpIdeal.main_v2_1)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v2_0) = v0 c
          ∧ r.2.mem ((c.tc : Thread Cert.GateUpIdeal.nD Cert.GateUpIdeal.τ).loc Cert.GateUpIdeal.main_v2_1) = v1 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
          ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
          ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
          ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v2_0) = v0 c
          ∧ r.2.mem ((c.tc : Thread Cert.GateUpRefIdeal.nD Cert.GateUpRefIdeal.τ).loc Cert.GateUpRefIdeal.main_v2_1) = v1 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2)
          ∧ r.2.mem ((c.tc : Thread Cert.GateUpRefIdeal.nD Cert.GateUpRefIdeal.τ).loc Cert.GateUpRefIdeal.main_arg3) = m' ((c.tc : Thread Cert.GateUpRefIdeal.nD Cert.GateUpRefIdeal.τ).loc Cert.GateUpRefIdeal.main_arg3)
          ∧ r.2.mem ((c.tc : Thread Cert.GateUpRefIdeal.nD Cert.GateUpRefIdeal.τ).loc Cert.GateUpRefIdeal.main_arg4) = m' ((c.tc : Thread Cert.GateUpRefIdeal.nD Cert.GateUpRefIdeal.τ).loc Cert.GateUpRefIdeal.main_arg4)
          ∧ r.2.mem ((c.tc : Thread Cert.GateUpRefIdeal.nD Cert.GateUpRefIdeal.τ).loc Cert.GateUpRefIdeal.main_arg5) = m' ((c.tc : Thread Cert.GateUpRefIdeal.nD Cert.GateUpRefIdeal.τ).loc Cert.GateUpRefIdeal.main_arg5))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)) →
    ∃ (v0 : (c : Dev Cert.ProjIdeal.nD) → Buf (Elt Ideal) ((c.tc : Thread Cert.ProjIdeal.nD Cert.ProjIdeal.τ).loc Cert.ProjIdeal.main_v4_0)) (v1 : (c : Dev Cert.ProjIdeal.nD) → Buf (Elt Ideal) ((c.tc : Thread Cert.ProjIdeal.nD Cert.ProjIdeal.τ).loc Cert.ProjIdeal.main_v4_1)) (v2 : (c : Dev Cert.ProjIdeal.nD) → Buf (Elt Ideal) ((c.tc : Thread Cert.ProjIdeal.nD Cert.ProjIdeal.τ).loc Cert.ProjIdeal.main_v4_2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v4_0) = v0 c
          ∧ r.2.mem ((c.tc : Thread Cert.ProjIdeal.nD Cert.ProjIdeal.τ).loc Cert.ProjIdeal.main_v4_1) = v1 c
          ∧ r.2.mem ((c.tc : Thread Cert.ProjIdeal.nD Cert.ProjIdeal.τ).loc Cert.ProjIdeal.main_v4_2) = v2 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v4_0) = v0 c
          ∧ r.2.mem ((c.tc : Thread Cert.ProjRefIdeal.nD Cert.ProjRefIdeal.τ).loc Cert.ProjRefIdeal.main_v4_1) = v1 c
          ∧ r.2.mem ((c.tc : Thread Cert.ProjRefIdeal.nD Cert.ProjRefIdeal.τ).loc Cert.ProjRefIdeal.main_v4_2) = v2 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)
      ∧ m' ((c.tc : Thread Cert.QkvRefIdeal.nD Cert.QkvRefIdeal.τ).loc Cert.QkvRefIdeal.main_arg6) = m ((c.tc : Thread Cert.QkvIdeal.nD Cert.QkvIdeal.τ).loc Cert.QkvIdeal.main_arg6)
      ∧ m' ((c.tc : Thread Cert.QkvRefIdeal.nD Cert.QkvRefIdeal.τ).loc Cert.QkvRefIdeal.main_arg7) = m ((c.tc : Thread Cert.QkvIdeal.nD Cert.QkvIdeal.τ).loc Cert.QkvIdeal.main_arg7)) →
    ∃ (v0 : (c : Dev Cert.QkvIdeal.nD) → Buf (Elt Ideal) ((c.tc : Thread Cert.QkvIdeal.nD Cert.QkvIdeal.τ).loc Cert.QkvIdeal.main_v2_0)) (v1 : (c : Dev Cert.QkvIdeal.nD) → Buf (Elt Ideal) ((c.tc : Thread Cert.QkvIdeal.nD Cert.QkvIdeal.τ).loc Cert.QkvIdeal.main_v2_1)) (v2 : (c : Dev Cert.QkvIdeal.nD) → Buf (Elt Ideal) ((c.tc : Thread Cert.QkvIdeal.nD Cert.QkvIdeal.τ).loc Cert.QkvIdeal.main_v2_2)) (v3 : (c : Dev Cert.QkvIdeal.nD) → Buf (Elt Ideal) ((c.tc : Thread Cert.QkvIdeal.nD Cert.QkvIdeal.τ).loc Cert.QkvIdeal.main_v2_3)) (v4 : (c : Dev Cert.QkvIdeal.nD) → Buf (Elt Ideal) ((c.tc : Thread Cert.QkvIdeal.nD Cert.QkvIdeal.τ).loc Cert.QkvIdeal.main_v2_4)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v2_0) = v0 c
          ∧ r.2.mem ((c.tc : Thread Cert.QkvIdeal.nD Cert.QkvIdeal.τ).loc Cert.QkvIdeal.main_v2_1) = v1 c
          ∧ r.2.mem ((c.tc : Thread Cert.QkvIdeal.nD Cert.QkvIdeal.τ).loc Cert.QkvIdeal.main_v2_2) = v2 c
          ∧ r.2.mem ((c.tc : Thread Cert.QkvIdeal.nD Cert.QkvIdeal.τ).loc Cert.QkvIdeal.main_v2_3) = v3 c
          ∧ r.2.mem ((c.tc : Thread Cert.QkvIdeal.nD Cert.QkvIdeal.τ).loc Cert.QkvIdeal.main_v2_4) = v4 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
          ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v4_0) = v0 c
          ∧ r.2.mem ((c.tc : Thread Cert.QkvRefIdeal.nD Cert.QkvRefIdeal.τ).loc Cert.QkvRefIdeal.main_v4_1) = v1 c
          ∧ r.2.mem ((c.tc : Thread Cert.QkvRefIdeal.nD Cert.QkvRefIdeal.τ).loc Cert.QkvRefIdeal.main_v4_2) = v2 c
          ∧ r.2.mem ((c.tc : Thread Cert.QkvRefIdeal.nD Cert.QkvRefIdeal.τ).loc Cert.QkvRefIdeal.main_v4_3) = v3 c
          ∧ r.2.mem ((c.tc : Thread Cert.QkvRefIdeal.nD Cert.QkvRefIdeal.τ).loc Cert.QkvRefIdeal.main_v4_4) = v4 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5)
          ∧ r.2.mem ((c.tc : Thread Cert.QkvRefIdeal.nD Cert.QkvRefIdeal.τ).loc Cert.QkvRefIdeal.main_arg6) = m' ((c.tc : Thread Cert.QkvRefIdeal.nD Cert.QkvRefIdeal.τ).loc Cert.QkvRefIdeal.main_arg6)
          ∧ r.2.mem ((c.tc : Thread Cert.QkvRefIdeal.nD Cert.QkvRefIdeal.τ).loc Cert.QkvRefIdeal.main_arg7) = m' ((c.tc : Thread Cert.QkvRefIdeal.nD Cert.QkvRefIdeal.τ).loc Cert.QkvRefIdeal.main_arg7))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)
      ∧ m' ((c.tc : Thread Cert.DownRefIdeal.nD Cert.DownRefIdeal.τ).loc Cert.DownRefIdeal.main_arg5) = m ((c.tc : Thread Cert.DownIdeal.nD Cert.DownIdeal.τ).loc Cert.DownIdeal.main_arg5)) →
    ∃ (v0 : (c : Dev Cert.DownIdeal.nD) → Buf (Elt Ideal) ((c.tc : Thread Cert.DownIdeal.nD Cert.DownIdeal.τ).loc Cert.DownIdeal.main_v2_0)) (v1 : (c : Dev Cert.DownIdeal.nD) → Buf (Elt Ideal) ((c.tc : Thread Cert.DownIdeal.nD Cert.DownIdeal.τ).loc Cert.DownIdeal.main_v2_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2_0) = v0 c
          ∧ r.2.mem ((c.tc : Thread Cert.DownIdeal.nD Cert.DownIdeal.τ).loc Cert.DownIdeal.main_v2_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
          ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v2_0) = v0 c
          ∧ r.2.mem ((c.tc : Thread Cert.DownRefIdeal.nD Cert.DownRefIdeal.τ).loc Cert.DownRefIdeal.main_v2_1) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4)
          ∧ r.2.mem ((c.tc : Thread Cert.DownRefIdeal.nD Cert.DownRefIdeal.τ).loc Cert.DownRefIdeal.main_arg5) = m' ((c.tc : Thread Cert.DownRefIdeal.nD Cert.DownRefIdeal.τ).loc Cert.DownRefIdeal.main_arg5))

def Claim : Prop :=
  ∃ (hGateUp : Cert.GateUp.Facts) (hGateUpIdeal : Cert.GateUpIdeal.Facts) (hGateUpRefIdeal : Cert.GateUpRefIdeal.Facts) (hProj : Cert.Proj.Facts) (hProjIdeal : Cert.ProjIdeal.Facts) (hProjRefIdeal : Cert.ProjRefIdeal.Facts) (hQkv : Cert.Qkv.Facts) (hQkvIdeal : Cert.QkvIdeal.Facts) (hQkvRefIdeal : Cert.QkvRefIdeal.Facts) (hDown : Cert.Down.Facts) (hDownIdeal : Cert.DownIdeal.Facts) (hDownRefIdeal : Cert.DownRefIdeal.Facts),
    quiescent_GateUp (hGateUp := hGateUp)
    ∧ quiescent_GateUpIdeal (hGateUpIdeal := hGateUpIdeal)
    ∧ quiescent_GateUpRefIdeal (hGateUpRefIdeal := hGateUpRefIdeal)
    ∧ quiescent_Proj (hProj := hProj)
    ∧ quiescent_ProjIdeal (hProjIdeal := hProjIdeal)
    ∧ quiescent_ProjRefIdeal (hProjRefIdeal := hProjRefIdeal)
    ∧ quiescent_Qkv (hQkv := hQkv)
    ∧ quiescent_QkvIdeal (hQkvIdeal := hQkvIdeal)
    ∧ quiescent_QkvRefIdeal (hQkvRefIdeal := hQkvRefIdeal)
    ∧ quiescent_Down (hDown := hDown)
    ∧ quiescent_DownIdeal (hDownIdeal := hDownIdeal)
    ∧ quiescent_DownRefIdeal (hDownRefIdeal := hDownRefIdeal)
    ∧ preserves_GateUp_GateUpIdeal
    ∧ algebraic_GateUpIdeal_GateUpRefIdeal (hGateUpIdeal := hGateUpIdeal) (hGateUpRefIdeal := hGateUpRefIdeal)
    ∧ preserves_Proj_ProjIdeal
    ∧ algebraic_ProjIdeal_ProjRefIdeal (hProjIdeal := hProjIdeal) (hProjRefIdeal := hProjRefIdeal)
    ∧ preserves_Qkv_QkvIdeal
    ∧ algebraic_QkvIdeal_QkvRefIdeal (hQkvIdeal := hQkvIdeal) (hQkvRefIdeal := hQkvRefIdeal)
    ∧ preserves_Down_DownIdeal
    ∧ algebraic_DownIdeal_DownRefIdeal (hDownIdeal := hDownIdeal) (hDownRefIdeal := hDownRefIdeal)
-- ==== GateUp.lean ====
abbrev S14208x4608 : Shape := ⟨2, ![14208, 4608]⟩
abbrev S14208x128 : Shape := ⟨2, ![14208, 128]⟩
abbrev S4608x18432 : Shape := ⟨2, ![4608, 18432]⟩
abbrev S18432 : Shape := ⟨1, ![18432]⟩
abbrev S1x18432 : Shape := ⟨2, ![1, 18432]⟩
abbrev S14208x18432 : Shape := ⟨2, ![14208, 18432]⟩
abbrev S1184x4608 : Shape := ⟨2, ![1184, 4608]⟩
abbrev S1184x128 : Shape := ⟨2, ![1184, 128]⟩
abbrev S4608x1024 : Shape := ⟨2, ![4608, 1024]⟩
abbrev S1x1024 : Shape := ⟨2, ![1, 1024]⟩
abbrev S1184x1024 : Shape := ⟨2, ![1184, 1024]⟩
abbrev S1184x1 : Shape := ⟨2, ![1184, 1]⟩
abbrev S4608x256 : Shape := ⟨2, ![4608, 256]⟩
abbrev S1184x256 : Shape := ⟨2, ![1184, 256]⟩
abbrev S1x256 : Shape := ⟨2, ![1, 256]⟩
abbrev S1184 : Shape := ⟨1, ![1184]⟩

abbrev nBuf : Space → Nat
  | .hbm => 10
  | .vmem => 17
  | .smem => 0
  | _ => 0

abbrev bufTy : (tb : Table) → Fin (tcTables nBuf tb) → BufTy
  | .hbm, ⟨0, _⟩ => ⟨S14208x4608, .fp8e4m3⟩
  | .hbm, ⟨1, _⟩ => ⟨S14208x128, .f32⟩
  | .hbm, ⟨2, _⟩ => ⟨S4608x18432, .fp8e4m3⟩
  | .hbm, ⟨3, _⟩ => ⟨S4608x18432, .fp8e4m3⟩
  | .hbm, ⟨4, _⟩ => ⟨S18432, .f32⟩
  | .hbm, ⟨5, _⟩ => ⟨S18432, .f32⟩
  | .hbm, ⟨6, _⟩ => ⟨S1x18432, .f32⟩
  | .hbm, ⟨7, _⟩ => ⟨S1x18432, .f32⟩
  | .hbm, ⟨8, _⟩ => ⟨S14208x18432, .f32⟩
  | .hbm, ⟨9, _⟩ => ⟨S14208x128, .f32⟩
  | .local _ .vmem, ⟨0, _⟩ => ⟨S1184x4608, .fp8e4m3⟩
  | .local _ .vmem, ⟨1, _⟩ => ⟨S1184x4608, .fp8e4m3⟩
  | .local _ .vmem, ⟨2, _⟩ => ⟨S1184x128, .f32⟩
  | .local _ .vmem, ⟨3, _⟩ => ⟨S1184x128, .f32⟩
  | .local _ .vmem, ⟨4, _⟩ => ⟨S4608x1024, .fp8e4m3⟩
  | .local _ .vmem, ⟨5, _⟩ => ⟨S4608x1024, .fp8e4m3⟩
  | .local _ .vmem, ⟨6, _⟩ => ⟨S4608x1024, .fp8e4m3⟩
  | .local _ .vmem, ⟨7, _⟩ => ⟨S4608x1024, .fp8e4m3⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1184x1024, .f32⟩
  | .local _ .vmem, ⟨13, _⟩ => ⟨S1184x1024, .f32⟩
  | .local _ .vmem, ⟨14, _⟩ => ⟨S1184x128, .f32⟩
  | .local _ .vmem, ⟨15, _⟩ => ⟨S1184x128, .f32⟩
  | .local _ .vmem, ⟨16, _⟩ => ⟨S1184x128, .f32⟩
  | _, _ => ⟨S14208x4608, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![12, 18], ![false, false]⟩

def k0_cond2 (i : grid0.Coords) : BitVec 1 :=
  let arg1 : BitVec 32 := BitVec.ofNat 32 (i 1).val
  let c17_i32 : BitVec 32 := 17#32
  let v172 : BitVec 1 := Scalar.cmpi .eq arg1 c17_i32
  let v173 : BitVec 32 := Scalar.extui v172
  let c0_i32_94 : BitVec 32 := 0#32
  let v174 : BitVec 1 := Scalar.cmpi .ne v173 c0_i32_94
  v174

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1184x4608 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1184x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4608x1024 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4608x1024 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1184x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1184x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== GateUpRefIdeal.lean ====
abbrev S14208x4608 : Shape := ⟨2, ![14208, 4608]⟩
abbrev S14208x128 : Shape := ⟨2, ![14208, 128]⟩
abbrev S4608x18432 : Shape := ⟨2, ![4608, 18432]⟩
abbrev S18432 : Shape := ⟨1, ![18432]⟩
abbrev S1x18432 : Shape := ⟨2, ![1, 18432]⟩
abbrev S14208x18432 : Shape := ⟨2, ![14208, 18432]⟩
abbrev S14208x1 : Shape := ⟨2, ![14208, 1]⟩
abbrev S14208 : Shape := ⟨1, ![14208]⟩

abbrev nBuf : Space → Nat
  | .hbm => 10
  | .vmem => 8
  | .smem => 0
  | _ => 0

abbrev bufTy : (tb : Table) → Fin (tcTables nBuf tb) → BufTy
  | .hbm, ⟨0, _⟩ => ⟨S14208x4608, .fp8e4m3⟩
  | .hbm, ⟨1, _⟩ => ⟨S14208x128, .f32⟩
  | .hbm, ⟨2, _⟩ => ⟨S4608x18432, .fp8e4m3⟩
  | .hbm, ⟨3, _⟩ => ⟨S4608x18432, .fp8e4m3⟩
  | .hbm, ⟨4, _⟩ => ⟨S18432, .f32⟩
  | .hbm, ⟨5, _⟩ => ⟨S18432, .f32⟩
  | .hbm, ⟨6, _⟩ => ⟨S1x18432, .f32⟩
  | .hbm, ⟨7, _⟩ => ⟨S1x18432, .f32⟩
  | .hbm, ⟨8, _⟩ => ⟨S14208x18432, .f32⟩
  | .hbm, ⟨9, _⟩ => ⟨S14208x128, .f32⟩
  | .local _ .vmem, ⟨0, _⟩ => ⟨S14208x4608, .fp8e4m3⟩
  | .local _ .vmem, ⟨1, _⟩ => ⟨S14208x128, .f32⟩
  | .local _ .vmem, ⟨2, _⟩ => ⟨S4608x18432, .fp8e4m3⟩
  | .local _ .vmem, ⟨3, _⟩ => ⟨S4608x18432, .fp8e4m3⟩
  | .local _ .vmem, ⟨4, _⟩ => ⟨S1x18432, .f32⟩
  | .local _ .vmem, ⟨5, _⟩ => ⟨S1x18432, .f32⟩
  | .local _ .vmem, ⟨6, _⟩ => ⟨S14208x18432, .f32⟩
  | .local _ .vmem, ⟨7, _⟩ => ⟨S14208x128, .f32⟩
  | _, _ => ⟨S14208x4608, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S14208x4608 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S14208x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4608x18432 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4608x18432 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x18432 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x18432 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S14208x18432 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S14208x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proj.lean ====
abbrev S14208x2048 : Shape := ⟨2, ![14208, 2048]⟩
abbrev S14208 : Shape := ⟨1, ![14208]⟩
abbrev S2048x4608 : Shape := ⟨2, ![2048, 4608]⟩
abbrev S4608 : Shape := ⟨1, ![4608]⟩
abbrev S14208x4608 : Shape := ⟨2, ![14208, 4608]⟩
abbrev S14208x1 : Shape := ⟨2, ![14208, 1]⟩
abbrev S1x4608 : Shape := ⟨2, ![1, 4608]⟩
abbrev S14208x128 : Shape := ⟨2, ![14208, 128]⟩
abbrev S384x2048 : Shape := ⟨2, ![384, 2048]⟩
abbrev S384x1 : Shape := ⟨2, ![384, 1]⟩
abbrev S384x4608 : Shape := ⟨2, ![384, 4608]⟩
abbrev S384x128 : Shape := ⟨2, ![384, 128]⟩
abbrev S384 : Shape := ⟨1, ![384]⟩

abbrev nBuf : Space → Nat
  | .hbm => 14
  | .vmem => 16
  | .smem => 0
  | _ => 0

abbrev bufTy : (tb : Table) → Fin (tcTables nBuf tb) → BufTy
  | .hbm, ⟨0, _⟩ => ⟨S14208x2048, .fp8e4m3⟩
  | .hbm, ⟨1, _⟩ => ⟨S14208, .f32⟩
  | .hbm, ⟨2, _⟩ => ⟨S2048x4608, .fp8e4m3⟩
  | .hbm, ⟨3, _⟩ => ⟨S4608, .f32⟩
  | .hbm, ⟨4, _⟩ => ⟨S14208x4608, .bf16⟩
  | .hbm, ⟨5, _⟩ => ⟨S4608, .f32⟩
  | .hbm, ⟨6, _⟩ => ⟨S4608, .f32⟩
  | .hbm, ⟨7, _⟩ => ⟨S14208x1, .f32⟩
  | .hbm, ⟨8, _⟩ => ⟨S1x4608, .f32⟩
  | .hbm, ⟨9, _⟩ => ⟨S1x4608, .f32⟩
  | .hbm, ⟨10, _⟩ => ⟨S1x4608, .f32⟩
  | .hbm, ⟨11, _⟩ => ⟨S14208x4608, .f32⟩
  | .hbm, ⟨12, _⟩ => ⟨S14208x4608, .fp8e4m3⟩
  | .hbm, ⟨13, _⟩ => ⟨S14208x128, .f32⟩
  | .local _ .vmem, ⟨0, _⟩ => ⟨S384x2048, .fp8e4m3⟩
  | .local _ .vmem, ⟨1, _⟩ => ⟨S384x2048, .fp8e4m3⟩
  | .local _ .vmem, ⟨2, _⟩ => ⟨S384x1, .f32⟩
  | .local _ .vmem, ⟨3, _⟩ => ⟨S384x1, .f32⟩
  | .local _ .vmem, ⟨4, _⟩ => ⟨S2048x4608, .fp8e4m3⟩
  | .local _ .vmem, ⟨5, _⟩ => ⟨S1x4608, .f32⟩
  | .local _ .vmem, ⟨6, _⟩ => ⟨S384x4608, .bf16⟩
  | .local _ .vmem, ⟨7, _⟩ => ⟨S384x4608, .bf16⟩
  | .local _ .vmem, ⟨8, _⟩ => ⟨S1x4608, .f32⟩
  | .local _ .vmem, ⟨9, _⟩ => ⟨S1x4608, .f32⟩
  | .local _ .vmem, ⟨10, _⟩ => ⟨S384x4608, .f32⟩
  | .local _ .vmem, ⟨11, _⟩ => ⟨S384x4608, .f32⟩
  | .local _ .vmem, ⟨12, _⟩ => ⟨S384x4608, .fp8e4m3⟩
  | .local _ .vmem, ⟨13, _⟩ => ⟨S384x4608, .fp8e4m3⟩
  | .local _ .vmem, ⟨14, _⟩ => ⟨S384x128, .f32⟩
  | .local _ .vmem, ⟨15, _⟩ => ⟨S384x128, .f32⟩
  | _, _ => ⟨S14208x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![37], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x2048 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x4608 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4608 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S384x4608 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x4608 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4608 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S384x4608 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S384x4608 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S384x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ProjRefIdeal.lean ====
abbrev S14208x2048 : Shape := ⟨2, ![14208, 2048]⟩
abbrev S14208 : Shape := ⟨1, ![14208]⟩
abbrev S2048x4608 : Shape := ⟨2, ![2048, 4608]⟩
abbrev S4608 : Shape := ⟨1, ![4608]⟩
abbrev S14208x4608 : Shape := ⟨2, ![14208, 4608]⟩
abbrev S14208x1 : Shape := ⟨2, ![14208, 1]⟩
abbrev S1x4608 : Shape := ⟨2, ![1, 4608]⟩
abbrev S14208x128 : Shape := ⟨2, ![14208, 128]⟩

abbrev nBuf : Space → Nat
  | .hbm => 14
  | .vmem => 10
  | .smem => 0
  | _ => 0

abbrev bufTy : (tb : Table) → Fin (tcTables nBuf tb) → BufTy
  | .hbm, ⟨0, _⟩ => ⟨S14208x2048, .fp8e4m3⟩
  | .hbm, ⟨1, _⟩ => ⟨S14208, .f32⟩
  | .hbm, ⟨2, _⟩ => ⟨S2048x4608, .fp8e4m3⟩
  | .hbm, ⟨3, _⟩ => ⟨S4608, .f32⟩
  | .hbm, ⟨4, _⟩ => ⟨S14208x4608, .bf16⟩
  | .hbm, ⟨5, _⟩ => ⟨S4608, .f32⟩
  | .hbm, ⟨6, _⟩ => ⟨S4608, .f32⟩
  | .hbm, ⟨7, _⟩ => ⟨S14208x1, .f32⟩
  | .hbm, ⟨8, _⟩ => ⟨S1x4608, .f32⟩
  | .hbm, ⟨9, _⟩ => ⟨S1x4608, .f32⟩
  | .hbm, ⟨10, _⟩ => ⟨S1x4608, .f32⟩
  | .hbm, ⟨11, _⟩ => ⟨S14208x4608, .f32⟩
  | .hbm, ⟨12, _⟩ => ⟨S14208x4608, .fp8e4m3⟩
  | .hbm, ⟨13, _⟩ => ⟨S14208x128, .f32⟩
  | .local _ .vmem, ⟨0, _⟩ => ⟨S14208x2048, .fp8e4m3⟩
  | .local _ .vmem, ⟨1, _⟩ => ⟨S14208x1, .f32⟩
  | .local _ .vmem, ⟨2, _⟩ => ⟨S2048x4608, .fp8e4m3⟩
  | .local _ .vmem, ⟨3, _⟩ => ⟨S1x4608, .f32⟩
  | .local _ .vmem, ⟨4, _⟩ => ⟨S14208x4608, .bf16⟩
  | .local _ .vmem, ⟨5, _⟩ => ⟨S1x4608, .f32⟩
  | .local _ .vmem, ⟨6, _⟩ => ⟨S1x4608, .f32⟩
  | .local _ .vmem, ⟨7, _⟩ => ⟨S14208x4608, .f32⟩
  | .local _ .vmem, ⟨8, _⟩ => ⟨S14208x4608, .fp8e4m3⟩
  | .local _ .vmem, ⟨9, _⟩ => ⟨S14208x128, .f32⟩
  | _, _ => ⟨S14208x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S14208x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S14208x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x4608 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x4608 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S14208x4608 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x4608 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x4608 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S14208x4608 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S14208x4608 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S14208x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Qkv.lean ====
abbrev S14208x4608 : Shape := ⟨2, ![14208, 4608]⟩
abbrev S4608 : Shape := ⟨1, ![4608]⟩
abbrev S4608x4096 : Shape := ⟨2, ![4608, 4096]⟩
abbrev S4096 : Shape := ⟨1, ![4096]⟩
abbrev S14208x64 : Shape := ⟨2, ![14208, 64]⟩
abbrev S8 : Shape := ⟨1, ![8]⟩
abbrev S1x4608 : Shape := ⟨2, ![1, 4608]⟩
abbrev S1x4096 : Shape := ⟨2, ![1, 4096]⟩
abbrev S14208x128 : Shape := ⟨2, ![14208, 128]⟩
abbrev S14208x2048 : Shape := ⟨2, ![14208, 2048]⟩
abbrev S14208x1024 : Shape := ⟨2, ![14208, 1024]⟩
abbrev S384x4608 : Shape := ⟨2, ![384, 4608]⟩
abbrev S384x64 : Shape := ⟨2, ![384, 64]⟩
abbrev S384x128 : Shape := ⟨2, ![384, 128]⟩
abbrev S384x2048 : Shape := ⟨2, ![384, 2048]⟩
abbrev S384x1024 : Shape := ⟨2, ![384, 1024]⟩
abbrev S384 : Shape := ⟨1, ![384]⟩
abbrev S384x1 : Shape := ⟨2, ![384, 1]⟩
abbrev S4608x256 : Shape := ⟨2, ![4608, 256]⟩
abbrev S384x256 : Shape := ⟨2, ![384, 256]⟩
abbrev S1x256 : Shape := ⟨2, ![1, 256]⟩
abbrev S1 : Shape := ⟨1, ![1]⟩

abbrev nBuf : Space → Nat
  | .hbm => 15
  | .vmem => 19
  | .smem => 2
  | _ => 0

abbrev bufTy : (tb : Table) → Fin (tcTables nBuf tb) → BufTy
  | .hbm, ⟨0, _⟩ => ⟨S14208x4608, .bf16⟩
  | .hbm, ⟨1, _⟩ => ⟨S4608, .f32⟩
  | .hbm, ⟨2, _⟩ => ⟨S4608x4096, .fp8e4m3⟩
  | .hbm, ⟨3, _⟩ => ⟨S4096, .f32⟩
  | .hbm, ⟨4, _⟩ => ⟨S14208x64, .f32⟩
  | .hbm, ⟨5, _⟩ => ⟨S14208x64, .f32⟩
  | .hbm, ⟨6, _⟩ => ⟨S8, .f32⟩
  | .hbm, ⟨7, _⟩ => ⟨S8, .f32⟩
  | .hbm, ⟨8, _⟩ => ⟨S1x4608, .f32⟩
  | .hbm, ⟨9, _⟩ => ⟨S1x4096, .f32⟩
  | .hbm, ⟨10, _⟩ => ⟨S14208x4608, .fp8e4m3⟩
  | .hbm, ⟨11, _⟩ => ⟨S14208x128, .f32⟩
  | .hbm, ⟨12, _⟩ => ⟨S14208x2048, .bf16⟩
  | .hbm, ⟨13, _⟩ => ⟨S14208x1024, .fp8e4m3⟩
  | .hbm, ⟨14, _⟩ => ⟨S14208x1024, .fp8e4m3⟩
  | .local _ .vmem, ⟨0, _⟩ => ⟨S384x4608, .bf16⟩
  | .local _ .vmem, ⟨1, _⟩ => ⟨S384x4608, .bf16⟩
  | .local _ .vmem, ⟨2, _⟩ => ⟨S1x4608, .f32⟩
  | .local _ .vmem, ⟨3, _⟩ => ⟨S4608x4096, .fp8e4m3⟩
  | .local _ .vmem, ⟨4, _⟩ => ⟨S1x4096, .f32⟩
  | .local _ .vmem, ⟨5, _⟩ => ⟨S384x64, .f32⟩
  | .local _ .vmem, ⟨6, _⟩ => ⟨S384x64, .f32⟩
  | .local _ .vmem, ⟨7, _⟩ => ⟨S384x64, .f32⟩
  | .local _ .vmem, ⟨8, _⟩ => ⟨S384x64, .f32⟩
  | .local _ .vmem, ⟨9, _⟩ => ⟨S384x4608, .fp8e4m3⟩
  | .local _ .vmem, ⟨10, _⟩ => ⟨S384x4608, .fp8e4m3⟩
  | .local _ .vmem, ⟨11, _⟩ => ⟨S384x128, .f32⟩
  | .local _ .vmem, ⟨12, _⟩ => ⟨S384x128, .f32⟩
  | .local _ .vmem, ⟨13, _⟩ => ⟨S384x2048, .bf16⟩
  | .local _ .vmem, ⟨14, _⟩ => ⟨S384x2048, .bf16⟩
  | .local _ .vmem, ⟨15, _⟩ => ⟨S384x1024, .fp8e4m3⟩
  | .local _ .vmem, ⟨16, _⟩ => ⟨S384x1024, .fp8e4m3⟩
  | .local _ .vmem, ⟨17, _⟩ => ⟨S384x1024, .fp8e4m3⟩
  | .local _ .vmem, ⟨18, _⟩ => ⟨S384x1024, .fp8e4m3⟩
  | .local _ .smem, ⟨0, _⟩ => ⟨S8, .f32⟩
  | .local _ .smem, ⟨1, _⟩ => ⟨S8, .f32⟩
  | _, _ => ⟨S14208x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v2_3 : Ref sig .tc := ⟨.hbm, 13, rfl⟩
abbrev main_v2_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg6_0 : Ref sig .tc := ⟨.smem, 0, rfl⟩
abbrev cc0_stg7_0 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![37], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x4608 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4608 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4608x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S384x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .smem S8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .smem S8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S384x4608 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S384x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S384x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S384x1024 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S384x1024 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== QkvRefIdeal.lean ====
abbrev S14208x4608 : Shape := ⟨2, ![14208, 4608]⟩
abbrev S4608 : Shape := ⟨1, ![4608]⟩
abbrev S4608x4096 : Shape := ⟨2, ![4608, 4096]⟩
abbrev S4096 : Shape := ⟨1, ![4096]⟩
abbrev S14208x64 : Shape := ⟨2, ![14208, 64]⟩
abbrev S8 : Shape := ⟨1, ![8]⟩
abbrev S1x4608 : Shape := ⟨2, ![1, 4608]⟩
abbrev S1x4096 : Shape := ⟨2, ![1, 4096]⟩
abbrev S1x8x1 : Shape := ⟨3, ![1, 8, 1]⟩
abbrev S14208x128 : Shape := ⟨2, ![14208, 128]⟩
abbrev S14208x2048 : Shape := ⟨2, ![14208, 2048]⟩
abbrev S14208x1024 : Shape := ⟨2, ![14208, 1024]⟩
abbrev S14208 : Shape := ⟨1, ![14208]⟩
abbrev S14208x1 : Shape := ⟨2, ![14208, 1]⟩
abbrev S14208x4096 : Shape := ⟨2, ![14208, 4096]⟩
abbrev S14208x16x128 : Shape := ⟨3, ![14208, 16, 128]⟩
abbrev S14208x8x128 : Shape := ⟨3, ![14208, 8, 128]⟩
abbrev S14208x16x64 : Shape := ⟨3, ![14208, 16, 64]⟩
abbrev S14208x1x64 : Shape := ⟨3, ![14208, 1, 64]⟩
abbrev S14208x8x64 : Shape := ⟨3, ![14208, 8, 64]⟩

abbrev nBuf : Space → Nat
  | .hbm => 17
  | .vmem => 13
  | .smem => 0
  | _ => 0

abbrev bufTy : (tb : Table) → Fin (tcTables nBuf tb) → BufTy
  | .hbm, ⟨0, _⟩ => ⟨S14208x4608, .bf16⟩
  | .hbm, ⟨1, _⟩ => ⟨S4608, .f32⟩
  | .hbm, ⟨2, _⟩ => ⟨S4608x4096, .fp8e4m3⟩
  | .hbm, ⟨3, _⟩ => ⟨S4096, .f32⟩
  | .hbm, ⟨4, _⟩ => ⟨S14208x64, .f32⟩
  | .hbm, ⟨5, _⟩ => ⟨S14208x64, .f32⟩
  | .hbm, ⟨6, _⟩ => ⟨S8, .f32⟩
  | .hbm, ⟨7, _⟩ => ⟨S8, .f32⟩
  | .hbm, ⟨8, _⟩ => ⟨S1x4608, .f32⟩
  | .hbm, ⟨9, _⟩ => ⟨S1x4096, .f32⟩
  | .hbm, ⟨10, _⟩ => ⟨S1x8x1, .f32⟩
  | .hbm, ⟨11, _⟩ => ⟨S1x8x1, .f32⟩
  | .hbm, ⟨12, _⟩ => ⟨S14208x4608, .fp8e4m3⟩
  | .hbm, ⟨13, _⟩ => ⟨S14208x128, .f32⟩
  | .hbm, ⟨14, _⟩ => ⟨S14208x2048, .bf16⟩
  | .hbm, ⟨15, _⟩ => ⟨S14208x1024, .fp8e4m3⟩
  | .hbm, ⟨16, _⟩ => ⟨S14208x1024, .fp8e4m3⟩
  | .local _ .vmem, ⟨0, _⟩ => ⟨S14208x4608, .bf16⟩
  | .local _ .vmem, ⟨1, _⟩ => ⟨S1x4608, .f32⟩
  | .local _ .vmem, ⟨2, _⟩ => ⟨S4608x4096, .fp8e4m3⟩
  | .local _ .vmem, ⟨3, _⟩ => ⟨S1x4096, .f32⟩
  | .local _ .vmem, ⟨4, _⟩ => ⟨S14208x64, .f32⟩
  | .local _ .vmem, ⟨5, _⟩ => ⟨S14208x64, .f32⟩
  | .local _ .vmem, ⟨6, _⟩ => ⟨S1x8x1, .f32⟩
  | .local _ .vmem, ⟨7, _⟩ => ⟨S1x8x1, .f32⟩
  | .local _ .vmem, ⟨8, _⟩ => ⟨S14208x4608, .fp8e4m3⟩
  | .local _ .vmem, ⟨9, _⟩ => ⟨S14208x128, .f32⟩
  | .local _ .vmem, ⟨10, _⟩ => ⟨S14208x2048, .bf16⟩
  | .local _ .vmem, ⟨11, _⟩ => ⟨S14208x1024, .fp8e4m3⟩
  | .local _ .vmem, ⟨12, _⟩ => ⟨S14208x1024, .fp8e4m3⟩
  | _, _ => ⟨S14208x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev main_v4_4 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S14208x4608 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4608 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4608x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S14208x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S14208x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x8x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x8x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S14208x4608 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S14208x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S14208x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S14208x1024 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S14208x1024 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Down.lean ====
abbrev S14208x18432 : Shape := ⟨2, ![14208, 18432]⟩
abbrev S14208x128 : Shape := ⟨2, ![14208, 128]⟩
abbrev S18432x4608 : Shape := ⟨2, ![18432, 4608]⟩
abbrev S4608 : Shape := ⟨1, ![4608]⟩
abbrev S14208x4608 : Shape := ⟨2, ![14208, 4608]⟩
abbrev S1x4608 : Shape := ⟨2, ![1, 4608]⟩
abbrev S1184x1024 : Shape := ⟨2, ![1184, 1024]⟩
abbrev S1184x128 : Shape := ⟨2, ![1184, 128]⟩
abbrev S1024x4608 : Shape := ⟨2, ![1024, 4608]⟩
abbrev S1184x4608 : Shape := ⟨2, ![1184, 4608]⟩
abbrev S32x4608 : Shape := ⟨2, ![32, 4608]⟩
abbrev S_ : Shape := ⟨0, ![]⟩
abbrev S1184x1 : Shape := ⟨2, ![1184, 1]⟩
abbrev S1184x256 : Shape := ⟨2, ![1184, 256]⟩
abbrev S1024x256 : Shape := ⟨2, ![1024, 256]⟩
abbrev S32x1 : Shape := ⟨2, ![32, 1]⟩
abbrev S32 : Shape := ⟨1, ![32]⟩

abbrev nBuf : Space → Nat
  | .hbm => 10
  | .vmem => 13
  | .smem => 0
  | _ => 0

abbrev bufTy : (tb : Table) → Fin (tcTables nBuf tb) → BufTy
  | .hbm, ⟨0, _⟩ => ⟨S14208x18432, .f32⟩
  | .hbm, ⟨1, _⟩ => ⟨S14208x128, .f32⟩
  | .hbm, ⟨2, _⟩ => ⟨S18432x4608, .fp8e4m3⟩
  | .hbm, ⟨3, _⟩ => ⟨S4608, .f32⟩
  | .hbm, ⟨4, _⟩ => ⟨S4608, .f32⟩
  | .hbm, ⟨5, _⟩ => ⟨S14208x4608, .f32⟩
  | .hbm, ⟨6, _⟩ => ⟨S1x4608, .f32⟩
  | .hbm, ⟨7, _⟩ => ⟨S1x4608, .f32⟩
  | .hbm, ⟨8, _⟩ => ⟨S14208x18432, .fp8e4m3⟩
  | .hbm, ⟨9, _⟩ => ⟨S14208x4608, .bf16⟩
  | .local _ .vmem, ⟨0, _⟩ => ⟨S1184x1024, .f32⟩
  | .local _ .vmem, ⟨1, _⟩ => ⟨S1184x1024, .f32⟩
  | .local _ .vmem, ⟨2, _⟩ => ⟨S1184x128, .f32⟩
  | .local _ .vmem, ⟨3, _⟩ => ⟨S1184x128, .f32⟩
  | .local _ .vmem, ⟨4, _⟩ => ⟨S1024x4608, .fp8e4m3⟩
  | .local _ .vmem, ⟨5, _⟩ => ⟨S1024x4608, .fp8e4m3⟩
  | .local _ .vmem, ⟨6, _⟩ => ⟨S1x4608, .f32⟩
  | .local _ .vmem, ⟨7, _⟩ => ⟨S1x4608, .f32⟩
  | .local _ .vmem, ⟨8, _⟩ => ⟨S1184x1024, .fp8e4m3⟩
  | .local _ .vmem, ⟨9, _⟩ => ⟨S1184x1024, .fp8e4m3⟩
  | .local _ .vmem, ⟨10, _⟩ => ⟨S1184x4608, .f32⟩
  | .local _ .vmem, ⟨11, _⟩ => ⟨S32x4608, .f32⟩
  | .local _ .vmem, ⟨12, _⟩ => ⟨S32x4608, .bf16⟩
  | _, _ => ⟨S14208x18432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![12, 18], ![false, false]⟩

def k0_cond2 (i : grid0.Coords) : BitVec 1 :=
  let arg1 : BitVec 32 := BitVec.ofNat 32 (i 1).val
  let c17_i32 : BitVec 32 := 17#32
  let v175 : BitVec 1 := Scalar.cmpi .eq arg1 c17_i32
  let v176 : BitVec 32 := Scalar.extui v175
  let c0_i32_152 : BitVec 32 := 0#32
  let v177 : BitVec 1 := Scalar.cmpi .ne v176 c0_i32_152
  v177

@[reducible] def k0_t1_loop : Scf.Loop 32 :=
  let c0_i32_153 : BitVec 32 := 0#32
  let c37_i32 : BitVec 32 := 37#32
  let v178 : BitVec 32 := Scalar.addi c0_i32_153 c37_i32
  let c1_i32 : BitVec 32 := 1#32
  ⟨c0_i32_153, v178, c1_i32⟩
def k0_mult1 (k0_t1 : Fin k0_t1_loop.trips) : BitVec 32 :=
  let c0_i32_153 : BitVec 32 := 0#32
  let c1_i32 : BitVec 32 := 1#32
  let arg14 : BitVec 32 := Scf.iv c0_i32_153 c1_i32 k0_t1
  let c32_i32 : BitVec 32 := 32#32
  let v179 : BitVec 32 := Scalar.muli arg14 c32_i32
  v179
def k0_mult2 (i : grid0.Coords) (k0_t1 : Fin k0_t1_loop.trips) : BitVec 32 :=
  let arg0 : BitVec 32 := BitVec.ofNat 32 (i 0).val
  let c1184_i32 : BitVec 32 := 1184#32
  let v181 : BitVec 32 := Scalar.muli arg0 c1184_i32
  let c0_i32_153 : BitVec 32 := 0#32
  let c1_i32 : BitVec 32 := 1#32
  let arg14 : BitVec 32 := Scf.iv c0_i32_153 c1_i32 k0_t1
  let c32_i32_155 : BitVec 32 := 32#32
  let v182 : BitVec 32 := Scalar.muli arg14 c32_i32_155
  let v183 : BitVec 32 := Scalar.addi v181 v182
  v183
def k0_off1 (i : grid0.Coords) (k0_t1 : Fin k0_t1_loop.trips) : Fin 2 → Nat :=
  let arg0 : BitVec 32 := BitVec.ofNat 32 (i 0).val
  let c1184_i32 : BitVec 32 := 1184#32
  let v181 : BitVec 32 := Scalar.muli arg0 c1184_i32
  let c0_i32_153 : BitVec 32 := 0#32
  let c1_i32 : BitVec 32 := 1#32
  let arg14 : BitVec 32 := Scf.iv c0_i32_153 c1_i32 k0_t1
  let c32_i32_155 : BitVec 32 := 32#32
  let v182 : BitVec 32 := Scalar.muli arg14 c32_i32_155
  let v183 : BitVec 32 := Scalar.addi v181 v182
  let v184 : BitVec 32 := v183
  let c0_i32_170_r0 : BitVec 32 := 0#32
  ![v184.toNat, 0]
def k0_off2 (k0_t1 : Fin k0_t1_loop.trips) : Fin 2 → Nat :=
  let c0_i32_153 : BitVec 32 := 0#32
  let c1_i32 : BitVec 32 := 1#32
  let arg14 : BitVec 32 := Scf.iv c0_i32_153 c1_i32 k0_t1
  let c32_i32 : BitVec 32 := 32#32
  let v179 : BitVec 32 := Scalar.muli arg14 c32_i32
  let v180 : BitVec 32 := v179
  let v185 : Index := Scalar.indexCast v180
  let c0_156 : Index := 0#32
  ![v185.toNat, 0]
def k0_off3 (k0_t1 : Fin k0_t1_loop.trips) : Fin 2 → Nat :=
  let c0_i32_153 : BitVec 32 := 0#32
  let c1_i32 : BitVec 32 := 1#32
  let arg14 : BitVec 32 := Scf.iv c0_i32_153 c1_i32 k0_t1
  let c32_i32 : BitVec 32 := 32#32
  let v179 : BitVec 32 := Scalar.muli arg14 c32_i32
  let v180 : BitVec 32 := v179
  let v187 : Index := Scalar.indexCast v180
  let c0_157 : Index := 0#32
  ![v187.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1184x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1184x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x4608 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x4608 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x4608 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1184x1024 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DownRefIdeal.lean ====
abbrev S14208x18432 : Shape := ⟨2, ![14208, 18432]⟩
abbrev S14208x128 : Shape := ⟨2, ![14208, 128]⟩
abbrev S18432x4608 : Shape := ⟨2, ![18432, 4608]⟩
abbrev S4608 : Shape := ⟨1, ![4608]⟩
abbrev S14208x4608 : Shape := ⟨2, ![14208, 4608]⟩
abbrev S1x4608 : Shape := ⟨2, ![1, 4608]⟩
abbrev S14208x1 : Shape := ⟨2, ![14208, 1]⟩
abbrev S14208 : Shape := ⟨1, ![14208]⟩

abbrev nBuf : Space → Nat
  | .hbm => 10
  | .vmem => 8
  | .smem => 0
  | _ => 0

abbrev bufTy : (tb : Table) → Fin (tcTables nBuf tb) → BufTy
  | .hbm, ⟨0, _⟩ => ⟨S14208x18432, .f32⟩
  | .hbm, ⟨1, _⟩ => ⟨S14208x128, .f32⟩
  | .hbm, ⟨2, _⟩ => ⟨S18432x4608, .fp8e4m3⟩
  | .hbm, ⟨3, _⟩ => ⟨S4608, .f32⟩
  | .hbm, ⟨4, _⟩ => ⟨S4608, .f32⟩
  | .hbm, ⟨5, _⟩ => ⟨S14208x4608, .f32⟩
  | .hbm, ⟨6, _⟩ => ⟨S1x4608, .f32⟩
  | .hbm, ⟨7, _⟩ => ⟨S1x4608, .f32⟩
  | .hbm, ⟨8, _⟩ => ⟨S14208x18432, .fp8e4m3⟩
  | .hbm, ⟨9, _⟩ => ⟨S14208x4608, .bf16⟩
  | .local _ .vmem, ⟨0, _⟩ => ⟨S14208x18432, .f32⟩
  | .local _ .vmem, ⟨1, _⟩ => ⟨S14208x128, .f32⟩
  | .local _ .vmem, ⟨2, _⟩ => ⟨S18432x4608, .fp8e4m3⟩
  | .local _ .vmem, ⟨3, _⟩ => ⟨S1x4608, .f32⟩
  | .local _ .vmem, ⟨4, _⟩ => ⟨S1x4608, .f32⟩
  | .local _ .vmem, ⟨5, _⟩ => ⟨S14208x4608, .f32⟩
  | .local _ .vmem, ⟨6, _⟩ => ⟨S14208x18432, .fp8e4m3⟩
  | .local _ .vmem, ⟨7, _⟩ => ⟨S14208x4608, .bf16⟩
  | _, _ => ⟨S14208x18432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S14208x18432 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S14208x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S18432x4608 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x4608 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x4608 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S14208x4608 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S14208x18432 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S14208x4608 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Layer.lean ====
/- The layer's mathematics on one token, over the extended reals: what the calls of the kernel and their references
   compute from a row of each operand. No program is named here. -/
module

public import Idealize.ShloMosaic.Lib.Pointwise

@[expose] public section

noncomputable section

namespace Cert.Layer

open Idealize.ShloMosaic

/-- The mean of the squares of a row of 4608 numbers. -/
def meanSq (v : Fin 4608 → EReal) : EReal :=
  Ideal.div (∑ x, v x * v x) (Ideal.ofBits .f32 0x45900000#32)

/-- RMSNorm of a row, the gain stored as an offset from one: `v j / sqrt (mean square + 1e-6) * (1 + g j)`. -/
def normed (v g : Fin 4608 → EReal) (j : Fin 4608) : EReal :=
  Ideal.div (v j) (Ideal.sqrt (meanSq v + Ideal.ofBits .f32 0x358637BD#32)) * (1 + g j)

/-- A quantiser's scale from a greatest magnitude: the magnitude over 448, and one for a row of zeros. -/
def quantScale (a : EReal) : EReal :=
  if a = 0 then 1 else Ideal.div a (Ideal.ofBits .f32 0x43E00000#32)

/-- A quantiser's code of a value under a scale: the quotient, clipped to ±448. -/
def quantCode (v s : EReal) : EReal :=
  min (Ideal.ofBits .f32 0x43E00000#32) (max (Ideal.ofBits .f32 0xC3E00000#32) (Ideal.div v s))

/-- The greatest magnitude in a row. -/
def maxAbs {n : Nat} (v : Fin n → EReal) : EReal :=
  Finset.univ.fold max (Ideal.ofBits .f32 0xFF800000#32) fun x => max (v x) (-v x)

/-- A row's quantiser scale. -/
def rowScale {n : Nat} (v : Fin n → EReal) : EReal := quantScale (maxAbs v)

/-- One output column of a linear layer on codes: the row of codes against a column of codes, times the two scales. -/
def linear {k : Nat} (c w : Fin k → EReal) (s ws : EReal) : EReal :=
  (∑ x, c x * w x) * s * ws

/-! ## The output projection -/

section Proj

variable (codes : FVec Ideal ⟨2, ![14208, 2048]⟩ .fp8e4m3) (scale : FVec Ideal ⟨1, ![14208]⟩ .f32)
  (w : FVec Ideal ⟨2, ![2048, 4608]⟩ .fp8e4m3) (ws : FVec Ideal ⟨1, ![4608]⟩ .f32) (x : FVec Ideal ⟨2, ![14208, 4608]⟩ .bf16)
  (gPost gFfn : FVec Ideal ⟨1, ![4608]⟩ .f32)

/-- The residual of token `i` after attention: the input plus the normed output projection. -/
def projH1 (i : Fin 14208) (j : Fin 4608) : EReal :=
  x (ix2 i j) + normed (fun j => linear (fun k => codes (ix2 i k)) (fun k => w (ix2 k j)) (scale (ix1 i)) (ws (ix1 j)))
    (fun j => gPost (ix1 j)) j

/-- The FFN's input at token `i`: the residual, normed. -/
def projY (i : Fin 14208) (j : Fin 4608) : EReal :=
  normed (projH1 codes scale w ws x gPost i) (fun j => gFfn (ix1 j)) j

/-- The FFN input's scale at token `i`. -/
def projScale (i : Fin 14208) : EReal := rowScale (projY codes scale w ws x gPost gFfn i)

/-- The FFN input's code at token `i`, column `j`. -/
def projCode (i : Fin 14208) (j : Fin 4608) : EReal :=
  quantCode (projY codes scale w ws x gPost gFfn i j) (projScale codes scale w ws x gPost gFfn i)

end Proj

/-! ## The down projection -/

section Down

variable (act : FVec Ideal ⟨2, ![14208, 18432]⟩ .f32) (scale : FVec Ideal ⟨2, ![14208, 128]⟩ .f32)
  (w : FVec Ideal ⟨2, ![18432, 4608]⟩ .fp8e4m3) (ws g : FVec Ideal ⟨1, ![4608]⟩ .f32) (h1 : FVec Ideal ⟨2, ![14208, 4608]⟩ .f32)

/-- The down projection of token `i` at column `j`: its hidden codes against the weight's codes, times the two scales. -/
def downLinear (i : Fin 14208) (j : Fin 4608) : EReal :=
  linear (fun k => quantCode (act (ix2 i k)) (scale (ix2 i 0))) (fun k => w (ix2 k j)) (scale (ix2 i 0)) (ws (ix1 j))

/-- The layer's output at token `i`: the residual after attention plus the normed down projection. -/
def downOut (i : Fin 14208) (j : Fin 4608) : EReal :=
  h1 (ix2 i j) + normed (downLinear act scale w ws i) (fun j => g (ix1 j)) j

end Down

end Cert.Layer

end
-- ==== Proof.ProjRows.lean ====
/- The projection kernel's block computation, row by row: what its vector operations on a block of 384 tokens give at one
   token, in the layer's terms. -/
module

public import proofs.«01_k».proof.Proof.Gen.ProjIdeal.Skeleton
public import proofs.«01_k».proof.Proof.Layer

@[expose] public section

set_option maxRecDepth 16384

noncomputable section

namespace Cert.ProjIdeal.Rows

open Idealize.ShloMosaic Idealize.ShloMosaic.TcCoe Idealize.SL.Sem
open Cert.ProjIdeal Cert.ProjIdeal.Gen Cert.Layer

/-- The residual after attention: the input plus the normed output projection. -/
theorem h1_at (v0 : FVec Ideal S384x2048 .fp8e4m3) (v1 : FVec Ideal S2048x4608 .fp8e4m3) (v3 : FVec Ideal S384x1 .f32)
    (v7 : FVec Ideal S1x4608 .f32) (v11 : FVec Ideal S384x4608 .bf16) (v23 : FVec Ideal S1x4608 .f32)
    (r : Fin 384) (j : Fin 4608) :
    k0_pay5 (F := Ideal) v0 v1 v3 v7 v11 v23 (ix2 r j)
      = v11 (ix2 r j) + normed (fun j => linear (fun x => v0 (ix2 r x)) (fun x => v1 (ix2 x j)) (v3 (ix2 r 0)) (v7 (ix2 0 j)))
          (fun j => v23 (ix2 0 j)) j := by
  pointwise [k0_pay5]
  rfl

/-- The mean of a row's squares, over any block. -/
theorem meanSq_ops (z : FVec Ideal S384x4608 .f32) (r : Fin 384) :
    divf (shapeCast S384x1 (multiReduction .add [1] S384 (mulf z z) 0x00000000#32 reduces_S384x4608_S384 (.inl rfl) rfl) shapeCasts_S384_S384x1)
        (broadcast S384x1 (Scalar.ofBits .f32 0x45900000#32)) (ix2 r 0) = meanSq fun x => z (ix2 r x) := by
  pointwise
  rfl

/-- The mean square the kernel norms the residual by. -/
theorem meanSq_at (v0 : FVec Ideal S384x2048 .fp8e4m3) (v1 : FVec Ideal S2048x4608 .fp8e4m3) (v3 : FVec Ideal S384x1 .f32)
    (v7 : FVec Ideal S1x4608 .f32) (v11 : FVec Ideal S384x4608 .bf16) (v23 : FVec Ideal S1x4608 .f32) (r : Fin 384) :
    k0_pay6 (F := Ideal) v0 v1 v3 v7 v11 v23 (ix2 r 0) = meanSq fun x => k0_pay5 (F := Ideal) v0 v1 v3 v7 v11 v23 (ix2 r x) :=
  meanSq_ops _ r

/-- The FFN's input: the residual over its root mean square, times one plus the gain. -/
theorem normed_at (h : FVec Ideal S384x4608 .f32) (ms : FVec Ideal S384x1 .f32) (g : FVec Ideal S1x4608 .f32) (r : Fin 384) (j : Fin 4608) :
    k0_pay1 (F := Ideal) h ms (Scalar.ofBits .f32 0x358637BD#32) g (ix2 r j)
      = Ideal.div (h (ix2 r j)) (Ideal.sqrt (ms (ix2 r 0) + Ideal.ofBits .f32 0x358637BD#32)) * (1 + g (ix2 0 j)) := by
  pointwise [k0_pay1]

/-- A row's greatest magnitude, over any block. -/
theorem maxAbs_ops (z : FVec Ideal S384x4608 .f32) (r : Fin 384) :
    shapeCast S384x1 (multiReduction .maximumf [1] S384 (absf z) 0xFF800000#32 reduces_S384x4608_S384 (.inl rfl) rfl) shapeCasts_S384_S384x1 (ix2 r 0)
      = maxAbs fun x => z (ix2 r x) := by
  pointwise
  rfl

/-- A scale from a greatest magnitude, over any column. -/
theorem quantScale_ops (a : FVec Ideal S384x1 .f32) (r : Fin 384) :
    select (cmpf .oeq a (broadcast S384x1 (Scalar.ofBits .f32 0x00000000#32))) (broadcast S384x1 (Scalar.ofBits .f32 0x3F800000#32))
        (divf a (broadcast S384x1 (Scalar.ofBits .f32 0x43E00000#32))) (ix2 r 0) = quantScale (a (ix2 r 0)) := by
  pointwise
  rfl

/-- The codes of a block under a column of scales. -/
theorem quantCode_ops (z : FVec Ideal S384x4608 .f32) (s : FVec Ideal S384x1 .f32) (r : Fin 384) (j : Fin 4608) :
    truncf .fp8e4m3 (minimumf (broadcast S384x4608 (Scalar.ofBits .f32 0x43E00000#32))
      (maximumf (broadcast S384x4608 (Scalar.ofBits .f32 0xC3E00000#32))
        (divf z (broadcastTo S384x4608 s broadcasts_S384x1_S384x4608)))) bitsLt_fp8e4m3_f32 (ix2 r j)
      = quantCode (z (ix2 r j)) (s (ix2 r 0)) := by
  pointwise
  rfl

/-- The scale column spread over 128 lanes. -/
theorem spread_ops (s : FVec Ideal S384x1 .f32) (r : Fin 384) (l : Fin 128) :
    broadcastTo S384x128 (shapeCast S384x1 s shapeCasts_S384x1_S384x1) broadcasts_S384x1_S384x128 (ix2 r l) = s (ix2 r 0) := by
  pointwise

section
variable (h : FVec Ideal S384x4608 .f32) (ms : FVec Ideal S384x1 .f32) (c : Ideal .f32) (g : FVec Ideal S1x4608 .f32)

/-- The FFN input's scale: that of the row's greatest magnitude. -/
theorem scale_at (r : Fin 384) : k0_pay2 (F := Ideal) h ms c g (ix2 r 0) = rowScale fun x => k0_pay1 (F := Ideal) h ms c g (ix2 r x) :=
  (quantScale_ops _ r).trans (congrArg quantScale (maxAbs_ops _ r))

/-- The FFN input's codes. -/
theorem code_at (r : Fin 384) (j : Fin 4608) :
    k0_pay3 (F := Ideal) h ms c g (ix2 r j) = quantCode (k0_pay1 (F := Ideal) h ms c g (ix2 r j)) (k0_pay2 (F := Ideal) h ms c g (ix2 r 0)) :=
  quantCode_ops _ _ r j

/-- The scale output: every lane holds the row's scale. -/
theorem spread_at (r : Fin 384) (l : Fin 128) :
    k0_pay4 (F := Ideal) h ms c g (ix2 r l) = k0_pay2 (F := Ideal) h ms c g (ix2 r 0) :=
  spread_ops _ r l
end

end Cert.ProjIdeal.Rows

end
-- ==== Proof.ProjValue.lean ====
/- The projection kernel's three result arrays after the run, as functions of the argument arrays: grid point `t` computes
   tokens `384 t … 384 t + 383`, and the 37 points' blocks cover every token. -/
module

public import proofs.«01_k».proof.Proof.Gen.ProjIdeal.Value
public import proofs.«01_k».proof.Proof.ProjRows
public import Idealize.ShloMosaic.Lib.Pipeline.ValueKit
public import Idealize.ShloMosaic.Lib.Claim

@[expose] public section

set_option maxRecDepth 16384

noncomputable section

namespace Cert.ProjIdeal.Blocks

open Idealize.ShloMosaic Idealize.ShloMosaic.TcCoe Idealize.SL.Sem
open Idealize.ShloMosaic.Pipeline (Dat)
open Cert.ProjIdeal Cert.ProjIdeal.Gen Cert.Layer

variable (m : (ℓ : Loc nD τ sig) → Buf (Elt Ideal) ℓ)

/-- Every window's block index at every grid point: the row blocks move with the point, the others stay. -/
theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![0, 0] ∧ win0_6.index t = ![0, 0]
    ∧ win0_7.index t = ![t.val, 0] ∧ win0_8.index t = ![t.val, 0] ∧ win0_9.index t = ![t.val, 0] :=
  (by decide +kernel : ∀ t : Fin grid0.N, _)

/-- The token that row `r` of point `t`'s block is. -/
def tok (t : Fin cfg0.N) (r : Fin 384) : Fin 14208 :=
  ⟨t.val * 384 + r, by have := lt_of_lt_of_eq t.isLt N_0; omega⟩

theorem codes_blk (c : Dev nD) (t : Fin cfg0.N) (r : Fin 384) (k : Fin 2048) :
    iblk m c 0 t (ix2 r k) = m ((c : Thread nD τ).loc main_arg0) (ix2 (tok t r) k) := by
  blk_ext [iblk, V, idx t, tok]
theorem scale_col (c : Dev nD) (i : Fin 14208) : V m c main_v0 (ix2 i 0) = m ((c : Thread nD τ).loc main_arg1) (ix1 i) := by
  entry_read
  pointwise
theorem ws_row (c : Dev nD) (j : Fin 4608) : V m c main_v1 (ix2 0 j) = m ((c : Thread nD τ).loc main_arg3) (ix1 j) := by
  entry_read
  pointwise
theorem gPost_row (c : Dev nD) (j : Fin 4608) : V m c main_v2 (ix2 0 j) = m ((c : Thread nD τ).loc main_arg5) (ix1 j) := by
  entry_read
  pointwise
theorem gFfn_row (c : Dev nD) (j : Fin 4608) : V m c main_v3 (ix2 0 j) = m ((c : Thread nD τ).loc main_arg6) (ix1 j) := by
  entry_read
  pointwise
theorem scale_blk (c : Dev nD) (t : Fin cfg0.N) (r : Fin 384) :
    iblk m c 1 t (ix2 r 0) = m ((c : Thread nD τ).loc main_arg1) (ix1 (tok t r)) :=
  Eq.trans (b := V m c main_v0 (ix2 (tok t r) 0)) (by blk_ext [iblk, idx t, tok]) (scale_col m c _)
theorem w_blk (c : Dev nD) (t : Fin cfg0.N) (k : Fin 2048) (j : Fin 4608) :
    iblk m c 2 t (ix2 k j) = m ((c : Thread nD τ).loc main_arg2) (ix2 k j) := by
  blk_ext [iblk, V, idx t]
theorem ws_blk (c : Dev nD) (t : Fin cfg0.N) (j : Fin 4608) :
    iblk m c 3 t (ix2 0 j) = m ((c : Thread nD τ).loc main_arg3) (ix1 j) :=
  Eq.trans (b := V m c main_v1 (ix2 0 j)) (by blk_ext [iblk, idx t]) (ws_row m c _)
theorem x_blk (c : Dev nD) (t : Fin cfg0.N) (r : Fin 384) (j : Fin 4608) :
    iblk m c 4 t (ix2 r j) = m ((c : Thread nD τ).loc main_arg4) (ix2 (tok t r) j) := by
  blk_ext [iblk, V, idx t, tok]
theorem gPost_blk (c : Dev nD) (t : Fin cfg0.N) (j : Fin 4608) :
    iblk m c 5 t (ix2 0 j) = m ((c : Thread nD τ).loc main_arg5) (ix1 j) :=
  Eq.trans (b := V m c main_v2 (ix2 0 j)) (by blk_ext [iblk, idx t]) (gPost_row m c _)
theorem gFfn_blk (c : Dev nD) (t : Fin cfg0.N) (j : Fin 4608) :
    iblk m c 6 t (ix2 0 j) = m ((c : Thread nD τ).loc main_arg6) (ix1 j) :=
  Eq.trans (b := V m c main_v3 (ix2 0 j)) (by blk_ext [iblk, idx t]) (gFfn_row m c _)

/-- Point `t`'s residual at row `r` is token `tok t r`'s. -/
theorem h1_blk (c : Dev nD) (t : Fin cfg0.N) (r : Fin 384) (j : Fin 4608) :
    k0_pay5 (F := Ideal) (iblk m c 0 t) (iblk m c 2 t) (iblk m c 1 t) (iblk m c 3 t) (iblk m c 4 t) (iblk m c 5 t) (ix2 r j)
      = projH1 (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (tok t r) j := by
  refine (Rows.h1_at _ _ _ _ _ _ r j).trans ?_
  unfold projH1
  simp only [codes_blk, scale_blk, w_blk, ws_blk, x_blk, gPost_blk]

/-- Row `y 0` of point `t`'s block sits at token `tok t (y 0)` of the result arrays. -/
theorem row7 (t : Fin cfg0.N) (y : S384x4608.Idx) : tok t (y 0) = (((cfg0.win 7).blk t).view.emb y 0 : Fin 14208) :=
  Fin.ext (by blk_simp [idx t]; rfl)
theorem col7 (t : Fin cfg0.N) (y : S384x4608.Idx) : y 1 = (((cfg0.win 7).blk t).view.emb y 1 : Fin 4608) :=
  Fin.ext (by blk_simp [idx t])
theorem row8 (t : Fin cfg0.N) (y : S384x4608.Idx) : tok t (y 0) = (((cfg0.win 8).blk t).view.emb y 0 : Fin 14208) :=
  Fin.ext (by blk_simp [idx t]; rfl)
theorem col8 (t : Fin cfg0.N) (y : S384x4608.Idx) : y 1 = (((cfg0.win 8).blk t).view.emb y 1 : Fin 4608) :=
  Fin.ext (by blk_simp [idx t])
theorem row9 (t : Fin cfg0.N) (y : S384x128.Idx) : tok t (y 0) = (((cfg0.win 9).blk t).view.emb y 0 : Fin 14208) :=
  Fin.ext (by blk_simp [idx t]; rfl)

/-- Window 7 after the run: the residual of every token. -/
theorem final7 (c : Dev nD) : (dats m 0 c).arrAt 7 cfg0.N
    = fun i => projH1 (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (i 0) (i 1) := by
  refine (dats m 0 c).arrAt_eq_of_covers 7 _ (by decide +kernel) fun t _ y => ?_
  blk_simp
  rw [after0_7]
  frame_out
  exact (congrArg _ (eq_ix2 y)).trans ((h1_blk m c t _ _).trans (congrArg₂ (projH1 _ _ _ _ _ _) (row7 t y) (col7 t y)))

/-- Point `t`'s FFN input at row `r` is token `tok t r`'s. -/
theorem y_blk (c : Dev nD) (t : Fin cfg0.N) (r : Fin 384) (j : Fin 4608) :
    k0_pay1 (F := Ideal) (k0_pay5 (F := Ideal) (iblk m c 0 t) (iblk m c 2 t) (iblk m c 1 t) (iblk m c 3 t) (iblk m c 4 t) (iblk m c 5 t))
        (k0_pay6 (F := Ideal) (iblk m c 0 t) (iblk m c 2 t) (iblk m c 1 t) (iblk m c 3 t) (iblk m c 4 t) (iblk m c 5 t))
        (Scalar.ofBits .f32 0x358637BD#32) (iblk m c 6 t) (ix2 r j)
      = projY (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6)) (tok t r) j := by
  refine (Rows.normed_at _ _ _ r j).trans ?_
  rw [Rows.meanSq_at]
  unfold projY normed
  simp only [h1_blk, gFfn_blk]

/-- Point `t`'s scale at row `r` is token `tok t r`'s. -/
theorem scale_out_blk (c : Dev nD) (t : Fin cfg0.N) (r : Fin 384) :
    k0_pay2 (F := Ideal) (k0_pay5 (F := Ideal) (iblk m c 0 t) (iblk m c 2 t) (iblk m c 1 t) (iblk m c 3 t) (iblk m c 4 t) (iblk m c 5 t))
        (k0_pay6 (F := Ideal) (iblk m c 0 t) (iblk m c 2 t) (iblk m c 1 t) (iblk m c 3 t) (iblk m c 4 t) (iblk m c 5 t))
        (Scalar.ofBits .f32 0x358637BD#32) (iblk m c 6 t) (ix2 r 0)
      = projScale (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6)) (tok t r) :=
  (Rows.scale_at _ _ _ _ r).trans (congrArg rowScale (funext fun j => y_blk m c t r j))

/-- Point `t`'s code at row `r`, column `j` is token `tok t r`'s. -/
theorem code_out_blk (c : Dev nD) (t : Fin cfg0.N) (r : Fin 384) (j : Fin 4608) :
    k0_pay3 (F := Ideal) (k0_pay5 (F := Ideal) (iblk m c 0 t) (iblk m c 2 t) (iblk m c 1 t) (iblk m c 3 t) (iblk m c 4 t) (iblk m c 5 t))
        (k0_pay6 (F := Ideal) (iblk m c 0 t) (iblk m c 2 t) (iblk m c 1 t) (iblk m c 3 t) (iblk m c 4 t) (iblk m c 5 t))
        (Scalar.ofBits .f32 0x358637BD#32) (iblk m c 6 t) (ix2 r j)
      = projCode (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6)) (tok t r) j := by
  refine (Rows.code_at _ _ _ _ r j).trans ?_
  rw [y_blk, scale_out_blk, projCode]

/-- Point `t`'s scale output at row `r`, any lane, is token `tok t r`'s. -/
theorem spread_out_blk (c : Dev nD) (t : Fin cfg0.N) (r : Fin 384) (l : Fin 128) :
    k0_pay4 (F := Ideal) (k0_pay5 (F := Ideal) (iblk m c 0 t) (iblk m c 2 t) (iblk m c 1 t) (iblk m c 3 t) (iblk m c 4 t) (iblk m c 5 t))
        (k0_pay6 (F := Ideal) (iblk m c 0 t) (iblk m c 2 t) (iblk m c 1 t) (iblk m c 3 t) (iblk m c 4 t) (iblk m c 5 t))
        (Scalar.ofBits .f32 0x358637BD#32) (iblk m c 6 t) (ix2 r l)
      = projScale (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6)) (tok t r) := by
  refine (Rows.spread_at _ _ _ _ r l).trans ?_
  rw [scale_out_blk]

/-- Window 8 after the run: the codes of every token's FFN input. -/
theorem final8 (c : Dev nD) : (dats m 0 c).arrAt 8 cfg0.N
    = fun i => projCode (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6)) (i 0) (i 1) := by
  refine (dats m 0 c).arrAt_eq_of_covers 8 _ (by decide +kernel) fun t _ y => ?_
  blk_simp
  rw [after0_8]
  unfold_out out0_8
  frame_out
  exact (congrArg _ (eq_ix2 y)).trans ((code_out_blk m c t _ _).trans (congrArg₂ (projCode _ _ _ _ _ _ _) (row8 t y) (col8 t y)))

/-- Window 9 after the run: every token's scale, in every lane. -/
theorem final9 (c : Dev nD) : (dats m 0 c).arrAt 9 cfg0.N
    = fun i => projScale (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6)) (i 0) := by
  refine (dats m 0 c).arrAt_eq_of_covers 9 _ (by decide +kernel) fun t _ y => ?_
  blk_simp
  rw [after0_9]
  unfold_out out0_9
  frame_out
  exact (congrArg _ (eq_ix2 y)).trans ((spread_out_blk m c t _ _).trans (congrArg (projScale _ _ _ _ _ _ _) (row9 t y)))

end Cert.ProjIdeal.Blocks

end
-- ==== Proof.ProjRefRows.lean ====
/- The projection's reference, row by row: what its vector operations on the 14208 tokens give at one token, in the layer's
   terms. -/
module

public import proofs.«01_k».proof.Proof.Gen.ProjRefIdeal.Skeleton
public import proofs.«01_k».proof.Proof.Layer

@[expose] public section

set_option maxRecDepth 1614208

noncomputable section

namespace Cert.ProjRefIdeal.Rows

open Idealize.ShloMosaic Idealize.ShloMosaic.TcCoe Idealize.SL.Sem
open Cert.ProjRefIdeal Cert.ProjRefIdeal.Gen Cert.Layer

/-- The residual after attention: the input plus the normed output projection. -/
theorem h1_at (v0 : FVec Ideal S14208x2048 .fp8e4m3) (v1 : FVec Ideal S14208x1 .f32) (v3 : FVec Ideal S2048x4608 .fp8e4m3)
    (v4 : FVec Ideal S1x4608 .f32) (v11 : FVec Ideal S14208x4608 .bf16) (v13 : FVec Ideal S1x4608 .f32)
    (r : Fin 14208) (j : Fin 4608) :
    k0_pay5 (F := Ideal) v0 v1 v3 v4 v11 v13 (ix2 r j)
      = v11 (ix2 r j) + normed (fun j => linear (fun x => v0 (ix2 r x)) (fun x => v3 (ix2 x j)) (v1 (ix2 r 0)) (v4 (ix2 0 j)))
          (fun j => v13 (ix2 0 j)) j := by
  pointwise [k0_pay5]
  rfl

/-- The mean of a row's squares, over any block. -/
theorem meanSq_ops (z : FVec Ideal S14208x4608 .f32) (r : Fin 14208) :
    divf (shapeCast S14208x1 (multiReduction .add [1] S14208 (mulf z z) 0x00000000#32 reduces_S14208x4608_S14208 (.inl rfl) rfl) shapeCasts_S14208_S14208x1)
        (broadcast S14208x1 (Scalar.ofBits .f32 0x45900000#32)) (ix2 r 0) = meanSq fun x => z (ix2 r x) := by
  pointwise
  rfl

/-- The mean square the reference norms the residual by. -/
theorem meanSq_at (v0 : FVec Ideal S14208x2048 .fp8e4m3) (v1 : FVec Ideal S14208x1 .f32) (v3 : FVec Ideal S2048x4608 .fp8e4m3)
    (v4 : FVec Ideal S1x4608 .f32) (v11 : FVec Ideal S14208x4608 .bf16) (v13 : FVec Ideal S1x4608 .f32) (r : Fin 14208) :
    k0_pay7 (F := Ideal) v0 v1 v3 v4 v11 v13 (ix2 r 0) = meanSq fun x => k0_pay5 (F := Ideal) v0 v1 v3 v4 v11 v13 (ix2 r x) :=
  meanSq_ops _ r

/-- The FFN's input: the residual over its root mean square, times one plus the gain. -/
theorem normed_at (h : FVec Ideal S14208x4608 .f32) (ms : FVec Ideal S14208x1 .f32) (g : FVec Ideal S1x4608 .f32) (r : Fin 14208) (j : Fin 4608) :
    k0_pay1 (F := Ideal) h (k0_pay6 (F := Ideal) g) ms (k0_pay8 (F := Ideal)) (ix2 r j)
      = Ideal.div (h (ix2 r j)) (Ideal.sqrt (ms (ix2 r 0) + Ideal.ofBits .f32 0x358637BD#32)) * (1 + g (ix2 0 j)) := by
  pointwise [k0_pay1, k0_pay6, k0_pay8]

/-- A row's greatest magnitude, over any block. -/
theorem maxAbs_ops (z : FVec Ideal S14208x4608 .f32) (r : Fin 14208) :
    shapeCast S14208x1 (multiReduction .maximumf [1] S14208 (absf z) 0xFF800000#32 reduces_S14208x4608_S14208 (.inl rfl) rfl) shapeCasts_S14208_S14208x1 (ix2 r 0)
      = maxAbs fun x => z (ix2 r x) := by
  pointwise
  rfl

/-- A scale from a greatest magnitude, over any column. -/
theorem quantScale_ops (a : FVec Ideal S14208x1 .f32) (r : Fin 14208) :
    select (cmpf .oeq a (broadcast S14208x1 (Scalar.ofBits .f32 0x00000000#32))) (broadcast S14208x1 (Scalar.ofBits .f32 0x3F800000#32))
        (divf a (broadcast S14208x1 (Scalar.ofBits .f32 0x43E00000#32))) (ix2 r 0) = quantScale (a (ix2 r 0)) := by
  pointwise
  rfl

/-- The codes of a block under a column of scales. -/
theorem quantCode_ops (z : FVec Ideal S14208x4608 .f32) (s : FVec Ideal S14208x1 .f32) (r : Fin 14208) (j : Fin 4608) :
    truncf .fp8e4m3 (minimumf (broadcast S14208x4608 (Scalar.ofBits .f32 0x43E00000#32))
      (maximumf (broadcast S14208x4608 (Scalar.ofBits .f32 0xC3E00000#32))
        (divf z (broadcastTo S14208x4608 s broadcasts_S14208x1_S14208x4608)))) bitsLt_fp8e4m3_f32 (ix2 r j)
      = quantCode (z (ix2 r j)) (s (ix2 r 0)) := by
  pointwise
  rfl

/-- The scale column spread over 128 lanes. -/
theorem spread_ops (s : FVec Ideal S14208x1 .f32) (r : Fin 14208) (l : Fin 128) :
    broadcastTo S14208x128 (shapeCast S14208x1 s shapeCasts_S14208x1_S14208x1) broadcasts_S14208x1_S14208x128 (ix2 r l) = s (ix2 r 0) := by
  pointwise

section
variable (h : FVec Ideal S14208x4608 .f32) (g : FVec Ideal S1x4608 .f32) (ms e : FVec Ideal S14208x1 .f32)

/-- The FFN input's scale: that of the row's greatest magnitude. -/
theorem scale_at (r : Fin 14208) : k0_pay2 (F := Ideal) h g ms e (ix2 r 0) = rowScale fun x => k0_pay1 (F := Ideal) h g ms e (ix2 r x) :=
  (quantScale_ops _ r).trans (congrArg quantScale (maxAbs_ops _ r))

/-- The FFN input's codes. -/
theorem code_at (r : Fin 14208) (j : Fin 4608) :
    k0_pay3 (F := Ideal) h g ms e (ix2 r j) = quantCode (k0_pay1 (F := Ideal) h g ms e (ix2 r j)) (k0_pay2 (F := Ideal) h g ms e (ix2 r 0)) :=
  quantCode_ops _ _ r j

/-- The scale output: every lane holds the row's scale. -/
theorem spread_at (r : Fin 14208) (l : Fin 128) :
    k0_pay4 (F := Ideal) h g ms e (ix2 r l) = k0_pay2 (F := Ideal) h g ms e (ix2 r 0) :=
  spread_ops _ r l
end

end Cert.ProjRefIdeal.Rows

end
-- ==== Proof.ProjRefValue.lean ====
/- The projection reference's three result arrays after the run, as functions of the argument arrays: one point over whole
   arrays. -/
module

public import proofs.«01_k».proof.Proof.Gen.ProjRefIdeal.Value
public import proofs.«01_k».proof.Proof.ProjRefRows
public import Idealize.ShloMosaic.Lib.Pipeline.ValueKit
public import Idealize.ShloMosaic.Lib.Claim

@[expose] public section

set_option maxRecDepth 1614208

noncomputable section

namespace Cert.ProjRefIdeal.Blocks

open Idealize.ShloMosaic Idealize.ShloMosaic.TcCoe Idealize.SL.Sem
open Idealize.ShloMosaic.Pipeline (Dat)
open Cert.ProjRefIdeal Cert.ProjRefIdeal.Gen Cert.Layer

variable (m : (ℓ : Loc nD τ sig) → Buf (Elt Ideal) ℓ)

/-- Every window's block is its whole array. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] :=
  (by decide +kernel : ∀ t : Fin grid0.N, _)

theorem codes_blk (c : Dev nD) (t : Fin cfg0.N) (r : Fin 14208) (k : Fin 2048) :
    iblk m c 0 t (ix2 r k) = m ((c : Thread nD τ).loc main_arg0) (ix2 (r) k) := by
  blk_ext [iblk, V, idx t]
theorem scale_col (c : Dev nD) (i : Fin 14208) : V m c main_v0 (ix2 i 0) = m ((c : Thread nD τ).loc main_arg1) (ix1 i) := by
  entry_read
  pointwise
theorem ws_row (c : Dev nD) (j : Fin 4608) : V m c main_v1 (ix2 0 j) = m ((c : Thread nD τ).loc main_arg3) (ix1 j) := by
  entry_read
  pointwise
theorem gPost_row (c : Dev nD) (j : Fin 4608) : V m c main_v2 (ix2 0 j) = m ((c : Thread nD τ).loc main_arg5) (ix1 j) := by
  entry_read
  pointwise
theorem gFfn_row (c : Dev nD) (j : Fin 4608) : V m c main_v3 (ix2 0 j) = m ((c : Thread nD τ).loc main_arg6) (ix1 j) := by
  entry_read
  pointwise
theorem scale_blk (c : Dev nD) (t : Fin cfg0.N) (r : Fin 14208) :
    iblk m c 1 t (ix2 r 0) = m ((c : Thread nD τ).loc main_arg1) (ix1 r) :=
  Eq.trans (b := V m c main_v0 (ix2 (r) 0)) (by blk_ext [iblk, idx t]) (scale_col m c _)
theorem w_blk (c : Dev nD) (t : Fin cfg0.N) (k : Fin 2048) (j : Fin 4608) :
    iblk m c 2 t (ix2 k j) = m ((c : Thread nD τ).loc main_arg2) (ix2 k j) := by
  blk_ext [iblk, V, idx t]
theorem ws_blk (c : Dev nD) (t : Fin cfg0.N) (j : Fin 4608) :
    iblk m c 3 t (ix2 0 j) = m ((c : Thread nD τ).loc main_arg3) (ix1 j) :=
  Eq.trans (b := V m c main_v1 (ix2 0 j)) (by blk_ext [iblk, idx t]) (ws_row m c _)
theorem x_blk (c : Dev nD) (t : Fin cfg0.N) (r : Fin 14208) (j : Fin 4608) :
    iblk m c 4 t (ix2 r j) = m ((c : Thread nD τ).loc main_arg4) (ix2 (r) j) := by
  blk_ext [iblk, V, idx t]
theorem gPost_blk (c : Dev nD) (t : Fin cfg0.N) (j : Fin 4608) :
    iblk m c 5 t (ix2 0 j) = m ((c : Thread nD τ).loc main_arg5) (ix1 j) :=
  Eq.trans (b := V m c main_v2 (ix2 0 j)) (by blk_ext [iblk, idx t]) (gPost_row m c _)
theorem gFfn_blk (c : Dev nD) (t : Fin cfg0.N) (j : Fin 4608) :
    iblk m c 6 t (ix2 0 j) = m ((c : Thread nD τ).loc main_arg6) (ix1 j) :=
  Eq.trans (b := V m c main_v3 (ix2 0 j)) (by blk_ext [iblk, idx t]) (gFfn_row m c _)

/-- Point `t`'s residual at row `r` is token `r`'s. -/
theorem h1_blk (c : Dev nD) (t : Fin cfg0.N) (r : Fin 14208) (j : Fin 4608) :
    k0_pay5 (F := Ideal) (iblk m c 0 t) (iblk m c 1 t) (iblk m c 2 t) (iblk m c 3 t) (iblk m c 4 t) (iblk m c 5 t) (ix2 r j)
      = projH1 (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (r) j := by
  refine (Rows.h1_at _ _ _ _ _ _ r j).trans ?_
  unfold projH1
  simp only [codes_blk, scale_blk, w_blk, ws_blk, x_blk, gPost_blk]

/-- The one block of a result array is the array. -/
theorem row7 (t : Fin cfg0.N) (y : S14208x4608.Idx) : y 0 = (((cfg0.win 7).blk t).view.emb y 0 : Fin 14208) :=
  Fin.ext (by blk_simp [idx t])
theorem col7 (t : Fin cfg0.N) (y : S14208x4608.Idx) : y 1 = (((cfg0.win 7).blk t).view.emb y 1 : Fin 4608) :=
  Fin.ext (by blk_simp [idx t])
theorem row8 (t : Fin cfg0.N) (y : S14208x4608.Idx) : y 0 = (((cfg0.win 8).blk t).view.emb y 0 : Fin 14208) :=
  Fin.ext (by blk_simp [idx t])
theorem col8 (t : Fin cfg0.N) (y : S14208x4608.Idx) : y 1 = (((cfg0.win 8).blk t).view.emb y 1 : Fin 4608) :=
  Fin.ext (by blk_simp [idx t])
theorem row9 (t : Fin cfg0.N) (y : S14208x128.Idx) : y 0 = (((cfg0.win 9).blk t).view.emb y 0 : Fin 14208) :=
  Fin.ext (by blk_simp [idx t])

/-- Window 7 after the run: the residual of every token. -/
theorem final7 (c : Dev nD) : (dats m 0 c).arrAt 7 cfg0.N
    = fun i => projH1 (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (i 0) (i 1) := by
  refine (dats m 0 c).arrAt_eq_of_covers 7 _ (by decide +kernel) fun t _ y => ?_
  blk_simp
  rw [after0_7]
  unfold_out out0_7
  frame_out
  exact (congrArg _ (eq_ix2 y)).trans ((h1_blk m c t _ _).trans (congrArg₂ (projH1 _ _ _ _ _ _) (row7 t y) (col7 t y)))

/-- Point `t`'s FFN input at row `r` is token `r`'s. -/
theorem y_blk (c : Dev nD) (t : Fin cfg0.N) (r : Fin 14208) (j : Fin 4608) :
    k0_pay1 (F := Ideal) (k0_pay5 (F := Ideal) (iblk m c 0 t) (iblk m c 1 t) (iblk m c 2 t) (iblk m c 3 t) (iblk m c 4 t) (iblk m c 5 t))
        (k0_pay6 (F := Ideal) (iblk m c 6 t))
        (k0_pay7 (F := Ideal) (iblk m c 0 t) (iblk m c 1 t) (iblk m c 2 t) (iblk m c 3 t) (iblk m c 4 t) (iblk m c 5 t))
        (k0_pay8 (F := Ideal)) (ix2 r j)
      = projY (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6)) (r) j := by
  refine (Rows.normed_at _ _ _ r j).trans ?_
  rw [Rows.meanSq_at]
  unfold projY normed
  simp only [h1_blk, gFfn_blk]

/-- Point `t`'s scale at row `r` is token `r`'s. -/
theorem scale_out_blk (c : Dev nD) (t : Fin cfg0.N) (r : Fin 14208) :
    k0_pay2 (F := Ideal) (k0_pay5 (F := Ideal) (iblk m c 0 t) (iblk m c 1 t) (iblk m c 2 t) (iblk m c 3 t) (iblk m c 4 t) (iblk m c 5 t))
        (k0_pay6 (F := Ideal) (iblk m c 6 t))
        (k0_pay7 (F := Ideal) (iblk m c 0 t) (iblk m c 1 t) (iblk m c 2 t) (iblk m c 3 t) (iblk m c 4 t) (iblk m c 5 t))
        (k0_pay8 (F := Ideal)) (ix2 r 0)
      = projScale (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6)) (r) :=
  (Rows.scale_at _ _ _ _ r).trans (congrArg rowScale (funext fun j => y_blk m c t r j))

/-- Point `t`'s code at row `r`, column `j` is token `r`'s. -/
theorem code_out_blk (c : Dev nD) (t : Fin cfg0.N) (r : Fin 14208) (j : Fin 4608) :
    k0_pay3 (F := Ideal) (k0_pay5 (F := Ideal) (iblk m c 0 t) (iblk m c 1 t) (iblk m c 2 t) (iblk m c 3 t) (iblk m c 4 t) (iblk m c 5 t))
        (k0_pay6 (F := Ideal) (iblk m c 6 t))
        (k0_pay7 (F := Ideal) (iblk m c 0 t) (iblk m c 1 t) (iblk m c 2 t) (iblk m c 3 t) (iblk m c 4 t) (iblk m c 5 t))
        (k0_pay8 (F := Ideal)) (ix2 r j)
      = projCode (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6)) (r) j := by
  refine (Rows.code_at _ _ _ _ r j).trans ?_
  rw [y_blk, scale_out_blk, projCode]

/-- Point `t`'s scale output at row `r`, any lane, is token `r`'s. -/
theorem spread_out_blk (c : Dev nD) (t : Fin cfg0.N) (r : Fin 14208) (l : Fin 128) :
    k0_pay4 (F := Ideal) (k0_pay5 (F := Ideal) (iblk m c 0 t) (iblk m c 1 t) (iblk m c 2 t) (iblk m c 3 t) (iblk m c 4 t) (iblk m c 5 t))
        (k0_pay6 (F := Ideal) (iblk m c 6 t))
        (k0_pay7 (F := Ideal) (iblk m c 0 t) (iblk m c 1 t) (iblk m c 2 t) (iblk m c 3 t) (iblk m c 4 t) (iblk m c 5 t))
        (k0_pay8 (F := Ideal)) (ix2 r l)
      = projScale (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6)) (r) := by
  refine (Rows.spread_at _ _ _ _ r l).trans ?_
  rw [scale_out_blk]

/-- Window 8 after the run: the codes of every token's FFN input. -/
theorem final8 (c : Dev nD) : (dats m 0 c).arrAt 8 cfg0.N
    = fun i => projCode (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6)) (i 0) (i 1) := by
  refine (dats m 0 c).arrAt_eq_of_covers 8 _ (by decide +kernel) fun t _ y => ?_
  blk_simp
  rw [after0_8]
  unfold_out out0_8
  frame_out
  exact (congrArg _ (eq_ix2 y)).trans ((code_out_blk m c t _ _).trans (congrArg₂ (projCode _ _ _ _ _ _ _) (row8 t y) (col8 t y)))

/-- Window 9 after the run: every token's scale, in every lane. -/
theorem final9 (c : Dev nD) : (dats m 0 c).arrAt 9 cfg0.N
    = fun i => projScale (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6)) (i 0) := by
  refine (dats m 0 c).arrAt_eq_of_covers 9 _ (by decide +kernel) fun t _ y => ?_
  blk_simp
  rw [after0_9]
  unfold_out out0_9
  frame_out
  exact (congrArg _ (eq_ix2 y)).trans ((spread_out_blk m c t _ _).trans (congrArg (projScale _ _ _ _ _ _ _) (row9 t y)))

end Cert.ProjRefIdeal.Blocks

end
-- ==== Proof.ProjClaim.lean ====
/- The projection kernel computes its reference: the two runs end with the same three result arrays. -/
module

public import proofs.«01_k».proof.Defs
public import proofs.«01_k».proof.Proof.ProjValue
public import proofs.«01_k».proof.Proof.ProjRefValue

@[expose] public section

namespace Cert.ProjClaim

open Idealize.ShloMosaic Idealize.SL.Sem

/-- From memories agreeing on the arguments, kernel and reference end with equal residuals, codes and scales, and with
    their arguments unchanged: each side's arrays are the layer's functions of its own arguments. -/
theorem algebraic : Cert.algebraic_ProjIdeal_ProjRefIdeal (hProjIdeal := Cert.ProjIdeal.Gen.facts)
    (hProjRefIdeal := Cert.ProjRefIdeal.Gen.facts) := by
  intro m g m' g' _ hag
  refine ⟨_, _, _, Cert.ProjIdeal.Value.run_blocks m g, ?_⟩
  refine (θ_run _ _ _).mono (fun r h c => ?_) (Cert.ProjRefIdeal.Value.run_blocks m' g')
  obtain ⟨h0, h1, h2, hrest⟩ := h c
  obtain ⟨a0, a1, a2, a3, a4, a5, a6⟩ := hag c
  refine ⟨h0.trans ?_, h1.trans ?_, h2.trans ?_, hrest⟩
  · refine (Cert.ProjRefIdeal.Blocks.final7 m' c).trans (Eq.trans ?_ (Cert.ProjIdeal.Blocks.final7 m c).symm)
    rw [a0, a1, a2, a3, a4, a5]
    rfl
  · refine (Cert.ProjRefIdeal.Blocks.final8 m' c).trans (Eq.trans ?_ (Cert.ProjIdeal.Blocks.final8 m c).symm)
    rw [a0, a1, a2, a3, a4, a5, a6]
    rfl
  · refine (Cert.ProjRefIdeal.Blocks.final9 m' c).trans (Eq.trans ?_ (Cert.ProjIdeal.Blocks.final9 m c).symm)
    rw [a0, a1, a2, a3, a4, a5, a6]
    rfl

end Cert.ProjClaim

end
-- ==== Proof.Ffn.lean ====
/- The gated FFN's mathematics on one token, over the extended reals: the activation of the two up-projections. No program
   is named here. -/
module

public import proofs.«01_k».proof.Proof.Layer

@[expose] public section

noncomputable section

namespace Cert.Layer

open Idealize.ShloMosaic

/-- GELU in its tanh form: `g * (0.5 * (1 + tanh (0.79788456 * (g + 0.044715 * g³))))`. -/
def gelu (g : EReal) : EReal :=
  g * (Ideal.ofBits .f32 0x3F000000#32
    * (1 + Ideal.tanh (Ideal.ofBits .f32 0x3F4C422A#32 * (g + Ideal.ofBits .f32 0x3D372713#32 * (g * (g * g))))))

/-- The gated product from the operands of the two up-projections. -/
def gatedRow {k : Nat} (codes wg wu : Fin k → EReal) (s gs us : EReal) : EReal :=
  gelu (linear codes wg s gs) * linear codes wu s us

section GateUp

variable (codes : FVec Ideal ⟨2, ![14208, 4608]⟩ .fp8e4m3) (scale : FVec Ideal ⟨2, ![14208, 128]⟩ .f32)
  (wg wu : FVec Ideal ⟨2, ![4608, 18432]⟩ .fp8e4m3) (gs us : FVec Ideal ⟨1, ![18432]⟩ .f32)

/-- The activation of token `i` at hidden column `j`: GELU of the gate times the up-projection. -/
def gateAct (i : Fin 14208) (j : Fin 18432) : EReal :=
  gatedRow (fun k => codes (ix2 i k)) (fun k => wg (ix2 k j)) (fun k => wu (ix2 k j)) (scale (ix2 i 0)) (gs (ix1 j)) (us (ix1 j))

/-- The scale of token `i`'s activations. -/
def gateScale (i : Fin 14208) : EReal := rowScale (gateAct codes scale wg wu gs us i)

end GateUp

/-! ## Greatest magnitudes, taken lane by lane -/

/-- The magnitude of a number. -/
def mag (a : EReal) : EReal := max a (-a)

theorem mag_nonneg (a : EReal) : 0 ≤ mag a := by
  rcases le_total 0 a with h | h
  · exact le_max_of_le_left h
  · exact le_max_of_le_right (by simpa using EReal.neg_le_neg_iff.mpr h)

/-- A row's greatest magnitude is at most `b` when every magnitude is. -/
theorem maxAbs_le {n : Nat} (v : Fin n → EReal) (b : EReal) :
    maxAbs v ≤ b ↔ Ideal.ofBits .f32 0xFF800000#32 ≤ b ∧ ∀ x, mag (v x) ≤ b := by
  unfold maxAbs
  rw [Finset.fold_max_le]
  simp only [Finset.mem_univ, true_imp_iff, mag]

/-- The columns of lane `l` in the first `q + 1` blocks of 1024: those of the first `q`, and eight more. -/
theorem lane_columns (P : Fin 18432 → Prop) (q : Nat) (hq : q < 18) (l : Fin 128) :
    (∀ j : Fin 18432, j.val < (q + 1) * 1024 → j.val % 128 = l → P j)
      ↔ (∀ j : Fin 18432, j.val < q * 1024 → j.val % 128 = l → P j) ∧ ∀ k : Fin 8, P ⟨q * 1024 + (128 * k + l), by omega⟩ := by
  constructor
  · intro h
    exact ⟨fun j hj hl => h j (by omega) hl, fun k => h _ (by dsimp only; omega) (by dsimp only; omega)⟩
  · rintro ⟨h1, h2⟩ j hj hl
    by_cases hlt : j.val < q * 1024
    · exact h1 j hlt hl
    · have e : j = ⟨q * 1024 + (128 * ((j.val - q * 1024) / 128) + l), by omega⟩ := Fin.ext (by dsimp only; omega)
      rw [e]
      exact h2 ⟨(j.val - q * 1024) / 128, by omega⟩

/-- A lane's eight columns of a block of 1024, two by two as the four chunks of 256 hold them. -/
theorem lane_chunks (P : Fin 1024 → Prop) (l : Fin 128) :
    ((((P ⟨0 + l, by omega⟩ ∧ P ⟨0 + (128 + l), by omega⟩) ∧ P ⟨256 + l, by omega⟩ ∧ P ⟨256 + (128 + l), by omega⟩)
      ∧ P ⟨512 + l, by omega⟩ ∧ P ⟨512 + (128 + l), by omega⟩) ∧ P ⟨768 + l, by omega⟩ ∧ P ⟨768 + (128 + l), by omega⟩)
      ↔ ∀ k : Fin 8, P ⟨128 * k + l, by omega⟩ := by
  have e : ∀ (n n' : Nat) (h : n < 1024) (h' : n' < 1024), n = n' → P ⟨n, h⟩ → P ⟨n', h'⟩ := by
    intro n n' h h' hn hp
    subst hn
    exact hp
  constructor
  · rintro ⟨⟨⟨⟨h0, h1⟩, h2, h3⟩, h4, h5⟩, h6, h7⟩ k
    have hk : k.val = 0 ∨ k.val = 1 ∨ k.val = 2 ∨ k.val = 3 ∨ k.val = 4 ∨ k.val = 5 ∨ k.val = 6 ∨ k.val = 7 := by omega
    rcases hk with hk | hk | hk | hk | hk | hk | hk | hk
    · exact e _ _ _ _ (by omega) h0
    · exact e _ _ _ _ (by omega) h1
    · exact e _ _ _ _ (by omega) h2
    · exact e _ _ _ _ (by omega) h3
    · exact e _ _ _ _ (by omega) h4
    · exact e _ _ _ _ (by omega) h5
    · exact e _ _ _ _ (by omega) h6
    · exact e _ _ _ _ (by omega) h7
  · intro h
    exact ⟨⟨⟨⟨e _ _ _ _ (by simp) (h 0), e _ _ _ _ (by simp) (h 1)⟩, e _ _ _ _ (by simp) (h 2), e _ _ _ _ (by simp; omega) (h 3)⟩,
      e _ _ _ _ (by simp) (h 4), e _ _ _ _ (by simp; omega) (h 5)⟩, e _ _ _ _ (by simp) (h 6), e _ _ _ _ (by simp; omega) (h 7)⟩

/-- Lane maxima that start from zero and take in every column of the lane: their greatest is the row's greatest magnitude. -/
theorem fold_lanes (v : Fin 18432 → EReal) (top : Fin 128 → EReal)
    (h : ∀ l b, top l ≤ b ↔ 0 ≤ b ∧ ∀ j : Fin 18432, j.val < 18 * 1024 → j.val % 128 = l → mag (v j) ≤ b) :
    Finset.univ.fold max (Ideal.ofBits .f32 0xFF800000#32) top = maxAbs v := by
  refine eq_of_forall_ge_iff fun b => ?_
  rw [Finset.fold_max_le, maxAbs_le]
  refine and_congr_right fun _ => ⟨fun hl j => ?_, fun hj l _ => ?_⟩
  · exact ((h ⟨j.val % 128, by omega⟩ b).mp (hl _ (Finset.mem_univ _))).2 j (by omega) rfl
  · exact (h l b).mpr ⟨(mag_nonneg _).trans (hj 0), fun j _ _ => hj j⟩

end Cert.Layer

end
-- ==== Proof.GateUpRows.lean ====
/- The gate/up kernel's block computation, row by row: what its vector operations on 1184 tokens by 256 columns give at one
   token and column, in the layer's terms. -/
module

public import proofs.«01_k».proof.Proof.Gen.GateUpIdeal.Skeleton
public import proofs.«01_k».proof.Proof.Ffn

@[expose] public section

set_option maxRecDepth 16384

noncomputable section

namespace Cert.GateUpIdeal.Rows

open Idealize.ShloMosaic Idealize.ShloMosaic.TcCoe Idealize.SL.Sem
open Cert.GateUpIdeal Cert.GateUpIdeal.Gen Cert.Layer

/-- The gated product at row `r`, column `j` of a chunk, from the chunk's operands. -/
def gated (s : FVec Ideal S1184x1 .f32) (x : FVec Ideal S1184x4608 .fp8e4m3) (wg : FVec Ideal S4608x256 .fp8e4m3) (gs : FVec Ideal S1x256 .f32)
    (wu : FVec Ideal S4608x256 .fp8e4m3) (us : FVec Ideal S1x256 .f32) (r : Fin 1184) (j : Fin 256) : EReal :=
  gatedRow (fun k => x (ix2 r k)) (fun k => wg (ix2 k j)) (fun k => wu (ix2 k j)) (s (ix2 r 0)) (gs (ix2 0 j)) (us (ix2 0 j))

section
variable (s : FVec Ideal S1184x1 .f32) (x : FVec Ideal S1184x4608 .fp8e4m3) (wg wu : FVec Ideal S4608x256 .fp8e4m3)
  (gs us : FVec Ideal S1x256 .f32) (r : Fin 1184) (j : Fin 256)

/-- The first 256 columns of a block of activations. -/
theorem act0_at : k0_pay7 (F := Ideal) (k0_pay5 (F := Ideal) s x wu us) (k0_pay6 (F := Ideal) s x wg gs) (ix2 r j)
    = gated s x wg gs wu us r j := by
  pointwise [k0_pay7, k0_pay5, k0_pay6]
  rfl

/-- The next 256. -/
theorem act1_at : k0_pay12 (F := Ideal) (k0_pay9 (F := Ideal) s x wg gs) (k0_pay10 (F := Ideal) s x wu us) (k0_pay11 (F := Ideal) s x wg gs) (ix2 r j)
    = gated s x wg gs wu us r j := by
  pointwise [k0_pay12, k0_pay9, k0_pay10, k0_pay11]
  rfl

/-- The next 256. -/
theorem act2_at : k0_pay17 (F := Ideal) (k0_pay14 (F := Ideal) s x wg gs) (k0_pay15 (F := Ideal) s x wu us) (k0_pay16 (F := Ideal) s x wg gs) (ix2 r j)
    = gated s x wg gs wu us r j := by
  pointwise [k0_pay17, k0_pay14, k0_pay15, k0_pay16]
  rfl

/-- The last 256. -/
theorem act3_at : k0_pay1 (F := Ideal) (k0_pay19 (F := Ideal) s x wg gs) (k0_pay20 (F := Ideal) x wu) (k0_pay21 (F := Ideal) s) us (ix2 r j)
    = gated s x wg gs wu us r j := by
  pointwise [k0_pay1, k0_pay19, k0_pay20, k0_pay21]
  rfl
end

/-- The running maximum's step: lane `l` takes in the magnitudes of columns `l` and `128 + l` of the chunk. -/
theorem step_ops (a : FVec Ideal S1184x256 .f32) (top : FVec Ideal S1184x128 .f32) (r : Fin 1184) (l : Fin 128) :
    shapeCast S1184x128 (maximumf top (maximumf (extractStridedSlice S1184x128 ![0, 0] (absf a) slices_S1184x256_o0_0_S1184x128)
      (extractStridedSlice S1184x128 ![0, 128] (absf a) slices_S1184x256_o0_128_S1184x128))) shapeCasts_S1184x128_S1184x128 (ix2 r l)
      = max (top (ix2 r l)) (max (mag (a (ix2 r ⟨l, by omega⟩))) (mag (a (ix2 r ⟨128 + l, by omega⟩)))) := by
  pointwise
  rfl

section
variable (a b d : FVec Ideal S1184x256 .f32) (g : FVec Ideal S1x256 .f32) (top : FVec Ideal S1184x128 .f32) (r : Fin 1184) (l : Fin 128)

/-- The running maximum after the first chunk. -/
theorem step0_at : k0_pay8 (F := Ideal) a b top (ix2 r l)
    = max (top (ix2 r l)) (max (mag (k0_pay7 (F := Ideal) a b (ix2 r ⟨l, by omega⟩))) (mag (k0_pay7 (F := Ideal) a b (ix2 r ⟨128 + l, by omega⟩)))) :=
  step_ops _ _ r l
/-- After the second. -/
theorem step1_at : k0_pay13 (F := Ideal) a b d top (ix2 r l)
    = max (top (ix2 r l)) (max (mag (k0_pay12 (F := Ideal) a b d (ix2 r ⟨l, by omega⟩))) (mag (k0_pay12 (F := Ideal) a b d (ix2 r ⟨128 + l, by omega⟩)))) :=
  step_ops _ _ r l
/-- After the third. -/
theorem step2_at : k0_pay18 (F := Ideal) a b d top (ix2 r l)
    = max (top (ix2 r l)) (max (mag (k0_pay17 (F := Ideal) a b d (ix2 r ⟨l, by omega⟩))) (mag (k0_pay17 (F := Ideal) a b d (ix2 r ⟨128 + l, by omega⟩)))) :=
  step_ops _ _ r l
/-- After the fourth. -/
theorem step3_at : k0_pay2 (F := Ideal) a b d g top (ix2 r l)
    = max (top (ix2 r l)) (max (mag (k0_pay1 (F := Ideal) a b d g (ix2 r ⟨l, by omega⟩))) (mag (k0_pay1 (F := Ideal) a b d g (ix2 r ⟨128 + l, by omega⟩)))) :=
  step_ops _ _ r l
end

/-- The running maximum after the four chunks of a block is at most `b` when it was before and every magnitude of the lane's
    eight columns is. -/
theorem top_le (s : FVec Ideal S1184x1 .f32) (x : FVec Ideal S1184x4608 .fp8e4m3) (wg0 wg1 wg2 wg3 wu0 wu1 wu2 wu3 : FVec Ideal S4608x256 .fp8e4m3)
    (gs0 gs1 gs2 gs3 us0 us1 us2 us3 : FVec Ideal S1x256 .f32) (top : FVec Ideal S1184x128 .f32) (r : Fin 1184) (l : Fin 128) (b : EReal) :
    k0_pay2 (F := Ideal) (k0_pay19 (F := Ideal) s x wg3 gs3) (k0_pay20 (F := Ideal) x wu3) (k0_pay21 (F := Ideal) s) us3
      (k0_pay18 (F := Ideal) (k0_pay14 (F := Ideal) s x wg2 gs2) (k0_pay15 (F := Ideal) s x wu2 us2) (k0_pay16 (F := Ideal) s x wg2 gs2)
        (k0_pay13 (F := Ideal) (k0_pay9 (F := Ideal) s x wg1 gs1) (k0_pay10 (F := Ideal) s x wu1 us1) (k0_pay11 (F := Ideal) s x wg1 gs1)
          (k0_pay8 (F := Ideal) (k0_pay5 (F := Ideal) s x wu0 us0) (k0_pay6 (F := Ideal) s x wg0 gs0) top))) (ix2 r l) ≤ b
      ↔ top (ix2 r l) ≤ b
        ∧ ((((mag (gated s x wg0 gs0 wu0 us0 r ⟨l, by omega⟩) ≤ b ∧ mag (gated s x wg0 gs0 wu0 us0 r ⟨128 + l, by omega⟩) ≤ b)
          ∧ mag (gated s x wg1 gs1 wu1 us1 r ⟨l, by omega⟩) ≤ b ∧ mag (gated s x wg1 gs1 wu1 us1 r ⟨128 + l, by omega⟩) ≤ b)
          ∧ mag (gated s x wg2 gs2 wu2 us2 r ⟨l, by omega⟩) ≤ b ∧ mag (gated s x wg2 gs2 wu2 us2 r ⟨128 + l, by omega⟩) ≤ b)
          ∧ mag (gated s x wg3 gs3 wu3 us3 r ⟨l, by omega⟩) ≤ b ∧ mag (gated s x wg3 gs3 wu3 us3 r ⟨128 + l, by omega⟩) ≤ b) := by
  simp only [step0_at, step1_at, step2_at, step3_at, act0_at, act1_at, act2_at, act3_at, max_le_iff, and_assoc]

/-- The running maximum's start. -/
theorem start_at (r : Fin 1184) (l : Fin 128) : k0_pay4 (F := Ideal) (ix2 r l) = 0 := by
  pointwise [k0_pay4]

/-- The greatest lane. -/
theorem topLane_ops (z : FVec Ideal S1184x128 .f32) (r : Fin 1184) :
    shapeCast S1184x1 (multiReduction .maximumf [1] S1184 z 0xFF800000#32 reduces_S1184x128_S1184 (.inl rfl) rfl) shapeCasts_S1184_S1184x1 (ix2 r 0)
      = Finset.univ.fold max (Ideal.ofBits .f32 0xFF800000#32) fun l => z (ix2 r l) := by
  pointwise

/-- A scale from a greatest magnitude, spread over 128 lanes. -/
theorem spread_ops (a : FVec Ideal S1184x1 .f32) (r : Fin 1184) (l : Fin 128) :
    broadcastTo S1184x128 (shapeCast S1184x1 (select (cmpf .oeq a (broadcast S1184x1 (Scalar.ofBits .f32 0x00000000#32))) (broadcast S1184x1 (Scalar.ofBits .f32 0x3F800000#32))
        (divf a (broadcast S1184x1 (Scalar.ofBits .f32 0x43E00000#32)))) shapeCasts_S1184x1_S1184x1) broadcasts_S1184x1_S1184x128 (ix2 r l)
      = quantScale (a (ix2 r 0)) := by
  pointwise
  rfl

/-- The scale output of a block: that of the greatest lane, in every lane. -/
theorem scale_at (z : FVec Ideal S1184x128 .f32) (r : Fin 1184) (l : Fin 128) :
    k0_pay3 (F := Ideal) z (ix2 r l) = quantScale (Finset.univ.fold max (Ideal.ofBits .f32 0xFF800000#32) fun l => z (ix2 r l)) :=
  (spread_ops _ r l).trans (congrArg quantScale (topLane_ops z r))

end Cert.GateUpIdeal.Rows

end
-- ==== Proof.GateUpValue.lean ====
/- The gate/up kernel's two result arrays after the run, as functions of the argument arrays: grid point `18 i + j` computes
   tokens `1184 i …` by hidden columns `1024 j …`, and the last point of a token block writes the tokens' scales. -/
module

public import proofs.«01_k».proof.Proof.Gen.GateUpIdeal.Value
public import proofs.«01_k».proof.Proof.GateUpRows
public import Idealize.ShloMosaic.Lib.Pipeline.ValueKit
public import Idealize.ShloMosaic.Lib.Pipeline.ReadBack
public import Idealize.ShloMosaic.Lib.Claim

@[expose] public section

set_option maxRecDepth 16384

noncomputable section

namespace Cert.GateUpIdeal.Blocks

open Idealize.ShloMosaic Idealize.ShloMosaic.TcCoe Idealize.SL.Sem
open Idealize.ShloMosaic.Pipeline (Dat)
open Cert.GateUpIdeal Cert.GateUpIdeal.Gen Cert.Layer

variable (m : (ℓ : Loc nD τ sig) → Buf (Elt Ideal) ℓ)

/-- Every window's block index at every grid point: token blocks move with `t / 18`, column blocks with `t % 18`. -/
theorem idx : ∀ t : Fin cfg0.N, win0_0.index t = ![t.val / 18, 0] ∧ win0_1.index t = ![t.val / 18, 0] ∧ win0_2.index t = ![0, t.val % 18]
    ∧ win0_3.index t = ![0, t.val % 18] ∧ win0_4.index t = ![0, t.val % 18] ∧ win0_5.index t = ![0, t.val % 18]
    ∧ win0_6.index t = ![t.val / 18, t.val % 18] ∧ win0_7.index t = ![t.val / 18, 0] :=
  (by decide +kernel : ∀ t : Fin grid0.N, _)

/-- The token that row `r` of point `t`'s block is. -/
def tok (t : Fin cfg0.N) (r : Fin 1184) : Fin 14208 :=
  ⟨t.val / 18 * 1184 + r, by have := lt_of_lt_of_eq t.isLt N_0; omega⟩

/-- The hidden column that column `j` of point `t`'s block is. -/
def col (t : Fin cfg0.N) (j : Fin 1024) : Fin 18432 :=
  ⟨t.val % 18 * 1024 + j, by omega⟩

theorem codes_blk (c : Dev nD) (t : Fin cfg0.N) (r : Fin 1184) (k : Fin 4608) :
    iblk m c 0 t (ix2 r k) = m ((c : Thread nD τ).loc main_arg0) (ix2 (tok t r) k) := by
  blk_ext [iblk, V, idx t, tok]
theorem scale_blk (c : Dev nD) (t : Fin cfg0.N) (r : Fin 1184) (l : Fin 128) :
    iblk m c 1 t (ix2 r l) = m ((c : Thread nD τ).loc main_arg1) (ix2 (tok t r) l) := by
  blk_ext [iblk, V, idx t, tok]
theorem wg_blk (c : Dev nD) (t : Fin cfg0.N) (k : Fin 4608) (j : Fin 1024) :
    iblk m c 2 t (ix2 k j) = m ((c : Thread nD τ).loc main_arg2) (ix2 k (col t j)) := by
  blk_ext [iblk, V, idx t, col]
theorem wu_blk (c : Dev nD) (t : Fin cfg0.N) (k : Fin 4608) (j : Fin 1024) :
    iblk m c 3 t (ix2 k j) = m ((c : Thread nD τ).loc main_arg3) (ix2 k (col t j)) := by
  blk_ext [iblk, V, idx t, col]
theorem gs_row (c : Dev nD) (j : Fin 18432) : V m c main_v0 (ix2 0 j) = m ((c : Thread nD τ).loc main_arg4) (ix1 j) := by
  entry_read
  pointwise
theorem us_row (c : Dev nD) (j : Fin 18432) : V m c main_v1 (ix2 0 j) = m ((c : Thread nD τ).loc main_arg5) (ix1 j) := by
  entry_read
  pointwise
theorem gs_blk (c : Dev nD) (t : Fin cfg0.N) (j : Fin 1024) :
    iblk m c 4 t (ix2 0 j) = m ((c : Thread nD τ).loc main_arg4) (ix1 (col t j)) :=
  Eq.trans (b := V m c main_v0 (ix2 0 (col t j))) (by blk_ext [iblk, idx t, col]) (gs_row m c _)
theorem us_blk (c : Dev nD) (t : Fin cfg0.N) (j : Fin 1024) :
    iblk m c 5 t (ix2 0 j) = m ((c : Thread nD τ).loc main_arg5) (ix1 (col t j)) :=
  Eq.trans (b := V m c main_v1 (ix2 0 (col t j))) (by blk_ext [iblk, idx t, col]) (us_row m c _)

/-- The activation of token `i` at hidden column `j`, from the arguments. -/
def act (c : Dev nD) (i : Fin 14208) (j : Fin 18432) : EReal :=
  gateAct (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) i j

/-- The gated product of point `t`'s blocks at row `r`, column `j`, is the activation of the row's token. -/
theorem act_blk (c : Dev nD) (t : Fin cfg0.N) (r : Fin 1184) (j : Fin 1024) :
    gatedRow (fun k => iblk m c 0 t (ix2 r k)) (fun k => iblk m c 2 t (ix2 k j)) (fun k => iblk m c 3 t (ix2 k j)) (iblk m c 1 t (ix2 r 0))
      (iblk m c 4 t (ix2 0 j)) (iblk m c 5 t (ix2 0 j)) = act m c (tok t r) (col t j) := by
  unfold act gateAct
  simp only [codes_blk, scale_blk, wg_blk, wu_blk, gs_blk, us_blk]

/-- The same on a chunk of 256 columns from column `o`. -/
theorem gated_blk (c : Dev nD) (t : Fin cfg0.N) (o : Nat) (ho : o + 256 ≤ 1024) (s : FVec Ideal S1184x1 .f32) (x : FVec Ideal S1184x4608 .fp8e4m3)
    (wg : FVec Ideal S4608x256 .fp8e4m3) (gs : FVec Ideal S1x256 .f32) (wu : FVec Ideal S4608x256 .fp8e4m3) (us : FVec Ideal S1x256 .f32) (r : Fin 1184)
    (j : Fin 256) (hs : s (ix2 r 0) = iblk m c 1 t (ix2 r 0)) (hx : ∀ k, x (ix2 r k) = iblk m c 0 t (ix2 r k))
    (hwg : ∀ k, wg (ix2 k j) = iblk m c 2 t (ix2 k ⟨o + j, by omega⟩)) (hwu : ∀ k, wu (ix2 k j) = iblk m c 3 t (ix2 k ⟨o + j, by omega⟩))
    (hgs : gs (ix2 0 j) = iblk m c 4 t (ix2 0 ⟨o + j, by omega⟩)) (hus : us (ix2 0 j) = iblk m c 5 t (ix2 0 ⟨o + j, by omega⟩)) :
    Rows.gated s x wg gs wu us r j = act m c (tok t r) (col t ⟨o + j, by omega⟩) := by
  refine Eq.trans ?_ (act_blk m c t r ⟨o + j, by omega⟩)
  unfold Rows.gated
  simp only [hx, hwg, hwu]
  rw [hs, hgs, hus]

theorem chunk_le (c : Dev nD) (t : Fin cfg0.N) (b : EReal) (o : Nat) (ho : o + 256 ≤ 1024) (s : FVec Ideal S1184x1 .f32) (x : FVec Ideal S1184x4608 .fp8e4m3)
    (wg : FVec Ideal S4608x256 .fp8e4m3) (gs : FVec Ideal S1x256 .f32) (wu : FVec Ideal S4608x256 .fp8e4m3) (us : FVec Ideal S1x256 .f32) (r : Fin 1184)
    (j : Fin 256) (hs : s (ix2 r 0) = iblk m c 1 t (ix2 r 0)) (hx : ∀ k, x (ix2 r k) = iblk m c 0 t (ix2 r k))
    (hwg : ∀ k, wg (ix2 k j) = iblk m c 2 t (ix2 k ⟨o + j, by omega⟩)) (hwu : ∀ k, wu (ix2 k j) = iblk m c 3 t (ix2 k ⟨o + j, by omega⟩))
    (hgs : gs (ix2 0 j) = iblk m c 4 t (ix2 0 ⟨o + j, by omega⟩)) (hus : us (ix2 0 j) = iblk m c 5 t (ix2 0 ⟨o + j, by omega⟩)) :
    mag (Rows.gated s x wg gs wu us r j) ≤ b ↔ mag (act m c (tok t r) (col t ⟨o + j, by omega⟩)) ≤ b :=
  iff_of_eq (congrArg (fun a => mag a ≤ b) (gated_blk m c t o ho s x wg gs wu us r j hs hx hwg hwu hgs hus))

/-- The block of activations after the first point of a token block. -/
theorem act_A (c : Dev nD) (t : Fin cfg0.N) (h0 : t.val % 18 = 0) (h1 : ¬t.val % 18 = 17) (y : S1184x1024.Idx) :
    (outsAt0 m c t.val t.isLt).1 y = act m c (tok t (y 0)) (col t (y 1)) := by
  rw [outsAt0_A m c t h0 h1]
  frame_out
  canon_tiles x q
  case piece0 =>
    refine (congrArg _ (eq_ix2 x)).trans ((Rows.act3_at _ _ _ _ _ _ _ _).trans ((gated_blk m c t 768 (by omega) _ _ _ _ _ _ _ _
      (by pointwise) (fun k => by pointwise) (fun k => by pointwise) (fun k => by pointwise) (by pointwise) (by pointwise)).trans
      (congrArg₂ (act m c) (congrArg (tok t) (Fin.ext q0.symm)) (congrArg (col t) (Fin.ext q1.symm)))))
  case piece1 =>
    refine (congrArg _ (eq_ix2 x)).trans ((Rows.act2_at _ _ _ _ _ _ _ _).trans ((gated_blk m c t 512 (by omega) _ _ _ _ _ _ _ _
      (by pointwise) (fun k => by pointwise) (fun k => by pointwise) (fun k => by pointwise) (by pointwise) (by pointwise)).trans
      (congrArg₂ (act m c) (congrArg (tok t) (Fin.ext q0.symm)) (congrArg (col t) (Fin.ext q1.symm)))))
  case piece2 =>
    refine (congrArg _ (eq_ix2 x)).trans ((Rows.act1_at _ _ _ _ _ _ _ _).trans ((gated_blk m c t 256 (by omega) _ _ _ _ _ _ _ _
      (by pointwise) (fun k => by pointwise) (fun k => by pointwise) (fun k => by pointwise) (by pointwise) (by pointwise)).trans
      (congrArg₂ (act m c) (congrArg (tok t) (Fin.ext q0.symm)) (congrArg (col t) (Fin.ext q1.symm)))))
  case piece3 =>
    refine (congrArg _ (eq_ix2 x)).trans ((Rows.act0_at _ _ _ _ _ _ _ _).trans ((gated_blk m c t 0 (by omega) _ _ _ _ _ _ _ _
      (by pointwise) (fun k => by pointwise) (fun k => by pointwise) (fun k => by pointwise) (by pointwise) (by pointwise)).trans
      (congrArg₂ (act m c) (congrArg (tok t) (Fin.ext q0.symm)) (congrArg (col t) (Fin.ext ((Nat.zero_add _).trans q1.symm))))))

/-- The block of activations after a point between. -/
theorem act_B (c : Dev nD) (t : Fin cfg0.N) (h0 : ¬t.val % 18 = 0) (h1 : ¬t.val % 18 = 17) (y : S1184x1024.Idx) :
    (outsAt0 m c t.val t.isLt).1 y = act m c (tok t (y 0)) (col t (y 1)) := by
  rw [outsAt0_B m c t h0 h1]
  frame_out
  canon_tiles x q
  case piece0 =>
    refine (congrArg _ (eq_ix2 x)).trans ((Rows.act3_at _ _ _ _ _ _ _ _).trans ((gated_blk m c t 768 (by omega) _ _ _ _ _ _ _ _
      (by pointwise) (fun k => by pointwise) (fun k => by pointwise) (fun k => by pointwise) (by pointwise) (by pointwise)).trans
      (congrArg₂ (act m c) (congrArg (tok t) (Fin.ext q0.symm)) (congrArg (col t) (Fin.ext q1.symm)))))
  case piece1 =>
    refine (congrArg _ (eq_ix2 x)).trans ((Rows.act2_at _ _ _ _ _ _ _ _).trans ((gated_blk m c t 512 (by omega) _ _ _ _ _ _ _ _
      (by pointwise) (fun k => by pointwise) (fun k => by pointwise) (fun k => by pointwise) (by pointwise) (by pointwise)).trans
      (congrArg₂ (act m c) (congrArg (tok t) (Fin.ext q0.symm)) (congrArg (col t) (Fin.ext q1.symm)))))
  case piece2 =>
    refine (congrArg _ (eq_ix2 x)).trans ((Rows.act1_at _ _ _ _ _ _ _ _).trans ((gated_blk m c t 256 (by omega) _ _ _ _ _ _ _ _
      (by pointwise) (fun k => by pointwise) (fun k => by pointwise) (fun k => by pointwise) (by pointwise) (by pointwise)).trans
      (congrArg₂ (act m c) (congrArg (tok t) (Fin.ext q0.symm)) (congrArg (col t) (Fin.ext q1.symm)))))
  case piece3 =>
    refine (congrArg _ (eq_ix2 x)).trans ((Rows.act0_at _ _ _ _ _ _ _ _).trans ((gated_blk m c t 0 (by omega) _ _ _ _ _ _ _ _
      (by pointwise) (fun k => by pointwise) (fun k => by pointwise) (fun k => by pointwise) (by pointwise) (by pointwise)).trans
      (congrArg₂ (act m c) (congrArg (tok t) (Fin.ext q0.symm)) (congrArg (col t) (Fin.ext ((Nat.zero_add _).trans q1.symm))))))

/-- The block of activations after the last. -/
theorem act_C (c : Dev nD) (t : Fin cfg0.N) (h0 : ¬t.val % 18 = 0) (h1 : t.val % 18 = 17) (y : S1184x1024.Idx) :
    (outsAt0 m c t.val t.isLt).1 y = act m c (tok t (y 0)) (col t (y 1)) := by
  rw [outsAt0_C m c t h0 h1]
  frame_out
  canon_tiles x q
  case piece0 =>
    refine (congrArg _ (eq_ix2 x)).trans ((Rows.act3_at _ _ _ _ _ _ _ _).trans ((gated_blk m c t 768 (by omega) _ _ _ _ _ _ _ _
      (by pointwise) (fun k => by pointwise) (fun k => by pointwise) (fun k => by pointwise) (by pointwise) (by pointwise)).trans
      (congrArg₂ (act m c) (congrArg (tok t) (Fin.ext q0.symm)) (congrArg (col t) (Fin.ext q1.symm)))))
  case piece1 =>
    refine (congrArg _ (eq_ix2 x)).trans ((Rows.act2_at _ _ _ _ _ _ _ _).trans ((gated_blk m c t 512 (by omega) _ _ _ _ _ _ _ _
      (by pointwise) (fun k => by pointwise) (fun k => by pointwise) (fun k => by pointwise) (by pointwise) (by pointwise)).trans
      (congrArg₂ (act m c) (congrArg (tok t) (Fin.ext q0.symm)) (congrArg (col t) (Fin.ext q1.symm)))))
  case piece2 =>
    refine (congrArg _ (eq_ix2 x)).trans ((Rows.act1_at _ _ _ _ _ _ _ _).trans ((gated_blk m c t 256 (by omega) _ _ _ _ _ _ _ _
      (by pointwise) (fun k => by pointwise) (fun k => by pointwise) (fun k => by pointwise) (by pointwise) (by pointwise)).trans
      (congrArg₂ (act m c) (congrArg (tok t) (Fin.ext q0.symm)) (congrArg (col t) (Fin.ext q1.symm)))))
  case piece3 =>
    refine (congrArg _ (eq_ix2 x)).trans ((Rows.act0_at _ _ _ _ _ _ _ _).trans ((gated_blk m c t 0 (by omega) _ _ _ _ _ _ _ _
      (by pointwise) (fun k => by pointwise) (fun k => by pointwise) (fun k => by pointwise) (by pointwise) (by pointwise)).trans
      (congrArg₂ (act m c) (congrArg (tok t) (Fin.ext q0.symm)) (congrArg (col t) (Fin.ext ((Nat.zero_add _).trans q1.symm))))))

/-- The lane maxima after the first point of a token block. -/
theorem top_A (c : Dev nD) (t : Fin cfg0.N) (h0 : t.val % 18 = 0) (h1 : ¬t.val % 18 = 17) (r : Fin 1184) (l : Fin 128) (b : EReal) :
    (outsAt0 m c t.val t.isLt).2.2 (ix2 r l) ≤ b
      ↔ (0 : EReal) ≤ b
        ∧ ∀ k : Fin 8, mag (act m c (tok t r) (col t ⟨128 * k + l, by omega⟩)) ≤ b := by
  rw [outsAt0_A m c t h0 h1]
  frame_out
  refine (Rows.top_le _ _ _ _ _ _ _ _ _ _ _ _ _ _ _ _ _ _ _ r l b).trans (and_congr (iff_of_eq (congrArg (· ≤ b) (Rows.start_at r l))) ?_)
  refine Iff.trans ?_ (lane_chunks (fun j => mag (act m c (tok t r) (col t j)) ≤ b) l)
  exact (and_congr (and_congr (and_congr (and_congr (chunk_le m c t b 0 (by omega) _ _ _ _ _ _ r ⟨l, by omega⟩ (by pointwise) (fun k => by pointwise) (fun k => by pointwise) (fun k => by pointwise) (by pointwise) (by pointwise))
      (chunk_le m c t b 0 (by omega) _ _ _ _ _ _ r ⟨128 + l, by omega⟩ (by pointwise) (fun k => by pointwise) (fun k => by pointwise) (fun k => by pointwise) (by pointwise) (by pointwise)))
    (and_congr (chunk_le m c t b 256 (by omega) _ _ _ _ _ _ r ⟨l, by omega⟩ (by pointwise) (fun k => by pointwise) (fun k => by pointwise) (fun k => by pointwise) (by pointwise) (by pointwise))
      (chunk_le m c t b 256 (by omega) _ _ _ _ _ _ r ⟨128 + l, by omega⟩ (by pointwise) (fun k => by pointwise) (fun k => by pointwise) (fun k => by pointwise) (by pointwise) (by pointwise))))
    (and_congr (chunk_le m c t b 512 (by omega) _ _ _ _ _ _ r ⟨l, by omega⟩ (by pointwise) (fun k => by pointwise) (fun k => by pointwise) (fun k => by pointwise) (by pointwise) (by pointwise))
      (chunk_le m c t b 512 (by omega) _ _ _ _ _ _ r ⟨128 + l, by omega⟩ (by pointwise) (fun k => by pointwise) (fun k => by pointwise) (fun k => by pointwise) (by pointwise) (by pointwise))))
    (and_congr (chunk_le m c t b 768 (by omega) _ _ _ _ _ _ r ⟨l, by omega⟩ (by pointwise) (fun k => by pointwise) (fun k => by pointwise) (fun k => by pointwise) (by pointwise) (by pointwise))
      (chunk_le m c t b 768 (by omega) _ _ _ _ _ _ r ⟨128 + l, by omega⟩ (by pointwise) (fun k => by pointwise) (fun k => by pointwise) (fun k => by pointwise) (by pointwise) (by pointwise))))

/-- The lane maxima after a point between. -/
theorem top_B (c : Dev nD) (t : Fin cfg0.N) (h0 : ¬t.val % 18 = 0) (h1 : ¬t.val % 18 = 17) (r : Fin 1184) (l : Fin 128) (b : EReal) :
    (outsAt0 m c t.val t.isLt).2.2 (ix2 r l) ≤ b
      ↔ (outsAt0 m c (t.val - 1) (Nat.lt_of_le_of_lt (Nat.sub_le _ _) t.isLt)).2.2 (ix2 r l) ≤ b
        ∧ ∀ k : Fin 8, mag (act m c (tok t r) (col t ⟨128 * k + l, by omega⟩)) ≤ b := by
  rw [outsAt0_B m c t h0 h1]
  frame_out
  refine (Rows.top_le _ _ _ _ _ _ _ _ _ _ _ _ _ _ _ _ _ _ _ r l b).trans (and_congr (iff_of_eq (congrArg (· ≤ b) (congrFun (read_unread_whole _ _ _) _))) ?_)
  refine Iff.trans ?_ (lane_chunks (fun j => mag (act m c (tok t r) (col t j)) ≤ b) l)
  exact (and_congr (and_congr (and_congr (and_congr (chunk_le m c t b 0 (by omega) _ _ _ _ _ _ r ⟨l, by omega⟩ (by pointwise) (fun k => by pointwise) (fun k => by pointwise) (fun k => by pointwise) (by pointwise) (by pointwise))
      (chunk_le m c t b 0 (by omega) _ _ _ _ _ _ r ⟨128 + l, by omega⟩ (by pointwise) (fun k => by pointwise) (fun k => by pointwise) (fun k => by pointwise) (by pointwise) (by pointwise)))
    (and_congr (chunk_le m c t b 256 (by omega) _ _ _ _ _ _ r ⟨l, by omega⟩ (by pointwise) (fun k => by pointwise) (fun k => by pointwise) (fun k => by pointwise) (by pointwise) (by pointwise))
      (chunk_le m c t b 256 (by omega) _ _ _ _ _ _ r ⟨128 + l, by omega⟩ (by pointwise) (fun k => by pointwise) (fun k => by pointwise) (fun k => by pointwise) (by pointwise) (by pointwise))))
    (and_congr (chunk_le m c t b 512 (by omega) _ _ _ _ _ _ r ⟨l, by omega⟩ (by pointwise) (fun k => by pointwise) (fun k => by pointwise) (fun k => by pointwise) (by pointwise) (by pointwise))
      (chunk_le m c t b 512 (by omega) _ _ _ _ _ _ r ⟨128 + l, by omega⟩ (by pointwise) (fun k => by pointwise) (fun k => by pointwise) (fun k => by pointwise) (by pointwise) (by pointwise))))
    (and_congr (chunk_le m c t b 768 (by omega) _ _ _ _ _ _ r ⟨l, by omega⟩ (by pointwise) (fun k => by pointwise) (fun k => by pointwise) (fun k => by pointwise) (by pointwise) (by pointwise))
      (chunk_le m c t b 768 (by omega) _ _ _ _ _ _ r ⟨128 + l, by omega⟩ (by pointwise) (fun k => by pointwise) (fun k => by pointwise) (fun k => by pointwise) (by pointwise) (by pointwise))))

/-- The lane maxima after the last. -/
theorem top_C (c : Dev nD) (t : Fin cfg0.N) (h0 : ¬t.val % 18 = 0) (h1 : t.val % 18 = 17) (r : Fin 1184) (l : Fin 128) (b : EReal) :
    (outsAt0 m c t.val t.isLt).2.2 (ix2 r l) ≤ b
      ↔ (outsAt0 m c (t.val - 1) (Nat.lt_of_le_of_lt (Nat.sub_le _ _) t.isLt)).2.2 (ix2 r l) ≤ b
        ∧ ∀ k : Fin 8, mag (act m c (tok t r) (col t ⟨128 * k + l, by omega⟩)) ≤ b := by
  rw [outsAt0_C m c t h0 h1]
  frame_out
  refine (Rows.top_le _ _ _ _ _ _ _ _ _ _ _ _ _ _ _ _ _ _ _ r l b).trans (and_congr (iff_of_eq (congrArg (· ≤ b) (congrFun (read_unread_whole _ _ _) _))) ?_)
  refine Iff.trans ?_ (lane_chunks (fun j => mag (act m c (tok t r) (col t j)) ≤ b) l)
  exact (and_congr (and_congr (and_congr (and_congr (chunk_le m c t b 0 (by omega) _ _ _ _ _ _ r ⟨l, by omega⟩ (by pointwise) (fun k => by pointwise) (fun k => by pointwise) (fun k => by pointwise) (by pointwise) (by pointwise))
      (chunk_le m c t b 0 (by omega) _ _ _ _ _ _ r ⟨128 + l, by omega⟩ (by pointwise) (fun k => by pointwise) (fun k => by pointwise) (fun k => by pointwise) (by pointwise) (by pointwise)))
    (and_congr (chunk_le m c t b 256 (by omega) _ _ _ _ _ _ r ⟨l, by omega⟩ (by pointwise) (fun k => by pointwise) (fun k => by pointwise) (fun k => by pointwise) (by pointwise) (by pointwise))
      (chunk_le m c t b 256 (by omega) _ _ _ _ _ _ r ⟨128 + l, by omega⟩ (by pointwise) (fun k => by pointwise) (fun k => by pointwise) (fun k => by pointwise) (by pointwise) (by pointwise))))
    (and_congr (chunk_le m c t b 512 (by omega) _ _ _ _ _ _ r ⟨l, by omega⟩ (by pointwise) (fun k => by pointwise) (fun k => by pointwise) (fun k => by pointwise) (by pointwise) (by pointwise))
      (chunk_le m c t b 512 (by omega) _ _ _ _ _ _ r ⟨128 + l, by omega⟩ (by pointwise) (fun k => by pointwise) (fun k => by pointwise) (fun k => by pointwise) (by pointwise) (by pointwise))))
    (and_congr (chunk_le m c t b 768 (by omega) _ _ _ _ _ _ r ⟨l, by omega⟩ (by pointwise) (fun k => by pointwise) (fun k => by pointwise) (fun k => by pointwise) (by pointwise) (by pointwise))
      (chunk_le m c t b 768 (by omega) _ _ _ _ _ _ r ⟨128 + l, by omega⟩ (by pointwise) (fun k => by pointwise) (fun k => by pointwise) (fun k => by pointwise) (by pointwise) (by pointwise))))

/-- The activations a point leaves are its tokens'. -/
theorem act_point (c : Dev nD) (t : Fin cfg0.N) (y : S1184x1024.Idx) :
    (outsAt0 m c t.val t.isLt).1 y = act m c (tok t (y 0)) (col t (y 1)) := by
  by_cases h0 : t.val % 18 = 0
  · exact act_A m c t h0 (by omega) y
  · by_cases h1 : t.val % 18 = 17
    · exact act_C m c t h0 h1 y
    · exact act_B m c t h0 h1 y

/-- The lane maxima after point `n`: zero and every magnitude of the lane's columns up to the point's block are taken in. -/
theorem top_point (c : Dev nD) : ∀ (n : Nat) (hn : n < cfg0.N) (r : Fin 1184) (l : Fin 128) (b : EReal),
    (outsAt0 m c n hn).2.2 (ix2 r l) ≤ b
      ↔ 0 ≤ b ∧ ∀ j : Fin 18432, j.val < (n % 18 + 1) * 1024 → j.val % 128 = l → mag (act m c (tok ⟨n, hn⟩ r) j) ≤ b := by
  intro n
  induction n with
  | zero =>
    intro hn r l b
    refine (top_A m c ⟨0, hn⟩ rfl (by dsimp only; omega) r l b).trans (and_congr_right fun _ => ?_)
    refine Iff.trans ?_ (lane_columns (fun j => mag (act m c (tok ⟨0, hn⟩ r) j) ≤ b) 0 (by omega) l).symm
    exact ⟨fun h => ⟨fun j hj => absurd hj (by omega), h⟩, fun h => h.2⟩
  | succ n ih =>
    intro hn r l b
    by_cases h0 : (n + 1) % 18 = 0
    · refine (top_A m c ⟨n + 1, hn⟩ h0 (by dsimp only; omega) r l b).trans (and_congr_right fun _ => ?_)
      refine Iff.trans ?_ (lane_columns (fun j => mag (act m c (tok ⟨n + 1, hn⟩ r) j) ≤ b) ((n + 1) % 18) (by omega) l).symm
      exact ⟨fun h => ⟨fun j hj => absurd hj (by omega), h⟩, fun h => h.2⟩
    · have step : (outsAt0 m c (n + 1) hn).2.2 (ix2 r l) ≤ b ↔ (outsAt0 m c n (Nat.lt_of_succ_lt hn)).2.2 (ix2 r l) ≤ b
          ∧ ∀ k : Fin 8, mag (act m c (tok ⟨n + 1, hn⟩ r) (col ⟨n + 1, hn⟩ ⟨128 * k + l, by omega⟩)) ≤ b := by
        by_cases h1 : (n + 1) % 18 = 17
        · exact top_C m c ⟨n + 1, hn⟩ h0 h1 r l b
        · exact top_B m c ⟨n + 1, hn⟩ h0 h1 r l b
      refine step.trans ?_
      rw [ih (Nat.lt_of_succ_lt hn) r l b, and_assoc]
      refine and_congr_right fun _ => ?_
      have ht : tok ⟨n, Nat.lt_of_succ_lt hn⟩ r = tok ⟨n + 1, hn⟩ r := Fin.ext (by dsimp only [tok]; omega)
      have hq : n % 18 + 1 = (n + 1) % 18 := by omega
      rw [ht, hq]
      exact (lane_columns (fun j => mag (act m c (tok ⟨n + 1, hn⟩ r) j) ≤ b) ((n + 1) % 18) (by omega) l).symm

/-- The scales the last point of a token block leaves are its tokens'. -/
theorem scale_point (c : Dev nD) (t : Fin cfg0.N) (h1 : t.val % 18 = 17) (r : Fin 1184) (l : Fin 128) :
    (outsAt0 m c t.val t.isLt).2.1 (ix2 r l) = rowScale (act m c (tok t r)) := by
  have e : (outsAt0 m c t.val t.isLt).2.1 = k0_pay3 (F := Ideal) (outsAt0 m c t.val t.isLt).2.2 := by
    rw [outsAt0_C m c t (by omega) h1]
    frame_out
  rw [e]
  refine (Rows.scale_at _ r l).trans (congrArg quantScale (fold_lanes _ _ fun l b => ?_))
  refine (top_point m c t.val t.isLt r l b).trans (and_congr_right fun _ => ?_)
  rw [h1]

theorem row6 (t : Fin cfg0.N) (y : S1184x1024.Idx) : tok t (y 0) = (((cfg0.win 6).blk t).view.emb y 0 : Fin 14208) :=
  Fin.ext (by blk_simp [idx t]; rfl)
theorem col6 (t : Fin cfg0.N) (y : S1184x1024.Idx) : col t (y 1) = (((cfg0.win 6).blk t).view.emb y 1 : Fin 18432) :=
  Fin.ext (by blk_simp [idx t]; rfl)
theorem row7 (t : Fin cfg0.N) (y : S1184x128.Idx) : tok t (y 0) = (((cfg0.win 7).blk t).view.emb y 0 : Fin 14208) :=
  Fin.ext (by blk_simp [idx t]; rfl)

/-- Window 6 after the run: every token's activations. -/
theorem final6 (c : Dev nD) : (dats m 0 c).arrAt 6 cfg0.N
    = fun i => gateAct (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (i 0) (i 1) := by
  refine (dats m 0 c).arrAt_eq_of_covers 6 _ (by decide +kernel) fun t _ y => ?_
  blk_simp
  rw [after0_6]
  exact (act_point m c t y).trans (congrArg₂ (act m c) (row6 t y) (col6 t y))

/-- Window 7 after the run: every token's scale, in every lane. -/
theorem final7 (c : Dev nD) : (dats m 0 c).arrAt 7 cfg0.N
    = fun i => gateScale (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (i 0) := by
  refine (dats m 0 c).arrAt_eq_of_covers 7 _ (by decide +kernel) fun t hf y => ?_
  blk_simp
  rw [after0_7]
  exact (congrArg _ (eq_ix2 y)).trans ((scale_point m c t ((flush0_7 t).mp hf) _ _).trans (congrArg (fun i => rowScale (act m c i)) (row7 t y)))

end Cert.GateUpIdeal.Blocks

end
-- ==== Proof.GateUpRefRows.lean ====
/- The gate/up reference, row by row: what its vector operations on all tokens give at one token and column, in the layer's
   terms. -/
module

public import proofs.«01_k».proof.Proof.Gen.GateUpRefIdeal.Skeleton
public import proofs.«01_k».proof.Proof.Ffn

@[expose] public section

set_option maxRecDepth 65536

noncomputable section

namespace Cert.GateUpRefIdeal.Rows

open Idealize.ShloMosaic Idealize.ShloMosaic.TcCoe Idealize.SL.Sem
open Cert.GateUpRefIdeal Cert.GateUpRefIdeal.Gen Cert.Layer

/-- The activations: GELU of the gate times the up-projection. -/
theorem act_at (v0 : FVec Ideal S14208x4608 .fp8e4m3) (v1 : FVec Ideal S14208x1 .f32) (v2 : FVec Ideal S4608x18432 .fp8e4m3) (v3 : FVec Ideal S1x18432 .f32)
    (v10 : FVec Ideal S14208x4608 .fp8e4m3) (v11 : FVec Ideal S14208x1 .f32) (v12 : FVec Ideal S4608x18432 .fp8e4m3) (v13 : FVec Ideal S1x18432 .f32)
    (r : Fin 14208) (j : Fin 18432) :
    k0_pay2 (F := Ideal) v0 v1 v2 v3 v10 v11 v12 v13 (ix2 r j)
      = gelu (linear (fun k => v0 (ix2 r k)) (fun k => v2 (ix2 k j)) (v1 (ix2 r 0)) (v3 (ix2 0 j)))
        * linear (fun k => v10 (ix2 r k)) (fun k => v12 (ix2 k j)) (v11 (ix2 r 0)) (v13 (ix2 0 j)) := by
  pointwise [k0_pay2]
  rfl

/-- A row's greatest magnitude, over any array. -/
theorem maxAbs_ops (z : FVec Ideal S14208x18432 .f32) (r : Fin 14208) :
    shapeCast S14208x1 (multiReduction .maximumf [1] S14208 (absf z) 0xFF800000#32 reduces_S14208x18432_S14208 (.inl rfl) rfl) shapeCasts_S14208_S14208x1 (ix2 r 0)
      = maxAbs fun x => z (ix2 r x) := by
  pointwise
  rfl

/-- A scale from a greatest magnitude, spread over 128 lanes. -/
theorem spread_ops (a : FVec Ideal S14208x1 .f32) (r : Fin 14208) (l : Fin 128) :
    broadcastTo S14208x128 (shapeCast S14208x1 (select (cmpf .oeq a (broadcast S14208x1 (Scalar.ofBits .f32 0x00000000#32))) (broadcast S14208x1 (Scalar.ofBits .f32 0x3F800000#32))
        (divf a (broadcast S14208x1 (Scalar.ofBits .f32 0x43E00000#32)))) shapeCasts_S14208x1_S14208x1) broadcasts_S14208x1_S14208x128 (ix2 r l)
      = quantScale (a (ix2 r 0)) := by
  pointwise
  rfl

/-- The scale output: that of the row's greatest magnitude, in every lane. -/
theorem scale_at (z : FVec Ideal S14208x18432 .f32) (r : Fin 14208) (l : Fin 128) :
    k0_pay1 (F := Ideal) z (ix2 r l) = rowScale fun x => z (ix2 r x) :=
  (spread_ops _ r l).trans (congrArg quantScale (maxAbs_ops z r))

end Cert.GateUpRefIdeal.Rows

end
-- ==== Proof.GateUpRefValue.lean ====
/- The gate/up reference's two result arrays after the run, as functions of the argument arrays: one point over whole
   arrays. -/
module

public import proofs.«01_k».proof.Proof.Gen.GateUpRefIdeal.Value
public import proofs.«01_k».proof.Proof.GateUpRefRows
public import Idealize.ShloMosaic.Lib.Pipeline.ValueKit
public import Idealize.ShloMosaic.Lib.Claim

@[expose] public section

set_option maxRecDepth 1614208

noncomputable section

namespace Cert.GateUpRefIdeal.Blocks

open Idealize.ShloMosaic Idealize.ShloMosaic.TcCoe Idealize.SL.Sem
open Idealize.ShloMosaic.Pipeline (Dat)
open Cert.GateUpRefIdeal Cert.GateUpRefIdeal.Gen Cert.Layer

variable (m : (ℓ : Loc nD τ sig) → Buf (Elt Ideal) ℓ)

/-- Every window's block is its whole array. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] :=
  (by decide +kernel : ∀ t : Fin grid0.N, _)

theorem codes_blk (c : Dev nD) (t : Fin cfg0.N) (r : Fin 14208) (k : Fin 4608) :
    iblk m c 0 t (ix2 r k) = m ((c : Thread nD τ).loc main_arg0) (ix2 r k) := by
  blk_ext [iblk, V, idx t]
theorem scale_blk (c : Dev nD) (t : Fin cfg0.N) (r : Fin 14208) (l : Fin 128) :
    iblk m c 1 t (ix2 r l) = m ((c : Thread nD τ).loc main_arg1) (ix2 r l) := by
  blk_ext [iblk, V, idx t]
theorem wg_blk (c : Dev nD) (t : Fin cfg0.N) (k : Fin 4608) (j : Fin 18432) :
    iblk m c 2 t (ix2 k j) = m ((c : Thread nD τ).loc main_arg2) (ix2 k j) := by
  blk_ext [iblk, V, idx t]
theorem wu_blk (c : Dev nD) (t : Fin cfg0.N) (k : Fin 4608) (j : Fin 18432) :
    iblk m c 3 t (ix2 k j) = m ((c : Thread nD τ).loc main_arg3) (ix2 k j) := by
  blk_ext [iblk, V, idx t]
theorem gs_row (c : Dev nD) (j : Fin 18432) : V m c main_v0 (ix2 0 j) = m ((c : Thread nD τ).loc main_arg4) (ix1 j) := by
  entry_read
  pointwise
theorem us_row (c : Dev nD) (j : Fin 18432) : V m c main_v1 (ix2 0 j) = m ((c : Thread nD τ).loc main_arg5) (ix1 j) := by
  entry_read
  pointwise
theorem gs_blk (c : Dev nD) (t : Fin cfg0.N) (j : Fin 18432) :
    iblk m c 4 t (ix2 0 j) = m ((c : Thread nD τ).loc main_arg4) (ix1 j) :=
  Eq.trans (b := V m c main_v0 (ix2 0 j)) (by blk_ext [iblk, idx t]) (gs_row m c _)
theorem us_blk (c : Dev nD) (t : Fin cfg0.N) (j : Fin 18432) :
    iblk m c 5 t (ix2 0 j) = m ((c : Thread nD τ).loc main_arg5) (ix1 j) :=
  Eq.trans (b := V m c main_v1 (ix2 0 j)) (by blk_ext [iblk, idx t]) (us_row m c _)

/-- The activation of token `i` at hidden column `j`, from the arguments. -/
def act (c : Dev nD) (i : Fin 14208) (j : Fin 18432) : EReal :=
  gateAct (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) i j

/-- The point's activation at row `r` is token `r`'s, whatever column of scales it reads as its one column. -/
theorem act_blk (c : Dev nD) (t : Fin cfg0.N) (s : FVec Ideal S14208x1 .f32) (hs : ∀ r, s (ix2 r 0) = iblk m c 1 t (ix2 r 0)) (r : Fin 14208) (j : Fin 18432) :
    k0_pay2 (F := Ideal) (iblk m c 0 t) s (iblk m c 2 t) (iblk m c 4 t) (iblk m c 0 t) s (iblk m c 3 t) (iblk m c 5 t) (ix2 r j)
      = act m c r j := by
  refine (Rows.act_at _ _ _ _ _ _ _ _ r j).trans ?_
  unfold act gateAct gatedRow
  simp only [hs, codes_blk, scale_blk, wg_blk, wu_blk, gs_blk, us_blk]

theorem row6 (t : Fin cfg0.N) (y : S14208x18432.Idx) : y 0 = (((cfg0.win 6).blk t).view.emb y 0 : Fin 14208) :=
  Fin.ext (by blk_simp [idx t])
theorem col6 (t : Fin cfg0.N) (y : S14208x18432.Idx) : y 1 = (((cfg0.win 6).blk t).view.emb y 1 : Fin 18432) :=
  Fin.ext (by blk_simp [idx t])
theorem row7 (t : Fin cfg0.N) (y : S14208x128.Idx) : y 0 = (((cfg0.win 7).blk t).view.emb y 0 : Fin 14208) :=
  Fin.ext (by blk_simp [idx t])

/-- Window 6 after the run: every token's activations. -/
theorem final6 (c : Dev nD) : (dats m 0 c).arrAt 6 cfg0.N
    = fun i => gateAct (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (i 0) (i 1) := by
  refine (dats m 0 c).arrAt_eq_of_covers 6 _ (by decide +kernel) fun t _ y => ?_
  blk_simp
  rw [after0_6]
  unfold out0_6
  frame_out
  exact (congrArg _ (eq_ix2 y)).trans ((act_blk m c t _ (fun r => by pointwise) _ _).trans (congrArg₂ (act m c) (row6 t y) (col6 t y)))

/-- Window 7 after the run: every token's scale, in every lane. -/
theorem final7 (c : Dev nD) : (dats m 0 c).arrAt 7 cfg0.N
    = fun i => gateScale (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (i 0) := by
  refine (dats m 0 c).arrAt_eq_of_covers 7 _ (by decide +kernel) fun t _ y => ?_
  blk_simp
  rw [after0_7]
  unfold out0_7
  frame_out
  exact (congrArg _ (eq_ix2 y)).trans ((Rows.scale_at _ _ _).trans
    ((congrArg rowScale (funext fun j => act_blk m c t _ (fun r => by pointwise) _ j)).trans (congrArg (fun i => rowScale (act m c i)) (row7 t y))))

end Cert.GateUpRefIdeal.Blocks

end
-- ==== Proof.GateUpClaim.lean ====
/- The gate/up kernel computes its reference: the two runs end with the same two result arrays. -/
module

public import proofs.«01_k».proof.Defs
public import proofs.«01_k».proof.Proof.GateUpValue
public import proofs.«01_k».proof.Proof.GateUpRefValue

@[expose] public section

namespace Cert.GateUpClaim

open Idealize.ShloMosaic Idealize.SL.Sem

/-- From memories agreeing on the arguments, kernel and reference end with equal activations and scales, and with their
    arguments unchanged: each side's arrays are the layer's functions of its own arguments. -/
theorem algebraic : Cert.algebraic_GateUpIdeal_GateUpRefIdeal (hGateUpIdeal := Cert.GateUpIdeal.Gen.facts)
    (hGateUpRefIdeal := Cert.GateUpRefIdeal.Gen.facts) := by
  intro m g m' g' _ hag
  refine ⟨_, _, Cert.GateUpIdeal.Value.run_blocks m g, ?_⟩
  refine (θ_run _ _ _).mono (fun r h c => ?_) (Cert.GateUpRefIdeal.Value.run_blocks m' g')
  obtain ⟨h0, h1, hrest⟩ := h c
  obtain ⟨a0, a1, a2, a3, a4, a5⟩ := hag c
  refine ⟨h0.trans ?_, h1.trans ?_, hrest⟩
  · refine (Cert.GateUpRefIdeal.Blocks.final6 m' c).trans (Eq.trans ?_ (Cert.GateUpIdeal.Blocks.final6 m c).symm)
    rw [a0, a1, a2, a3, a4, a5]
    rfl
  · refine (Cert.GateUpRefIdeal.Blocks.final7 m' c).trans (Eq.trans ?_ (Cert.GateUpIdeal.Blocks.final7 m c).symm)
    rw [a0, a1, a2, a3, a4, a5]
    rfl

end Cert.GateUpClaim

end
-- ==== Proof.Heads.lean ====
/- The q/k/v call's mathematics on one token, over the extended reals: RMSNorm, quantiser, the linear layer on codes, and the
   rotary embedding head by head. No program is named here. -/
module

public import proofs.«01_k».proof.Proof.Layer

@[expose] public section

noncomputable section

namespace Cert.Layer

open Idealize.ShloMosaic

/-- Rotary embedding of one head of 128: the first half by `v₁ cos − v₂ sin`, the second by `v₂ cos + v₁ sin`. -/
def rope (v : Fin 128 → EReal) (cos sin : Fin 64 → EReal) (l : Fin 128) : EReal :=
  if h : l.val < 64 then v l * cos ⟨l, h⟩ - v ⟨64 + l, by omega⟩ * sin ⟨l, h⟩
  else v l * cos ⟨l - 64, by omega⟩ + v ⟨l - 64, by omega⟩ * sin ⟨l - 64, by omega⟩

/-- The same as one product with a doubled cosine and one of the head rotated by 64 with a doubled, half negated sine. -/
theorem rope_rotated (v : Fin 128 → EReal) (cos sin : Fin 64 → EReal) (l : Fin 128) :
    v l * (if h : l.val < 64 then cos ⟨l, h⟩ else cos ⟨l - 64, by omega⟩)
      + v ⟨(l + 128 - 64) % 128, by omega⟩ * (if h : l.val < 64 then 0 - sin ⟨l, h⟩ else sin ⟨l - 64, by omega⟩)
      = rope v cos sin l := by
  unfold rope
  by_cases h : l.val < 64
  · have e : (⟨(l + 128 - 64) % 128, by omega⟩ : Fin 128) = ⟨64 + l, by omega⟩ := Fin.ext (by dsimp only; omega)
    rw [dif_pos h, dif_pos h, dif_pos h, e, zero_sub, mul_neg, sub_eq_add_neg]
  · have e : (⟨(l + 128 - 64) % 128, by omega⟩ : Fin 128) = ⟨l - 64, by omega⟩ := Fin.ext (by dsimp only; omega)
    rw [dif_neg h, dif_neg h, dif_neg h, e]

section Qkv

variable (x : FVec Ideal ⟨2, ![14208, 4608]⟩ .bf16) (g : FVec Ideal ⟨1, ![4608]⟩ .f32) (w : FVec Ideal ⟨2, ![4608, 4096]⟩ .fp8e4m3)
  (ws : FVec Ideal ⟨1, ![4096]⟩ .f32) (cos sin : FVec Ideal ⟨2, ![14208, 64]⟩ .f32) (ks vs : FVec Ideal ⟨1, ![8]⟩ .f32)

/-- Token `i`'s normed input. -/
def qkvY (i : Fin 14208) (j : Fin 4608) : EReal := normed (fun j => x (ix2 i j)) (fun j => g (ix1 j)) j

/-- Token `i`'s quantiser scale. -/
def qkvScale (i : Fin 14208) : EReal := rowScale (qkvY x g i)

/-- Token `i`'s code at column `j`. -/
def qkvCode (i : Fin 14208) (j : Fin 4608) : EReal := quantCode (qkvY x g i j) (qkvScale x g i)

/-- Column `j` of token `i`'s q, k and v side by side. -/
def qkvLin (i : Fin 14208) (j : Fin 4096) : EReal :=
  linear (qkvCode x g i) (fun k => w (ix2 k j)) (qkvScale x g i) (ws (ix1 j))

/-- Column `j` of token `i`'s queries: the head's 128 columns rotated, times the constant 144 ^ (-1/2). -/
def query (i : Fin 14208) (j : Fin 2048) : EReal :=
  rope (fun l => qkvLin x g w ws i ⟨j / 128 * 128 + l, by omega⟩) (fun l => cos (ix2 i l)) (fun l => sin (ix2 i l)) ⟨j % 128, by omega⟩
    * Ideal.ofBits .f32 0x3DAAAAAB#32

/-- Column `j` of token `i`'s key codes: the head's 128 columns rotated, quantised by the head's scale. -/
def key (i : Fin 14208) (j : Fin 1024) : EReal :=
  quantCode (rope (fun l => qkvLin x g w ws i ⟨2048 + (j / 128 * 128 + l), by omega⟩) (fun l => cos (ix2 i l)) (fun l => sin (ix2 i l)) ⟨j % 128, by omega⟩)
    (ks (ix1 ⟨j / 128, by omega⟩))

/-- Column `j` of token `i`'s value codes: quantised by the head's scale. -/
def value (i : Fin 14208) (j : Fin 1024) : EReal :=
  quantCode (qkvLin x g w ws i ⟨3072 + j, by omega⟩) (vs (ix1 ⟨j / 128, by omega⟩))

end Qkv

end Cert.Layer

end
-- ==== Proof.QkvRows.lean ====
/- The q/k/v kernel, row by row: what its vector operations give at one token and column, in the layer's terms. -/
module

public import proofs.«01_k».proof.Proof.Gen.QkvIdeal.Skeleton
public import proofs.«01_k».proof.Proof.Heads

@[expose] public section

set_option maxRecDepth 65536

noncomputable section

namespace Cert.QkvIdeal.Rows

open Idealize.ShloMosaic Idealize.ShloMosaic.TcCoe Idealize.SL.Sem
open Cert.QkvIdeal Cert.QkvIdeal.Gen Cert.Layer

/-- The normed input. -/
theorem y_at (x : FVec Ideal S384x4608 .bf16) (g : FVec Ideal S1x4608 .f32) (r : Fin 384) (j : Fin 4608) :
    k0_pay3 (F := Ideal) x g (ix2 r j) = normed (fun j => x (ix2 r j)) (fun j => g (ix2 0 j)) j := by
  pointwise [k0_pay3]
  rfl

/-- A row's greatest magnitude, over any block. -/
theorem maxAbs_ops (z : FVec Ideal S384x4608 .f32) (r : Fin 384) :
    shapeCast S384x1 (multiReduction .maximumf [1] S384 (absf z) 0xFF800000#32 reduces_S384x4608_S384 (.inl rfl) rfl) shapeCasts_S384_S384x1 (ix2 r 0)
      = maxAbs fun x => z (ix2 r x) := by
  pointwise
  rfl

/-- A scale from a greatest magnitude, over any column. -/
theorem quantScale_ops (a : FVec Ideal S384x1 .f32) (r : Fin 384) :
    select (cmpf .oeq a (broadcast S384x1 (Scalar.ofBits .f32 0x00000000#32))) (broadcast S384x1 (Scalar.ofBits .f32 0x3F800000#32))
        (divf a (broadcast S384x1 (Scalar.ofBits .f32 0x43E00000#32))) (ix2 r 0) = quantScale (a (ix2 r 0)) := by
  pointwise
  rfl

/-- The codes of a block under a column of scales. -/
theorem quantCode_ops (z : FVec Ideal S384x4608 .f32) (s : FVec Ideal S384x1 .f32) (r : Fin 384) (j : Fin 4608) :
    truncf .fp8e4m3 (minimumf (broadcast S384x4608 (Scalar.ofBits .f32 0x43E00000#32))
      (maximumf (broadcast S384x4608 (Scalar.ofBits .f32 0xC3E00000#32))
        (divf z (broadcastTo S384x4608 s broadcasts_S384x1_S384x4608)))) bitsLt_fp8e4m3_f32 (ix2 r j)
      = quantCode (z (ix2 r j)) (s (ix2 r 0)) := by
  pointwise
  rfl

/-- The scale column spread over 128 lanes. -/
theorem spread_ops (s : FVec Ideal S384x1 .f32) (r : Fin 384) (l : Fin 128) :
    broadcastTo S384x128 (shapeCast S384x1 s shapeCasts_S384x1_S384x1) broadcasts_S384x1_S384x128 (ix2 r l) = s (ix2 r 0) := by
  pointwise

section
variable (x : FVec Ideal S384x4608 .bf16) (g : FVec Ideal S1x4608 .f32)

/-- The scales: those of the rows' greatest magnitudes. -/
theorem scale_at (r : Fin 384) : k0_pay4 (F := Ideal) x g (ix2 r 0) = rowScale fun j => k0_pay3 (F := Ideal) x g (ix2 r j) :=
  (quantScale_ops _ r).trans (congrArg quantScale (maxAbs_ops _ r))

/-- The codes. -/
theorem code_at (r : Fin 384) (j : Fin 4608) :
    k0_pay5 (F := Ideal) x g (ix2 r j) = quantCode (k0_pay3 (F := Ideal) x g (ix2 r j)) (k0_pay4 (F := Ideal) x g (ix2 r 0)) :=
  quantCode_ops _ _ r j

/-- The scale output: every lane holds the row's scale. -/
theorem spread_at (r : Fin 384) (l : Fin 128) : k0_pay6 (F := Ideal) x g (ix2 r l) = k0_pay4 (F := Ideal) x g (ix2 r 0) :=
  spread_ops _ r l
end

/-- The doubled cosine. -/
theorem cos_at (a : FVec Ideal S384x64 .f32) (r : Fin 384) (l : Fin 128) :
    k0_pay7 (F := Ideal) a a (ix2 r l) = if h : l.val < 64 then a (ix2 r ⟨l, h⟩) else a (ix2 r ⟨l - 64, by omega⟩) := by
  pointwise [k0_pay7]

/-- The doubled sine, its first half negated. -/
theorem sin_at (a : FVec Ideal S384x64 .f32) (r : Fin 384) (l : Fin 128) :
    k0_pay8 (F := Ideal) a a (ix2 r l) = if h : l.val < 64 then 0 - a (ix2 r ⟨l, h⟩) else a (ix2 r ⟨l - 64, by omega⟩) := by
  pointwise [k0_pay8]

/-- 256 columns of the linear layer, from the codes and their scales. -/
abbrev chunk (s : FVec Ideal S384x1 .f32) (x : FVec Ideal S384x4608 .fp8e4m3) (w : FVec Ideal S4608x256 .fp8e4m3) (ws : FVec Ideal S1x256 .f32) :
    FVec Ideal S384x256 .f32 :=
  mulf (mulf (matmul dot_S384x4608_S4608x256_S384x256_1_0_0_1_n_n none (shapeCast S384x4608 x shapeCasts_S384x4608_S384x4608) w
    (constant S384x256 .f32 0x00000000#32)) (broadcastTo S384x256 s broadcasts_S384x1_S384x256))
    (broadcastTo S384x256 (shapeCast S1x256 ws shapeCasts_S1x256_S1x256) broadcasts_S1x256_S384x256)

theorem chunk_at (s : FVec Ideal S384x1 .f32) (x : FVec Ideal S384x4608 .fp8e4m3) (w : FVec Ideal S4608x256 .fp8e4m3) (ws : FVec Ideal S1x256 .f32)
    (r : Fin 384) (j : Fin 256) :
    chunk s x w ws (ix2 r j) = linear (fun k => x (ix2 r k)) (fun k => w (ix2 k j)) (s (ix2 r 0)) (ws (ix2 0 j)) := by
  pointwise [chunk]
  rfl

/-- A value over a scale, clipped to ±448. -/
theorem code_ops (v d : FVec Ideal S384x128 .f32) (r : Fin 384) (l : Fin 128) :
    truncf .fp8e4m3 (minimumf (broadcast S384x128 (Scalar.ofBits (F := Ideal) .f32 0x43E00000#32)) (maximumf (broadcast S384x128 (Scalar.ofBits (F := Ideal) .f32 0xC3E00000#32))
      (divf v d))) bitsLt_fp8e4m3_f32 (ix2 r l) = quantCode (v (ix2 r l)) (d (ix2 r l)) := by
  pointwise
  rfl

/-- A chunk's first head, cut out. -/
theorem head0_ops (acc : FVec Ideal S384x256 .f32) (r : Fin 384) (l : Fin 128) :
    (extractStridedSlice S384x128 ![0, 0] acc slices_S384x256_o0_0_S384x128) (ix2 r l) = acc (ix2 r ⟨l, by omega⟩) := by
  pointwise

/-- A chunk's first head, rotated. -/
theorem rope0_ops (acc : FVec Ideal S384x256 .f32) (cs sn : FVec Ideal S384x64 .f32) (r : Fin 384) (l : Fin 128) :
    addf (mulf (extractStridedSlice S384x128 ![0, 0] acc slices_S384x256_o0_0_S384x128) (k0_pay7 (F := Ideal) cs cs))
      (mulf (dynamicRotate 1 64#32 none (extractStridedSlice S384x128 ![0, 0] acc slices_S384x256_o0_0_S384x128) rotates_S384x128_d1) (k0_pay8 (F := Ideal) sn sn)) (ix2 r l)
      = rope (fun l => acc (ix2 r ⟨l, by omega⟩)) (fun x => cs (ix2 r x)) (fun x => sn (ix2 r x)) l := by
  refine Eq.trans ?_ (rope_rotated _ _ _ l)
  rw [← cos_at, ← sin_at]
  pointwise

/-- A query head in the chunk's first place. -/
theorem query0_ops (acc : FVec Ideal S384x256 .f32) (cs sn : FVec Ideal S384x64 .f32) (r : Fin 384) (l : Fin 128) :
    truncf .bf16 (mulf (addf (mulf (extractStridedSlice S384x128 ![0, 0] acc slices_S384x256_o0_0_S384x128) (k0_pay7 (F := Ideal) cs cs))
      (mulf (dynamicRotate 1 64#32 none (extractStridedSlice S384x128 ![0, 0] acc slices_S384x256_o0_0_S384x128) rotates_S384x128_d1) (k0_pay8 (F := Ideal) sn sn)))
      (broadcast S384x128 (Scalar.ofBits (F := Ideal) .f32 0x3DAAAAAB#32))) bitsLt_bf16_f32 (ix2 r l)
      = rope (fun l => acc (ix2 r ⟨l, by omega⟩)) (fun x => cs (ix2 r x)) (fun x => sn (ix2 r x)) l * Ideal.ofBits .f32 0x3DAAAAAB#32 :=
  congrArg (· * Ideal.ofBits .f32 0x3DAAAAAB#32) (rope0_ops acc cs sn r l)

/-- A key head in the chunk's first place. -/
theorem key0_ops (acc : FVec Ideal S384x256 .f32) (cs sn : FVec Ideal S384x64 .f32) (s : Ideal .f32) (r : Fin 384) (l : Fin 128) :
    truncf .fp8e4m3 (minimumf (broadcast S384x128 (Scalar.ofBits (F := Ideal) .f32 0x43E00000#32)) (maximumf (broadcast S384x128 (Scalar.ofBits (F := Ideal) .f32 0xC3E00000#32))
      (divf (addf (mulf (extractStridedSlice S384x128 ![0, 0] acc slices_S384x256_o0_0_S384x128) (k0_pay7 (F := Ideal) cs cs))
      (mulf (dynamicRotate 1 64#32 none (extractStridedSlice S384x128 ![0, 0] acc slices_S384x256_o0_0_S384x128) rotates_S384x128_d1) (k0_pay8 (F := Ideal) sn sn))) (broadcast S384x128 s)))) bitsLt_fp8e4m3_f32 (ix2 r l)
      = quantCode (rope (fun l => acc (ix2 r ⟨l, by omega⟩)) (fun x => cs (ix2 r x)) (fun x => sn (ix2 r x)) l) s :=
  (code_ops _ _ r l).trans (congrArg (quantCode · s) (rope0_ops acc cs sn r l))

/-- A value head in the chunk's first place. -/
theorem value0_ops (acc : FVec Ideal S384x256 .f32) (s : Ideal .f32) (r : Fin 384) (l : Fin 128) :
    truncf .fp8e4m3 (minimumf (broadcast S384x128 (Scalar.ofBits (F := Ideal) .f32 0x43E00000#32)) (maximumf (broadcast S384x128 (Scalar.ofBits (F := Ideal) .f32 0xC3E00000#32))
      (divf (extractStridedSlice S384x128 ![0, 0] acc slices_S384x256_o0_0_S384x128) (broadcast S384x128 s)))) bitsLt_fp8e4m3_f32 (ix2 r l)
      = quantCode (acc (ix2 r ⟨l, by omega⟩)) s :=
  (code_ops _ _ r l).trans (congrArg (quantCode · s) (head0_ops acc r l))

/-- A chunk's second head, cut out. -/
theorem head1_ops (acc : FVec Ideal S384x256 .f32) (r : Fin 384) (l : Fin 128) :
    (extractStridedSlice S384x128 ![0, 128] acc slices_S384x256_o0_128_S384x128) (ix2 r l) = acc (ix2 r ⟨128 + l, by omega⟩) := by
  pointwise

/-- A chunk's second head, rotated. -/
theorem rope1_ops (acc : FVec Ideal S384x256 .f32) (cs sn : FVec Ideal S384x64 .f32) (r : Fin 384) (l : Fin 128) :
    addf (mulf (extractStridedSlice S384x128 ![0, 128] acc slices_S384x256_o0_128_S384x128) (k0_pay7 (F := Ideal) cs cs))
      (mulf (dynamicRotate 1 64#32 none (extractStridedSlice S384x128 ![0, 128] acc slices_S384x256_o0_128_S384x128) rotates_S384x128_d1) (k0_pay8 (F := Ideal) sn sn)) (ix2 r l)
      = rope (fun l => acc (ix2 r ⟨128 + l, by omega⟩)) (fun x => cs (ix2 r x)) (fun x => sn (ix2 r x)) l := by
  refine Eq.trans ?_ (rope_rotated _ _ _ l)
  rw [← cos_at, ← sin_at]
  pointwise

/-- A query head in the chunk's second place. -/
theorem query1_ops (acc : FVec Ideal S384x256 .f32) (cs sn : FVec Ideal S384x64 .f32) (r : Fin 384) (l : Fin 128) :
    truncf .bf16 (mulf (addf (mulf (extractStridedSlice S384x128 ![0, 128] acc slices_S384x256_o0_128_S384x128) (k0_pay7 (F := Ideal) cs cs))
      (mulf (dynamicRotate 1 64#32 none (extractStridedSlice S384x128 ![0, 128] acc slices_S384x256_o0_128_S384x128) rotates_S384x128_d1) (k0_pay8 (F := Ideal) sn sn)))
      (broadcast S384x128 (Scalar.ofBits (F := Ideal) .f32 0x3DAAAAAB#32))) bitsLt_bf16_f32 (ix2 r l)
      = rope (fun l => acc (ix2 r ⟨128 + l, by omega⟩)) (fun x => cs (ix2 r x)) (fun x => sn (ix2 r x)) l * Ideal.ofBits .f32 0x3DAAAAAB#32 :=
  congrArg (· * Ideal.ofBits .f32 0x3DAAAAAB#32) (rope1_ops acc cs sn r l)

/-- A key head in the chunk's second place. -/
theorem key1_ops (acc : FVec Ideal S384x256 .f32) (cs sn : FVec Ideal S384x64 .f32) (s : Ideal .f32) (r : Fin 384) (l : Fin 128) :
    truncf .fp8e4m3 (minimumf (broadcast S384x128 (Scalar.ofBits (F := Ideal) .f32 0x43E00000#32)) (maximumf (broadcast S384x128 (Scalar.ofBits (F := Ideal) .f32 0xC3E00000#32))
      (divf (addf (mulf (extractStridedSlice S384x128 ![0, 128] acc slices_S384x256_o0_128_S384x128) (k0_pay7 (F := Ideal) cs cs))
      (mulf (dynamicRotate 1 64#32 none (extractStridedSlice S384x128 ![0, 128] acc slices_S384x256_o0_128_S384x128) rotates_S384x128_d1) (k0_pay8 (F := Ideal) sn sn))) (broadcast S384x128 s)))) bitsLt_fp8e4m3_f32 (ix2 r l)
      = quantCode (rope (fun l => acc (ix2 r ⟨128 + l, by omega⟩)) (fun x => cs (ix2 r x)) (fun x => sn (ix2 r x)) l) s :=
  (code_ops _ _ r l).trans (congrArg (quantCode · s) (rope1_ops acc cs sn r l))

/-- A value head in the chunk's second place. -/
theorem value1_ops (acc : FVec Ideal S384x256 .f32) (s : Ideal .f32) (r : Fin 384) (l : Fin 128) :
    truncf .fp8e4m3 (minimumf (broadcast S384x128 (Scalar.ofBits (F := Ideal) .f32 0x43E00000#32)) (maximumf (broadcast S384x128 (Scalar.ofBits (F := Ideal) .f32 0xC3E00000#32))
      (divf (extractStridedSlice S384x128 ![0, 128] acc slices_S384x256_o0_128_S384x128) (broadcast S384x128 s)))) bitsLt_fp8e4m3_f32 (ix2 r l)
      = quantCode (acc (ix2 r ⟨128 + l, by omega⟩)) s :=
  (code_ops _ _ r l).trans (congrArg (quantCode · s) (head1_ops acc r l))

end Cert.QkvIdeal.Rows

end
-- ==== Proof.QkvValue.lean ====
/- The q/k/v kernel's five result arrays after the run, as functions of the argument arrays: grid point `t` computes tokens
   `384 t … 384 t + 383`, a head of 128 columns at a time, and the 37 points' blocks cover every token. -/
module

public import proofs.«01_k».proof.Proof.Gen.QkvIdeal.Value
public import proofs.«01_k».proof.Proof.QkvRows
public import Idealize.ShloMosaic.Lib.Pipeline.ValueKit
public import Idealize.ShloMosaic.Lib.Pipeline.ReadBack
public import Idealize.ShloMosaic.Lib.Claim

@[expose] public section

set_option maxRecDepth 16384

noncomputable section

namespace Cert.QkvIdeal.Blocks

open Idealize.ShloMosaic Idealize.ShloMosaic.TcCoe Idealize.SL.Sem
open Idealize.ShloMosaic.Pipeline (Dat)
open Cert.QkvIdeal Cert.QkvIdeal.Gen Cert.Layer

variable (m : (ℓ : Loc nD τ sig) → Buf (Elt Ideal) ℓ)

/-- Every window's block index at every grid point: the row blocks move with the point, the others stay. -/
theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] ∧ win0_6.index t = ![0] ∧ win0_7.index t = ![0]
    ∧ win0_8.index t = ![t.val, 0] ∧ win0_9.index t = ![t.val, 0] ∧ win0_10.index t = ![t.val, 0] ∧ win0_11.index t = ![t.val, 0]
    ∧ win0_12.index t = ![t.val, 0] :=
  (by decide +kernel : ∀ t : Fin grid0.N, _)

/-- The token that row `r` of point `t`'s block is. -/
def tok (t : Fin cfg0.N) (r : Fin 384) : Fin 14208 :=
  ⟨t.val * 384 + r, by have := lt_of_lt_of_eq t.isLt N_0; omega⟩

theorem x_blk (c : Dev nD) (t : Fin cfg0.N) (r : Fin 384) (k : Fin 4608) :
    iblk m c 0 t (ix2 r k) = m ((c : Thread nD τ).loc main_arg0) (ix2 (tok t r) k) := by
  blk_ext [iblk, V, idx t, tok]
theorem g_row (c : Dev nD) (j : Fin 4608) : V m c main_v0 (ix2 0 j) = m ((c : Thread nD τ).loc main_arg1) (ix1 j) := by
  entry_read
  pointwise
theorem ws_row (c : Dev nD) (j : Fin 4096) : V m c main_v1 (ix2 0 j) = m ((c : Thread nD τ).loc main_arg3) (ix1 j) := by
  entry_read
  pointwise
theorem g_blk (c : Dev nD) (t : Fin cfg0.N) (j : Fin 4608) :
    iblk m c 1 t (ix2 0 j) = m ((c : Thread nD τ).loc main_arg1) (ix1 j) :=
  Eq.trans (b := V m c main_v0 (ix2 0 j)) (by blk_ext [iblk, idx t]) (g_row m c _)
theorem w_blk (c : Dev nD) (t : Fin cfg0.N) (k : Fin 4608) (j : Fin 4096) :
    iblk m c 2 t (ix2 k j) = m ((c : Thread nD τ).loc main_arg2) (ix2 k j) := by
  blk_ext [iblk, V, idx t]
theorem ws_blk (c : Dev nD) (t : Fin cfg0.N) (j : Fin 4096) :
    iblk m c 3 t (ix2 0 j) = m ((c : Thread nD τ).loc main_arg3) (ix1 j) :=
  Eq.trans (b := V m c main_v1 (ix2 0 j)) (by blk_ext [iblk, idx t]) (ws_row m c _)
theorem cos_blk (c : Dev nD) (t : Fin cfg0.N) (r : Fin 384) (l : Fin 64) :
    iblk m c 4 t (ix2 r l) = m ((c : Thread nD τ).loc main_arg4) (ix2 (tok t r) l) := by
  blk_ext [iblk, V, idx t, tok]
theorem sin_blk (c : Dev nD) (t : Fin cfg0.N) (r : Fin 384) (l : Fin 64) :
    iblk m c 5 t (ix2 r l) = m ((c : Thread nD τ).loc main_arg5) (ix2 (tok t r) l) := by
  blk_ext [iblk, V, idx t, tok]
theorem ks_blk (c : Dev nD) (t : Fin cfg0.N) (j : Fin 8) :
    iblk m c 6 t (ix1 j) = m ((c : Thread nD τ).loc main_arg6) (ix1 j) := by
  blk_ext [iblk, V, idx t]
theorem vs_blk (c : Dev nD) (t : Fin cfg0.N) (j : Fin 8) :
    iblk m c 7 t (ix1 j) = m ((c : Thread nD τ).loc main_arg7) (ix1 j) := by
  blk_ext [iblk, V, idx t]

/-- The token's normed input, from the arguments. -/
def inY (c : Dev nD) (i : Fin 14208) (j : Fin 4608) : EReal := qkvY (m ((c : Thread nD τ).loc main_arg0)) (m ((c : Thread nD τ).loc main_arg1)) i j
/-- The token's scale, from the arguments. -/
def inScale (c : Dev nD) (i : Fin 14208) : EReal := qkvScale (m ((c : Thread nD τ).loc main_arg0)) (m ((c : Thread nD τ).loc main_arg1)) i
/-- The token's code at column `j`, from the arguments. -/
def inCode (c : Dev nD) (i : Fin 14208) (j : Fin 4608) : EReal := qkvCode (m ((c : Thread nD τ).loc main_arg0)) (m ((c : Thread nD τ).loc main_arg1)) i j
/-- The token's linear-layer column, from the arguments. -/
def lin (c : Dev nD) (i : Fin 14208) (j : Fin 4096) : EReal := qkvLin (m ((c : Thread nD τ).loc main_arg0)) (m ((c : Thread nD τ).loc main_arg1)) (m ((c : Thread nD τ).loc main_arg2)) (m ((c : Thread nD τ).loc main_arg3)) i j
/-- The token's query column, from the arguments. -/
def qry (c : Dev nD) (i : Fin 14208) (j : Fin 2048) : EReal := query (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) i j
/-- The token's key code, from the arguments. -/
def keyCode (c : Dev nD) (i : Fin 14208) (j : Fin 1024) : EReal := key (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) i j
/-- The token's value code, from the arguments. -/
def valCode (c : Dev nD) (i : Fin 14208) (j : Fin 1024) : EReal := value (m ((c : Thread nD τ).loc main_arg0)) (m ((c : Thread nD τ).loc main_arg1)) (m ((c : Thread nD τ).loc main_arg2)) (m ((c : Thread nD τ).loc main_arg3)) (m ((c : Thread nD τ).loc main_arg7)) i j

/-- Point `t`'s normed input at row `r` is token `tok t r`'s. -/
theorem y_blk (c : Dev nD) (t : Fin cfg0.N) (r : Fin 384) (j : Fin 4608) :
    k0_pay3 (F := Ideal) (iblk m c 0 t) (iblk m c 1 t) (ix2 r j) = inY m c (tok t r) j := by
  refine (Rows.y_at _ _ r j).trans ?_
  unfold inY qkvY
  simp only [x_blk, g_blk]
/-- Point `t`'s scale at row `r` is token `tok t r`'s. -/
theorem scale_blk (c : Dev nD) (t : Fin cfg0.N) (r : Fin 384) :
    k0_pay4 (F := Ideal) (iblk m c 0 t) (iblk m c 1 t) (ix2 r 0) = inScale m c (tok t r) :=
  (Rows.scale_at _ _ r).trans (congrArg rowScale (funext fun j => y_blk m c t r j))
/-- Point `t`'s code at row `r`, column `j` is token `tok t r`'s. -/
theorem code_blk (c : Dev nD) (t : Fin cfg0.N) (r : Fin 384) (j : Fin 4608) :
    k0_pay5 (F := Ideal) (iblk m c 0 t) (iblk m c 1 t) (ix2 r j) = inCode m c (tok t r) j :=
  (Rows.code_at _ _ r j).trans (congrArg₂ quantCode (y_blk m c t r j) (scale_blk m c t r))

/-- 256 columns of point `t`'s linear layer, from weights that are columns `o …` of the weight array. -/
theorem acc_blk (c : Dev nD) (t : Fin cfg0.N) (o : Nat) (ho : o + 256 ≤ 4096) (w : FVec Ideal S4608x256 .fp8e4m3) (ws : FVec Ideal S1x256 .f32)
    (hw : ∀ (k : Fin 4608) (j : Fin 256), w (ix2 k j) = iblk m c 2 t (ix2 k ⟨o + j, by omega⟩))
    (hws : ∀ j : Fin 256, ws (ix2 0 j) = iblk m c 3 t (ix2 0 ⟨o + j, by omega⟩)) (r : Fin 384) (j : Fin 256) (n : Fin 4096) (hn : o + j.val = n.val) :
    Rows.chunk (k0_pay4 (F := Ideal) (iblk m c 0 t) (iblk m c 1 t)) (k0_pay5 (F := Ideal) (iblk m c 0 t) (iblk m c 1 t)) w ws (ix2 r j) = lin m c (tok t r) n := by
  rw [← (Fin.ext hn : (⟨o + j, by omega⟩ : Fin 4096) = n)]
  refine (Rows.chunk_at _ _ _ _ r j).trans ?_
  simp only [hw, hws, code_blk, scale_blk, w_blk, ws_blk]
  rfl

/-- A head's queries at row `r`, from the head's 128 columns of the linear layer. -/
theorem query_blk (c : Dev nD) (t : Fin cfg0.N) (r : Fin 384) (h : Nat) (hh : h < 16) (v : Fin 128 → EReal)
    (hv : ∀ l : Fin 128, v l = lin m c (tok t r) ⟨h * 128 + l, by omega⟩) (l : Fin 128) (i : Fin 14208) (hi : tok t r = i) (n : Fin 2048) (hn : n.val = h * 128 + l) :
    rope v (fun x => iblk m c 4 t (ix2 r x)) (fun x => iblk m c 5 t (ix2 r x)) l * Ideal.ofBits .f32 0x3DAAAAAB#32 = qry m c i n := by
  subst hi
  rw [(Fin.ext hn : n = ⟨h * 128 + l, by omega⟩)]
  have e1 : (h * 128 + l.val) / 128 = h := by omega
  have e2 : (h * 128 + l.val) % 128 = l := by omega
  rw [funext hv]
  simp only [cos_blk, sin_blk, qry, query, e1, e2]
  rfl

/-- A head's key codes at row `r`, from the head's 128 columns of the linear layer and its scale. -/
theorem key_blk (c : Dev nD) (t : Fin cfg0.N) (r : Fin 384) (h : Nat) (hh : h < 8) (v : Fin 128 → EReal)
    (hv : ∀ l : Fin 128, v l = lin m c (tok t r) ⟨2048 + (h * 128 + l), by omega⟩) (s : EReal) (hs : s = iblk m c 6 t (ix1 ⟨h, hh⟩)) (l : Fin 128)
    (i : Fin 14208) (hi : tok t r = i) (n : Fin 1024) (hn : n.val = h * 128 + l) :
    quantCode (rope v (fun x => iblk m c 4 t (ix2 r x)) (fun x => iblk m c 5 t (ix2 r x)) l) s = keyCode m c i n := by
  subst hi hs
  rw [(Fin.ext hn : n = ⟨h * 128 + l, by omega⟩)]
  have e1 : (h * 128 + l.val) / 128 = h := by omega
  have e2 : (h * 128 + l.val) % 128 = l := by omega
  rw [funext hv]
  simp only [cos_blk, sin_blk, ks_blk, keyCode, key, e1, e2]
  rfl

/-- A head's value codes at row `r`, from the head's 128 columns of the linear layer and its scale. -/
theorem value_blk (c : Dev nD) (t : Fin cfg0.N) (r : Fin 384) (h : Nat) (hh : h < 8) (l : Fin 128) (v : EReal)
    (hv : v = lin m c (tok t r) ⟨3072 + (h * 128 + l), by omega⟩) (s : EReal) (hs : s = iblk m c 7 t (ix1 ⟨h, hh⟩))
    (i : Fin 14208) (hi : tok t r = i) (n : Fin 1024) (hn : n.val = h * 128 + l) :
    quantCode v s = valCode m c i n := by
  subst hi hs hv
  rw [(Fin.ext hn : n = ⟨h * 128 + l, by omega⟩)]
  have e1 : (h * 128 + l.val) / 128 = h := by omega
  simp only [vs_blk, valCode, value, e1]
  rfl

theorem row8 (t : Fin cfg0.N) (y : S384x4608.Idx) : tok t (y 0) = (((cfg0.win 8).blk t).view.emb y 0 : Fin 14208) :=
  Fin.ext (by blk_simp [idx t]; rfl)
theorem col8 (t : Fin cfg0.N) (y : S384x4608.Idx) : y 1 = (((cfg0.win 8).blk t).view.emb y 1 : Fin 4608) :=
  Fin.ext (by blk_simp [idx t])
theorem row9 (t : Fin cfg0.N) (y : S384x128.Idx) : tok t (y 0) = (((cfg0.win 9).blk t).view.emb y 0 : Fin 14208) :=
  Fin.ext (by blk_simp [idx t]; rfl)
theorem row10 (t : Fin cfg0.N) (y : S384x2048.Idx) : tok t (y 0) = (((cfg0.win 10).blk t).view.emb y 0 : Fin 14208) :=
  Fin.ext (by blk_simp [idx t]; rfl)
theorem col10 (t : Fin cfg0.N) (y : S384x2048.Idx) : y 1 = (((cfg0.win 10).blk t).view.emb y 1 : Fin 2048) :=
  Fin.ext (by blk_simp [idx t])
theorem row11 (t : Fin cfg0.N) (y : S384x1024.Idx) : tok t (y 0) = (((cfg0.win 11).blk t).view.emb y 0 : Fin 14208) :=
  Fin.ext (by blk_simp [idx t]; rfl)
theorem col11 (t : Fin cfg0.N) (y : S384x1024.Idx) : y 1 = (((cfg0.win 11).blk t).view.emb y 1 : Fin 1024) :=
  Fin.ext (by blk_simp [idx t])
theorem row12 (t : Fin cfg0.N) (y : S384x1024.Idx) : tok t (y 0) = (((cfg0.win 12).blk t).view.emb y 0 : Fin 14208) :=
  Fin.ext (by blk_simp [idx t]; rfl)
theorem col12 (t : Fin cfg0.N) (y : S384x1024.Idx) : y 1 = (((cfg0.win 12).blk t).view.emb y 1 : Fin 1024) :=
  Fin.ext (by blk_simp [idx t])

/-- Window 8 after the run: the codes of every token's normed input. -/
theorem final8 (c : Dev nD) : (dats m 0 c).arrAt 8 cfg0.N = fun i => inCode m c (i 0) (i 1) := by
  refine (dats m 0 c).arrAt_eq_of_covers 8 _ (by decide +kernel) fun t _ y => ?_
  blk_simp
  rw [after0_8]
  unfold Gen.outsAt0
  frame_out
  exact (congrArg _ (eq_ix2 y)).trans ((code_blk m c t _ _).trans (congrArg₂ (inCode m c) (row8 t y) (col8 t y)))

/-- Window 9 after the run: every token's scale, in every lane. -/
theorem final9 (c : Dev nD) : (dats m 0 c).arrAt 9 cfg0.N = fun i => inScale m c (i 0) := by
  refine (dats m 0 c).arrAt_eq_of_covers 9 _ (by decide +kernel) fun t _ y => ?_
  blk_simp
  rw [after0_9]
  unfold Gen.outsAt0
  frame_out
  exact (congrArg _ (eq_ix2 y)).trans ((Rows.spread_at _ _ _ _).trans ((scale_blk m c t _).trans (congrArg (inScale m c) (row9 t y))))

/-- Window 10 after the run: the queries. -/
theorem final10 (c : Dev nD) : (dats m 0 c).arrAt 10 cfg0.N = fun i => qry m c (i 0) (i 1) := by
  refine (dats m 0 c).arrAt_eq_of_covers 10 _ (by decide +kernel) fun t _ y => ?_
  blk_simp
  rw [after0_10]
  unfold Gen.outsAt0
  frame_out
  have hr := congrArg Fin.val (row10 t y)
  have hc := congrArg Fin.val (col10 t y)
  canon_tiles x q
  case piece0 =>
    refine (congrArg _ (eq_ix2 x)).trans ((Rows.query1_ops (Rows.chunk (k0_pay4 (F := Ideal) (iblk m c 0 t) (iblk m c 1 t)) (k0_pay5 (F := Ideal) (iblk m c 0 t) (iblk m c 1 t)) _ _) _ _ _ _).trans ?_)
    exact query_blk m c t (x 0) 15 (by decide) _ (fun l => acc_blk m c t 1792 (by decide) _ _ (fun k j => by pointwise) (fun j => by pointwise) _ _ _ (by dsimp only <;> omega)) (x 1) _ (Fin.ext ((congrArg (t.val * 384 + ·) q0.symm).trans hr)) _ (hc.symm.trans (by omega))
  case piece1 =>
    refine (congrArg _ (eq_ix2 x)).trans ((Rows.query0_ops (Rows.chunk (k0_pay4 (F := Ideal) (iblk m c 0 t) (iblk m c 1 t)) (k0_pay5 (F := Ideal) (iblk m c 0 t) (iblk m c 1 t)) _ _) _ _ _ _).trans ?_)
    exact query_blk m c t (x 0) 14 (by decide) _ (fun l => acc_blk m c t 1792 (by decide) _ _ (fun k j => by pointwise) (fun j => by pointwise) _ _ _ (by dsimp only <;> omega)) (x 1) _ (Fin.ext ((congrArg (t.val * 384 + ·) q0.symm).trans hr)) _ (hc.symm.trans (by omega))
  case piece2 =>
    refine (congrArg _ (eq_ix2 x)).trans ((Rows.query1_ops (Rows.chunk (k0_pay4 (F := Ideal) (iblk m c 0 t) (iblk m c 1 t)) (k0_pay5 (F := Ideal) (iblk m c 0 t) (iblk m c 1 t)) _ _) _ _ _ _).trans ?_)
    exact query_blk m c t (x 0) 13 (by decide) _ (fun l => acc_blk m c t 1536 (by decide) _ _ (fun k j => by pointwise) (fun j => by pointwise) _ _ _ (by dsimp only <;> omega)) (x 1) _ (Fin.ext ((congrArg (t.val * 384 + ·) q0.symm).trans hr)) _ (hc.symm.trans (by omega))
  case piece3 =>
    refine (congrArg _ (eq_ix2 x)).trans ((Rows.query0_ops (Rows.chunk (k0_pay4 (F := Ideal) (iblk m c 0 t) (iblk m c 1 t)) (k0_pay5 (F := Ideal) (iblk m c 0 t) (iblk m c 1 t)) _ _) _ _ _ _).trans ?_)
    exact query_blk m c t (x 0) 12 (by decide) _ (fun l => acc_blk m c t 1536 (by decide) _ _ (fun k j => by pointwise) (fun j => by pointwise) _ _ _ (by dsimp only <;> omega)) (x 1) _ (Fin.ext ((congrArg (t.val * 384 + ·) q0.symm).trans hr)) _ (hc.symm.trans (by omega))
  case piece4 =>
    refine (congrArg _ (eq_ix2 x)).trans ((Rows.query1_ops (Rows.chunk (k0_pay4 (F := Ideal) (iblk m c 0 t) (iblk m c 1 t)) (k0_pay5 (F := Ideal) (iblk m c 0 t) (iblk m c 1 t)) _ _) _ _ _ _).trans ?_)
    exact query_blk m c t (x 0) 11 (by decide) _ (fun l => acc_blk m c t 1280 (by decide) _ _ (fun k j => by pointwise) (fun j => by pointwise) _ _ _ (by dsimp only <;> omega)) (x 1) _ (Fin.ext ((congrArg (t.val * 384 + ·) q0.symm).trans hr)) _ (hc.symm.trans (by omega))
  case piece5 =>
    refine (congrArg _ (eq_ix2 x)).trans ((Rows.query0_ops (Rows.chunk (k0_pay4 (F := Ideal) (iblk m c 0 t) (iblk m c 1 t)) (k0_pay5 (F := Ideal) (iblk m c 0 t) (iblk m c 1 t)) _ _) _ _ _ _).trans ?_)
    exact query_blk m c t (x 0) 10 (by decide) _ (fun l => acc_blk m c t 1280 (by decide) _ _ (fun k j => by pointwise) (fun j => by pointwise) _ _ _ (by dsimp only <;> omega)) (x 1) _ (Fin.ext ((congrArg (t.val * 384 + ·) q0.symm).trans hr)) _ (hc.symm.trans (by omega))
  case piece6 =>
    refine (congrArg _ (eq_ix2 x)).trans ((Rows.query1_ops (Rows.chunk (k0_pay4 (F := Ideal) (iblk m c 0 t) (iblk m c 1 t)) (k0_pay5 (F := Ideal) (iblk m c 0 t) (iblk m c 1 t)) _ _) _ _ _ _).trans ?_)
    exact query_blk m c t (x 0) 9 (by decide) _ (fun l => acc_blk m c t 1024 (by decide) _ _ (fun k j => by pointwise) (fun j => by pointwise) _ _ _ (by dsimp only <;> omega)) (x 1) _ (Fin.ext ((congrArg (t.val * 384 + ·) q0.symm).trans hr)) _ (hc.symm.trans (by omega))
  case piece7 =>
    refine (congrArg _ (eq_ix2 x)).trans ((Rows.query0_ops (Rows.chunk (k0_pay4 (F := Ideal) (iblk m c 0 t) (iblk m c 1 t)) (k0_pay5 (F := Ideal) (iblk m c 0 t) (iblk m c 1 t)) _ _) _ _ _ _).trans ?_)
    exact query_blk m c t (x 0) 8 (by decide) _ (fun l => acc_blk m c t 1024 (by decide) _ _ (fun k j => by pointwise) (fun j => by pointwise) _ _ _ (by dsimp only <;> omega)) (x 1) _ (Fin.ext ((congrArg (t.val * 384 + ·) q0.symm).trans hr)) _ (hc.symm.trans (by omega))
  case piece8 =>
    refine (congrArg _ (eq_ix2 x)).trans ((Rows.query1_ops (Rows.chunk (k0_pay4 (F := Ideal) (iblk m c 0 t) (iblk m c 1 t)) (k0_pay5 (F := Ideal) (iblk m c 0 t) (iblk m c 1 t)) _ _) _ _ _ _).trans ?_)
    exact query_blk m c t (x 0) 7 (by decide) _ (fun l => acc_blk m c t 768 (by decide) _ _ (fun k j => by pointwise) (fun j => by pointwise) _ _ _ (by dsimp only <;> omega)) (x 1) _ (Fin.ext ((congrArg (t.val * 384 + ·) q0.symm).trans hr)) _ (hc.symm.trans (by omega))
  case piece9 =>
    refine (congrArg _ (eq_ix2 x)).trans ((Rows.query0_ops (Rows.chunk (k0_pay4 (F := Ideal) (iblk m c 0 t) (iblk m c 1 t)) (k0_pay5 (F := Ideal) (iblk m c 0 t) (iblk m c 1 t)) _ _) _ _ _ _).trans ?_)
    exact query_blk m c t (x 0) 6 (by decide) _ (fun l => acc_blk m c t 768 (by decide) _ _ (fun k j => by pointwise) (fun j => by pointwise) _ _ _ (by dsimp only <;> omega)) (x 1) _ (Fin.ext ((congrArg (t.val * 384 + ·) q0.symm).trans hr)) _ (hc.symm.trans (by omega))
  case piece10 =>
    refine (congrArg _ (eq_ix2 x)).trans ((Rows.query1_ops (Rows.chunk (k0_pay4 (F := Ideal) (iblk m c 0 t) (iblk m c 1 t)) (k0_pay5 (F := Ideal) (iblk m c 0 t) (iblk m c 1 t)) _ _) _ _ _ _).trans ?_)
    exact query_blk m c t (x 0) 5 (by decide) _ (fun l => acc_blk m c t 512 (by decide) _ _ (fun k j => by pointwise) (fun j => by pointwise) _ _ _ (by dsimp only <;> omega)) (x 1) _ (Fin.ext ((congrArg (t.val * 384 + ·) q0.symm).trans hr)) _ (hc.symm.trans (by omega))
  case piece11 =>
    refine (congrArg _ (eq_ix2 x)).trans ((Rows.query0_ops (Rows.chunk (k0_pay4 (F := Ideal) (iblk m c 0 t) (iblk m c 1 t)) (k0_pay5 (F := Ideal) (iblk m c 0 t) (iblk m c 1 t)) _ _) _ _ _ _).trans ?_)
    exact query_blk m c t (x 0) 4 (by decide) _ (fun l => acc_blk m c t 512 (by decide) _ _ (fun k j => by pointwise) (fun j => by pointwise) _ _ _ (by dsimp only <;> omega)) (x 1) _ (Fin.ext ((congrArg (t.val * 384 + ·) q0.symm).trans hr)) _ (hc.symm.trans (by omega))
  case piece12 =>
    refine (congrArg _ (eq_ix2 x)).trans ((Rows.query1_ops (Rows.chunk (k0_pay4 (F := Ideal) (iblk m c 0 t) (iblk m c 1 t)) (k0_pay5 (F := Ideal) (iblk m c 0 t) (iblk m c 1 t)) _ _) _ _ _ _).trans ?_)
    exact query_blk m c t (x 0) 3 (by decide) _ (fun l => acc_blk m c t 256 (by decide) _ _ (fun k j => by pointwise) (fun j => by pointwise) _ _ _ (by dsimp only <;> omega)) (x 1) _ (Fin.ext ((congrArg (t.val * 384 + ·) q0.symm).trans hr)) _ (hc.symm.trans (by omega))
  case piece13 =>
    refine (congrArg _ (eq_ix2 x)).trans ((Rows.query0_ops (Rows.chunk (k0_pay4 (F := Ideal) (iblk m c 0 t) (iblk m c 1 t)) (k0_pay5 (F := Ideal) (iblk m c 0 t) (iblk m c 1 t)) _ _) _ _ _ _).trans ?_)
    exact query_blk m c t (x 0) 2 (by decide) _ (fun l => acc_blk m c t 256 (by decide) _ _ (fun k j => by pointwise) (fun j => by pointwise) _ _ _ (by dsimp only <;> omega)) (x 1) _ (Fin.ext ((congrArg (t.val * 384 + ·) q0.symm).trans hr)) _ (hc.symm.trans (by omega))
  case piece14 =>
    refine (congrArg _ (eq_ix2 x)).trans ((Rows.query1_ops (Rows.chunk (k0_pay4 (F := Ideal) (iblk m c 0 t) (iblk m c 1 t)) (k0_pay5 (F := Ideal) (iblk m c 0 t) (iblk m c 1 t)) _ _) _ _ _ _).trans ?_)
    exact query_blk m c t (x 0) 1 (by decide) _ (fun l => acc_blk m c t 0 (by decide) _ _ (fun k j => by pointwise) (fun j => by pointwise) _ _ _ (by dsimp only <;> omega)) (x 1) _ (Fin.ext ((congrArg (t.val * 384 + ·) q0.symm).trans hr)) _ (hc.symm.trans (by omega))
  case piece15 =>
    refine (congrArg _ (eq_ix2 x)).trans ((Rows.query0_ops (Rows.chunk (k0_pay4 (F := Ideal) (iblk m c 0 t) (iblk m c 1 t)) (k0_pay5 (F := Ideal) (iblk m c 0 t) (iblk m c 1 t)) _ _) _ _ _ _).trans ?_)
    exact query_blk m c t (x 0) 0 (by decide) _ (fun l => acc_blk m c t 0 (by decide) _ _ (fun k j => by pointwise) (fun j => by pointwise) _ _ _ (by dsimp only <;> omega)) (x 1) _ (Fin.ext ((congrArg (t.val * 384 + ·) q0.symm).trans hr)) _ (hc.symm.trans (by omega))

/-- Window 11 after the run: the key codes. -/
theorem final11 (c : Dev nD) : (dats m 0 c).arrAt 11 cfg0.N = fun i => keyCode m c (i 0) (i 1) := by
  refine (dats m 0 c).arrAt_eq_of_covers 11 _ (by decide +kernel) fun t _ y => ?_
  blk_simp
  rw [after0_11]
  unfold Gen.outsAt0
  frame_out
  have hr := congrArg Fin.val (row11 t y)
  have hc := congrArg Fin.val (col11 t y)
  canon_tiles x q
  case piece0 =>
    refine (congrArg _ (eq_ix2 x)).trans ((Rows.key1_ops (Rows.chunk (k0_pay4 (F := Ideal) (iblk m c 0 t) (iblk m c 1 t)) (k0_pay5 (F := Ideal) (iblk m c 0 t) (iblk m c 1 t)) _ _) _ _ _ _ _).trans ?_)
    exact key_blk m c t (x 0) 7 (by decide) _ (fun l => acc_blk m c t 2816 (by decide) _ _ (fun k j => by pointwise) (fun j => by pointwise) _ _ _ (by dsimp only <;> omega)) _ (by pointwise <;> rfl) (x 1) _ (Fin.ext ((congrArg (t.val * 384 + ·) q0.symm).trans hr)) _ (hc.symm.trans (by omega))
  case piece1 =>
    refine (congrArg _ (eq_ix2 x)).trans ((Rows.key0_ops (Rows.chunk (k0_pay4 (F := Ideal) (iblk m c 0 t) (iblk m c 1 t)) (k0_pay5 (F := Ideal) (iblk m c 0 t) (iblk m c 1 t)) _ _) _ _ _ _ _).trans ?_)
    exact key_blk m c t (x 0) 6 (by decide) _ (fun l => acc_blk m c t 2816 (by decide) _ _ (fun k j => by pointwise) (fun j => by pointwise) _ _ _ (by dsimp only <;> omega)) _ (by pointwise <;> rfl) (x 1) _ (Fin.ext ((congrArg (t.val * 384 + ·) q0.symm).trans hr)) _ (hc.symm.trans (by omega))
  case piece2 =>
    refine (congrArg _ (eq_ix2 x)).trans ((Rows.key1_ops (Rows.chunk (k0_pay4 (F := Ideal) (iblk m c 0 t) (iblk m c 1 t)) (k0_pay5 (F := Ideal) (iblk m c 0 t) (iblk m c 1 t)) _ _) _ _ _ _ _).trans ?_)
    exact key_blk m c t (x 0) 5 (by decide) _ (fun l => acc_blk m c t 2560 (by decide) _ _ (fun k j => by pointwise) (fun j => by pointwise) _ _ _ (by dsimp only <;> omega)) _ (by pointwise <;> rfl) (x 1) _ (Fin.ext ((congrArg (t.val * 384 + ·) q0.symm).trans hr)) _ (hc.symm.trans (by omega))
  case piece3 =>
    refine (congrArg _ (eq_ix2 x)).trans ((Rows.key0_ops (Rows.chunk (k0_pay4 (F := Ideal) (iblk m c 0 t) (iblk m c 1 t)) (k0_pay5 (F := Ideal) (iblk m c 0 t) (iblk m c 1 t)) _ _) _ _ _ _ _).trans ?_)
    exact key_blk m c t (x 0) 4 (by decide) _ (fun l => acc_blk m c t 2560 (by decide) _ _ (fun k j => by pointwise) (fun j => by pointwise) _ _ _ (by dsimp only <;> omega)) _ (by pointwise <;> rfl) (x 1) _ (Fin.ext ((congrArg (t.val * 384 + ·) q0.symm).trans hr)) _ (hc.symm.trans (by omega))
  case piece4 =>
    refine (congrArg _ (eq_ix2 x)).trans ((Rows.key1_ops (Rows.chunk (k0_pay4 (F := Ideal) (iblk m c 0 t) (iblk m c 1 t)) (k0_pay5 (F := Ideal) (iblk m c 0 t) (iblk m c 1 t)) _ _) _ _ _ _ _).trans ?_)
    exact key_blk m c t (x 0) 3 (by decide) _ (fun l => acc_blk m c t 2304 (by decide) _ _ (fun k j => by pointwise) (fun j => by pointwise) _ _ _ (by dsimp only <;> omega)) _ (by pointwise <;> rfl) (x 1) _ (Fin.ext ((congrArg (t.val * 384 + ·) q0.symm).trans hr)) _ (hc.symm.trans (by omega))
  case piece5 =>
    refine (congrArg _ (eq_ix2 x)).trans ((Rows.key0_ops (Rows.chunk (k0_pay4 (F := Ideal) (iblk m c 0 t) (iblk m c 1 t)) (k0_pay5 (F := Ideal) (iblk m c 0 t) (iblk m c 1 t)) _ _) _ _ _ _ _).trans ?_)
    exact key_blk m c t (x 0) 2 (by decide) _ (fun l => acc_blk m c t 2304 (by decide) _ _ (fun k j => by pointwise) (fun j => by pointwise) _ _ _ (by dsimp only <;> omega)) _ (by pointwise <;> rfl) (x 1) _ (Fin.ext ((congrArg (t.val * 384 + ·) q0.symm).trans hr)) _ (hc.symm.trans (by omega))
  case piece6 =>
    refine (congrArg _ (eq_ix2 x)).trans ((Rows.key1_ops (Rows.chunk (k0_pay4 (F := Ideal) (iblk m c 0 t) (iblk m c 1 t)) (k0_pay5 (F := Ideal) (iblk m c 0 t) (iblk m c 1 t)) _ _) _ _ _ _ _).trans ?_)
    exact key_blk m c t (x 0) 1 (by decide) _ (fun l => acc_blk m c t 2048 (by decide) _ _ (fun k j => by pointwise) (fun j => by pointwise) _ _ _ (by dsimp only <;> omega)) _ (by pointwise <;> rfl) (x 1) _ (Fin.ext ((congrArg (t.val * 384 + ·) q0.symm).trans hr)) _ (hc.symm.trans (by omega))
  case piece7 =>
    refine (congrArg _ (eq_ix2 x)).trans ((Rows.key0_ops (Rows.chunk (k0_pay4 (F := Ideal) (iblk m c 0 t) (iblk m c 1 t)) (k0_pay5 (F := Ideal) (iblk m c 0 t) (iblk m c 1 t)) _ _) _ _ _ _ _).trans ?_)
    exact key_blk m c t (x 0) 0 (by decide) _ (fun l => acc_blk m c t 2048 (by decide) _ _ (fun k j => by pointwise) (fun j => by pointwise) _ _ _ (by dsimp only <;> omega)) _ (by pointwise <;> rfl) (x 1) _ (Fin.ext ((congrArg (t.val * 384 + ·) q0.symm).trans hr)) _ (hc.symm.trans (by omega))

/-- Window 12 after the run: the value codes. -/
theorem final12 (c : Dev nD) : (dats m 0 c).arrAt 12 cfg0.N = fun i => valCode m c (i 0) (i 1) := by
  refine (dats m 0 c).arrAt_eq_of_covers 12 _ (by decide +kernel) fun t _ y => ?_
  blk_simp
  rw [after0_12]
  unfold Gen.outsAt0
  frame_out
  have hr := congrArg Fin.val (row12 t y)
  have hc := congrArg Fin.val (col12 t y)
  canon_tiles x q
  case piece0 =>
    refine (congrArg _ (eq_ix2 x)).trans ((Rows.value1_ops (Rows.chunk (k0_pay4 (F := Ideal) (iblk m c 0 t) (iblk m c 1 t)) (k0_pay5 (F := Ideal) (iblk m c 0 t) (iblk m c 1 t)) _ _) _ _ _).trans ?_)
    exact value_blk m c t (x 0) 7 (by decide) (x 1) _ (acc_blk m c t 3840 (by decide) _ _ (fun k j => by pointwise) (fun j => by pointwise) _ _ _ (by dsimp only <;> omega)) _ (by pointwise <;> rfl) _ (Fin.ext ((congrArg (t.val * 384 + ·) q0.symm).trans hr)) _ (hc.symm.trans (by omega))
  case piece1 =>
    refine (congrArg _ (eq_ix2 x)).trans ((Rows.value0_ops (Rows.chunk (k0_pay4 (F := Ideal) (iblk m c 0 t) (iblk m c 1 t)) (k0_pay5 (F := Ideal) (iblk m c 0 t) (iblk m c 1 t)) _ _) _ _ _).trans ?_)
    exact value_blk m c t (x 0) 6 (by decide) (x 1) _ (acc_blk m c t 3840 (by decide) _ _ (fun k j => by pointwise) (fun j => by pointwise) _ _ _ (by dsimp only <;> omega)) _ (by pointwise <;> rfl) _ (Fin.ext ((congrArg (t.val * 384 + ·) q0.symm).trans hr)) _ (hc.symm.trans (by omega))
  case piece2 =>
    refine (congrArg _ (eq_ix2 x)).trans ((Rows.value1_ops (Rows.chunk (k0_pay4 (F := Ideal) (iblk m c 0 t) (iblk m c 1 t)) (k0_pay5 (F := Ideal) (iblk m c 0 t) (iblk m c 1 t)) _ _) _ _ _).trans ?_)
    exact value_blk m c t (x 0) 5 (by decide) (x 1) _ (acc_blk m c t 3584 (by decide) _ _ (fun k j => by pointwise) (fun j => by pointwise) _ _ _ (by dsimp only <;> omega)) _ (by pointwise <;> rfl) _ (Fin.ext ((congrArg (t.val * 384 + ·) q0.symm).trans hr)) _ (hc.symm.trans (by omega))
  case piece3 =>
    refine (congrArg _ (eq_ix2 x)).trans ((Rows.value0_ops (Rows.chunk (k0_pay4 (F := Ideal) (iblk m c 0 t) (iblk m c 1 t)) (k0_pay5 (F := Ideal) (iblk m c 0 t) (iblk m c 1 t)) _ _) _ _ _).trans ?_)
    exact value_blk m c t (x 0) 4 (by decide) (x 1) _ (acc_blk m c t 3584 (by decide) _ _ (fun k j => by pointwise) (fun j => by pointwise) _ _ _ (by dsimp only <;> omega)) _ (by pointwise <;> rfl) _ (Fin.ext ((congrArg (t.val * 384 + ·) q0.symm).trans hr)) _ (hc.symm.trans (by omega))
  case piece4 =>
    refine (congrArg _ (eq_ix2 x)).trans ((Rows.value1_ops (Rows.chunk (k0_pay4 (F := Ideal) (iblk m c 0 t) (iblk m c 1 t)) (k0_pay5 (F := Ideal) (iblk m c 0 t) (iblk m c 1 t)) _ _) _ _ _).trans ?_)
    exact value_blk m c t (x 0) 3 (by decide) (x 1) _ (acc_blk m c t 3328 (by decide) _ _ (fun k j => by pointwise) (fun j => by pointwise) _ _ _ (by dsimp only <;> omega)) _ (by pointwise <;> rfl) _ (Fin.ext ((congrArg (t.val * 384 + ·) q0.symm).trans hr)) _ (hc.symm.trans (by omega))
  case piece5 =>
    refine (congrArg _ (eq_ix2 x)).trans ((Rows.value0_ops (Rows.chunk (k0_pay4 (F := Ideal) (iblk m c 0 t) (iblk m c 1 t)) (k0_pay5 (F := Ideal) (iblk m c 0 t) (iblk m c 1 t)) _ _) _ _ _).trans ?_)
    exact value_blk m c t (x 0) 2 (by decide) (x 1) _ (acc_blk m c t 3328 (by decide) _ _ (fun k j => by pointwise) (fun j => by pointwise) _ _ _ (by dsimp only <;> omega)) _ (by pointwise <;> rfl) _ (Fin.ext ((congrArg (t.val * 384 + ·) q0.symm).trans hr)) _ (hc.symm.trans (by omega))
  case piece6 =>
    refine (congrArg _ (eq_ix2 x)).trans ((Rows.value1_ops (Rows.chunk (k0_pay4 (F := Ideal) (iblk m c 0 t) (iblk m c 1 t)) (k0_pay5 (F := Ideal) (iblk m c 0 t) (iblk m c 1 t)) _ _) _ _ _).trans ?_)
    exact value_blk m c t (x 0) 1 (by decide) (x 1) _ (acc_blk m c t 3072 (by decide) _ _ (fun k j => by pointwise) (fun j => by pointwise) _ _ _ (by dsimp only <;> omega)) _ (by pointwise <;> rfl) _ (Fin.ext ((congrArg (t.val * 384 + ·) q0.symm).trans hr)) _ (hc.symm.trans (by omega))
  case piece7 =>
    refine (congrArg _ (eq_ix2 x)).trans ((Rows.value0_ops (Rows.chunk (k0_pay4 (F := Ideal) (iblk m c 0 t) (iblk m c 1 t)) (k0_pay5 (F := Ideal) (iblk m c 0 t) (iblk m c 1 t)) _ _) _ _ _).trans ?_)
    exact value_blk m c t (x 0) 0 (by decide) (x 1) _ (acc_blk m c t 3072 (by decide) _ _ (fun k j => by pointwise) (fun j => by pointwise) _ _ _ (by dsimp only <;> omega)) _ (by pointwise <;> rfl) _ (Fin.ext ((congrArg (t.val * 384 + ·) q0.symm).trans hr)) _ (hc.symm.trans (by omega))

end Cert.QkvIdeal.Blocks

end
-- ==== Proof.QkvRefRows.lean ====
/- The q/k/v reference, row by row: what its vector operations give at one token and column, in the layer's terms. -/
module

public import proofs.«01_k».proof.Proof.Gen.QkvRefIdeal.Skeleton
public import proofs.«01_k».proof.Proof.Heads

@[expose] public section

set_option maxRecDepth 1614208

noncomputable section

namespace Cert.QkvRefIdeal.Rows

open Idealize.ShloMosaic Idealize.ShloMosaic.TcCoe Idealize.SL.Sem
open Cert.QkvRefIdeal Cert.QkvRefIdeal.Gen Cert.Layer

/-- The normed input. -/
theorem y_at (x : FVec Ideal S14208x4608 .bf16) (g : FVec Ideal S1x4608 .f32) (r : Fin 14208) (j : Fin 4608) :
    k0_pay3 (F := Ideal) x g (ix2 r j) = normed (fun j => x (ix2 r j)) (fun j => g (ix2 0 j)) j := by
  pointwise [k0_pay3]
  rfl

/-- A row's greatest magnitude, over any block. -/
theorem maxAbs_ops (z : FVec Ideal S14208x4608 .f32) (r : Fin 14208) :
    shapeCast S14208x1 (multiReduction .maximumf [1] S14208 (absf z) 0xFF800000#32 reduces_S14208x4608_S14208 (.inl rfl) rfl) shapeCasts_S14208_S14208x1 (ix2 r 0)
      = maxAbs fun x => z (ix2 r x) := by
  pointwise
  rfl

/-- A scale from a greatest magnitude, over any column. -/
theorem quantScale_ops (a : FVec Ideal S14208x1 .f32) (r : Fin 14208) :
    select (cmpf .oeq a (broadcast S14208x1 (Scalar.ofBits .f32 0x00000000#32))) (broadcast S14208x1 (Scalar.ofBits .f32 0x3F800000#32))
        (divf a (broadcast S14208x1 (Scalar.ofBits .f32 0x43E00000#32))) (ix2 r 0) = quantScale (a (ix2 r 0)) := by
  pointwise
  rfl

/-- The codes of a block under a column of scales. -/
theorem quantCode_ops (z : FVec Ideal S14208x4608 .f32) (s : FVec Ideal S14208x1 .f32) (r : Fin 14208) (j : Fin 4608) :
    truncf .fp8e4m3 (minimumf (broadcast S14208x4608 (Scalar.ofBits .f32 0x43E00000#32))
      (maximumf (broadcast S14208x4608 (Scalar.ofBits .f32 0xC3E00000#32))
        (divf z (broadcastTo S14208x4608 s broadcasts_S14208x1_S14208x4608)))) bitsLt_fp8e4m3_f32 (ix2 r j)
      = quantCode (z (ix2 r j)) (s (ix2 r 0)) := by
  pointwise
  rfl

/-- The scale column spread over 128 lanes. -/
theorem spread_ops (s : FVec Ideal S14208x1 .f32) (r : Fin 14208) (l : Fin 128) :
    broadcastTo S14208x128 (shapeCast S14208x1 s shapeCasts_S14208x1_S14208x1) broadcasts_S14208x1_S14208x128 (ix2 r l) = s (ix2 r 0) := by
  pointwise

section
variable (x : FVec Ideal S14208x4608 .bf16) (g : FVec Ideal S1x4608 .f32)

/-- The scales: those of the rows' greatest magnitudes. -/
theorem scale_at (r : Fin 14208) : k0_pay4 (F := Ideal) x g (ix2 r 0) = rowScale fun j => k0_pay3 (F := Ideal) x g (ix2 r j) :=
  (quantScale_ops _ r).trans (congrArg quantScale (maxAbs_ops _ r))

/-- The codes. -/
theorem code_at (r : Fin 14208) (j : Fin 4608) :
    k0_pay5 (F := Ideal) x g (ix2 r j) = quantCode (k0_pay3 (F := Ideal) x g (ix2 r j)) (k0_pay4 (F := Ideal) x g (ix2 r 0)) :=
  quantCode_ops _ _ r j

/-- The scale output: every lane holds the row's scale. -/
theorem spread_at (r : Fin 14208) (l : Fin 128) : k0_pay6 (F := Ideal) x g (ix2 r l) = k0_pay4 (F := Ideal) x g (ix2 r 0) :=
  spread_ops _ r l
end

/-- The linear layer's columns, from the codes and their scales. -/
theorem lin_at (s : FVec Ideal S14208x1 .f32) (x : FVec Ideal S14208x4608 .fp8e4m3) (w : FVec Ideal S4608x4096 .fp8e4m3) (ws : FVec Ideal S1x4096 .f32)
    (r : Fin 14208) (j : Fin 4096) :
    k0_pay7 (F := Ideal) s x w ws (ix2 r j) = linear (fun k => x (ix2 r k)) (fun k => w (ix2 k j)) (s (ix2 r 0)) (ws (ix2 0 j)) := by
  pointwise [k0_pay7]
  rfl

/-- The queries, over any columns `acc` of the linear layer. -/
theorem query_ops (acc : FVec Ideal S14208x4096 .f32) (cs sn : FVec Ideal S14208x64 .f32) (r : Fin 14208) (j : Fin 2048) :
    (have v46 : FVec Ideal S14208x2048 .f32 := extractStridedSlice S14208x2048 ![0, 0] acc slices_S14208x4096_o0_0_S14208x2048
     have v47 : FVec Ideal S14208x16x128 .f32 := shapeCast S14208x16x128 v46 shapeCasts_S14208x2048_S14208x16x128
     have v54 : FVec Ideal S14208x16x64 .f32 := extractStridedSlice S14208x16x64 ![0, 0, 0] v47 slices_S14208x16x128_o0_0_0_S14208x16x64
     have v55 : FVec Ideal S14208x16x64 .f32 := extractStridedSlice S14208x16x64 ![0, 0, 64] v47 slices_S14208x16x128_o0_0_64_S14208x16x64
     have v56 : FVec Ideal S14208x1x64 .f32 := shapeCast S14208x1x64 cs shapeCasts_S14208x64_S14208x1x64
     have v57 : FVec Ideal S14208x1x64 .f32 := shapeCast S14208x1x64 sn shapeCasts_S14208x64_S14208x1x64
     have v58 : FVec Ideal S14208x16x64 .f32 := broadcastTo S14208x16x64 v56 broadcasts_S14208x1x64_S14208x16x64
     have v60 : FVec Ideal S14208x16x64 .f32 := broadcastTo S14208x16x64 v57 broadcasts_S14208x1x64_S14208x16x64
     have v62 : FVec Ideal S14208x16x64 .f32 := subf (mulf v54 v58) (mulf v55 v60)
     have v67 : FVec Ideal S14208x16x64 .f32 := addf (mulf v55 v58) (mulf v54 v60)
     have v68 : FVec Ideal S14208x16x128 .f32 := concatenate S14208x16x128 2 [⟨S14208x16x64, v62⟩, ⟨S14208x16x64, v67⟩] concatenates_S14208x16x64_S14208x16x64_S14208x16x128_d2
     have v70 : FVec Ideal S14208x16x128 .f32 := mulf v68 (broadcast S14208x16x128 (Scalar.ofBits (F := Ideal) .f32 0x3DAAAAAB#32))
     have v71 : FVec Ideal S14208x16x128 .bf16 := truncf .bf16 v70 bitsLt_bf16_f32
     shapeCast S14208x2048 v71 shapeCasts_S14208x16x128_S14208x2048) (ix2 r j)
      = rope (fun l => acc (ix2 r ⟨j / 128 * 128 + l, by omega⟩)) (fun x => cs (ix2 r x)) (fun x => sn (ix2 r x)) ⟨j % 128, by omega⟩ * Ideal.ofBits .f32 0x3DAAAAAB#32 := by
  have e1 : j.val / 128 * 128 + j.val % 128 = j := by omega
  unfold rope
  pointwise
  simp only [e1]
  split
  · rfl
  · have e2 : 64 + (j.val % 128 - 64) = j.val % 128 := by omega
    simp only [e2, e1]

section
variable (acc : FVec Ideal S14208x4096 .f32) (cs sn : FVec Ideal S14208x64 .f32)

/-- The key columns of `acc`, head by head. -/
abbrev keys : FVec Ideal S14208x8x128 .f32 :=
  shapeCast S14208x8x128 (extractStridedSlice S14208x1024 ![0, 2048] acc slices_S14208x4096_o0_2048_S14208x1024) shapeCasts_S14208x1024_S14208x8x128

/-- The key codes, over any columns `acc` of the linear layer. -/
theorem key_ops (ks : FVec Ideal S1x8x1 .f32) (r : Fin 14208) (j : Fin 1024) :
    k0_pay1 (F := Ideal)
      (subf (mulf (extractStridedSlice S14208x8x64 ![0, 0, 0] (keys acc) slices_S14208x8x128_o0_0_0_S14208x8x64)
          (broadcastTo S14208x8x64 (k0_pay13 (F := Ideal) cs) broadcasts_S14208x1x64_S14208x8x64))
        (mulf (extractStridedSlice S14208x8x64 ![0, 0, 64] (keys acc) slices_S14208x8x128_o0_0_64_S14208x8x64)
          (broadcastTo S14208x8x64 (k0_pay14 (F := Ideal) sn) broadcasts_S14208x1x64_S14208x8x64)))
      (mulf (extractStridedSlice S14208x8x64 ![0, 0, 64] (keys acc) slices_S14208x8x128_o0_0_64_S14208x8x64)
        (broadcastTo S14208x8x64 (k0_pay13 (F := Ideal) cs) broadcasts_S14208x1x64_S14208x8x64))
      (mulf (extractStridedSlice S14208x8x64 ![0, 0, 0] (keys acc) slices_S14208x8x128_o0_0_0_S14208x8x64)
        (broadcastTo S14208x8x64 (k0_pay14 (F := Ideal) sn) broadcasts_S14208x1x64_S14208x8x64))
      ks (ix2 r j)
      = quantCode (rope (fun l => acc (ix2 r ⟨2048 + (j / 128 * 128 + l), by omega⟩)) (fun x => cs (ix2 r x)) (fun x => sn (ix2 r x)) ⟨j % 128, by omega⟩)
          (ks (ix3 0 ⟨j / 128, by omega⟩ 0)) := by
  have e1 : j.val / 128 * 128 + j.val % 128 = j := by omega
  unfold rope quantCode
  pointwise [keys, k0_pay1, k0_pay13, k0_pay14]
  simp only [e1]
  split
  · rfl
  · have e2 : 64 + (j.val % 128 - 64) = j.val % 128 := by omega
    simp only [e2, e1]

/-- The value codes, over any columns `acc` of the linear layer. -/
theorem value_ops (vs : FVec Ideal S1x8x1 .f32) (r : Fin 14208) (j : Fin 1024) :
    k0_pay2 (F := Ideal) (shapeCast S14208x8x128 (extractStridedSlice S14208x1024 ![0, 3072] acc slices_S14208x4096_o0_3072_S14208x1024) shapeCasts_S14208x1024_S14208x8x128)
        vs (ix2 r j)
      = quantCode (acc (ix2 r ⟨3072 + j, by omega⟩)) (vs (ix3 0 ⟨j / 128, by omega⟩ 0)) := by
  unfold quantCode
  pointwise [k0_pay2]
end

section
variable (s : FVec Ideal S14208x1 .f32) (x : FVec Ideal S14208x4608 .fp8e4m3) (w : FVec Ideal S4608x4096 .fp8e4m3) (ws : FVec Ideal S1x4096 .f32)
  (cs sn : FVec Ideal S14208x64 .f32)

/-- The queries, from the codes and their scales. -/
theorem query_at (r : Fin 14208) (j : Fin 2048) :
    k0_pay10 (F := Ideal) s x w ws cs sn (ix2 r j)
      = rope (fun l => k0_pay7 (F := Ideal) s x w ws (ix2 r ⟨j / 128 * 128 + l, by omega⟩)) (fun x => cs (ix2 r x)) (fun x => sn (ix2 r x)) ⟨j % 128, by omega⟩
          * Ideal.ofBits .f32 0x3DAAAAAB#32 :=
  query_ops (k0_pay7 (F := Ideal) s x w ws) cs sn r j

/-- The key codes, from the codes and their scales. -/
theorem key_at (ks : FVec Ideal S1x8x1 .f32) (r : Fin 14208) (j : Fin 1024) :
    k0_pay1 (F := Ideal) (k0_pay15 (F := Ideal) s x w ws cs sn) (k0_pay16 (F := Ideal) s x w ws cs) (k0_pay17 (F := Ideal) s x w ws sn) ks (ix2 r j)
      = quantCode (rope (fun l => k0_pay7 (F := Ideal) s x w ws (ix2 r ⟨2048 + (j / 128 * 128 + l), by omega⟩)) (fun x => cs (ix2 r x)) (fun x => sn (ix2 r x))
          ⟨j % 128, by omega⟩) (ks (ix3 0 ⟨j / 128, by omega⟩ 0)) := by
  unfold k0_pay15 k0_pay16 k0_pay17 k0_pay11 k0_pay12 k0_pay8
  exact key_ops (k0_pay7 (F := Ideal) s x w ws) cs sn ks r j

/-- The value codes, from the codes and their scales. -/
theorem value_at (vs : FVec Ideal S1x8x1 .f32) (r : Fin 14208) (j : Fin 1024) :
    k0_pay2 (F := Ideal) (k0_pay9 (F := Ideal) s x w ws) vs (ix2 r j)
      = quantCode (k0_pay7 (F := Ideal) s x w ws (ix2 r ⟨3072 + j, by omega⟩)) (vs (ix3 0 ⟨j / 128, by omega⟩ 0)) :=
  value_ops (k0_pay7 (F := Ideal) s x w ws) vs r j
end

end Cert.QkvRefIdeal.Rows

end
-- ==== Proof.QkvRefValue.lean ====
/- The q/k/v reference's five result arrays after the run, as functions of the argument arrays: one point over whole arrays. -/
module

public import proofs.«01_k».proof.Proof.Gen.QkvRefIdeal.Value
public import proofs.«01_k».proof.Proof.QkvRefRows
public import Idealize.ShloMosaic.Lib.Pipeline.ValueKit
public import Idealize.ShloMosaic.Lib.Claim

@[expose] public section

set_option maxRecDepth 1614208

noncomputable section

namespace Cert.QkvRefIdeal.Blocks

open Idealize.ShloMosaic Idealize.ShloMosaic.TcCoe Idealize.SL.Sem
open Idealize.ShloMosaic.Pipeline (Dat)
open Cert.QkvRefIdeal Cert.QkvRefIdeal.Gen Cert.Layer

variable (m : (ℓ : Loc nD τ sig) → Buf (Elt Ideal) ℓ)

/-- Every window's block is its whole array. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0, 0] ∧ win0_7.index t = ![0, 0, 0]
    ∧ win0_8.index t = ![0, 0] ∧ win0_9.index t = ![0, 0] ∧ win0_10.index t = ![0, 0] ∧ win0_11.index t = ![0, 0] ∧ win0_12.index t = ![0, 0] :=
  (by decide +kernel : ∀ t : Fin grid0.N, _)

theorem x_blk (c : Dev nD) (t : Fin cfg0.N) (r : Fin 14208) (k : Fin 4608) :
    iblk m c 0 t (ix2 r k) = m ((c : Thread nD τ).loc main_arg0) (ix2 r k) := by
  blk_ext [iblk, V, idx t]
theorem g_row (c : Dev nD) (j : Fin 4608) : V m c main_v0 (ix2 0 j) = m ((c : Thread nD τ).loc main_arg1) (ix1 j) := by
  entry_read
  pointwise
theorem ws_row (c : Dev nD) (j : Fin 4096) : V m c main_v1 (ix2 0 j) = m ((c : Thread nD τ).loc main_arg3) (ix1 j) := by
  entry_read
  pointwise
theorem ks_row (c : Dev nD) (j : Fin 8) : V m c main_v2 (ix3 0 j 0) = m ((c : Thread nD τ).loc main_arg6) (ix1 j) := by
  entry_read
  pointwise
theorem vs_row (c : Dev nD) (j : Fin 8) : V m c main_v3 (ix3 0 j 0) = m ((c : Thread nD τ).loc main_arg7) (ix1 j) := by
  entry_read
  pointwise
theorem g_blk (c : Dev nD) (t : Fin cfg0.N) (j : Fin 4608) :
    iblk m c 1 t (ix2 0 j) = m ((c : Thread nD τ).loc main_arg1) (ix1 j) :=
  Eq.trans (b := V m c main_v0 (ix2 0 j)) (by blk_ext [iblk, idx t]) (g_row m c _)
theorem w_blk (c : Dev nD) (t : Fin cfg0.N) (k : Fin 4608) (j : Fin 4096) :
    iblk m c 2 t (ix2 k j) = m ((c : Thread nD τ).loc main_arg2) (ix2 k j) := by
  blk_ext [iblk, V, idx t]
theorem ws_blk (c : Dev nD) (t : Fin cfg0.N) (j : Fin 4096) :
    iblk m c 3 t (ix2 0 j) = m ((c : Thread nD τ).loc main_arg3) (ix1 j) :=
  Eq.trans (b := V m c main_v1 (ix2 0 j)) (by blk_ext [iblk, idx t]) (ws_row m c _)
theorem cos_blk (c : Dev nD) (t : Fin cfg0.N) (r : Fin 14208) (l : Fin 64) :
    iblk m c 4 t (ix2 r l) = m ((c : Thread nD τ).loc main_arg4) (ix2 r l) := by
  blk_ext [iblk, V, idx t]
theorem sin_blk (c : Dev nD) (t : Fin cfg0.N) (r : Fin 14208) (l : Fin 64) :
    iblk m c 5 t (ix2 r l) = m ((c : Thread nD τ).loc main_arg5) (ix2 r l) := by
  blk_ext [iblk, V, idx t]
theorem ks_blk (c : Dev nD) (t : Fin cfg0.N) (j : Fin 8) :
    iblk m c 6 t (ix3 0 j 0) = m ((c : Thread nD τ).loc main_arg6) (ix1 j) :=
  Eq.trans (b := V m c main_v2 (ix3 0 j 0)) (by blk_ext [iblk, idx t]) (ks_row m c _)
theorem vs_blk (c : Dev nD) (t : Fin cfg0.N) (j : Fin 8) :
    iblk m c 7 t (ix3 0 j 0) = m ((c : Thread nD τ).loc main_arg7) (ix1 j) :=
  Eq.trans (b := V m c main_v3 (ix3 0 j 0)) (by blk_ext [iblk, idx t]) (vs_row m c _)

/-- The token's normed input, from the arguments. -/
def inY (c : Dev nD) (i : Fin 14208) (j : Fin 4608) : EReal := qkvY (m ((c : Thread nD τ).loc main_arg0)) (m ((c : Thread nD τ).loc main_arg1)) i j
/-- The token's scale, from the arguments. -/
def inScale (c : Dev nD) (i : Fin 14208) : EReal := qkvScale (m ((c : Thread nD τ).loc main_arg0)) (m ((c : Thread nD τ).loc main_arg1)) i
/-- The token's code at column `j`, from the arguments. -/
def inCode (c : Dev nD) (i : Fin 14208) (j : Fin 4608) : EReal := qkvCode (m ((c : Thread nD τ).loc main_arg0)) (m ((c : Thread nD τ).loc main_arg1)) i j
/-- The token's linear-layer column, from the arguments. -/
def lin (c : Dev nD) (i : Fin 14208) (j : Fin 4096) : EReal := qkvLin (m ((c : Thread nD τ).loc main_arg0)) (m ((c : Thread nD τ).loc main_arg1)) (m ((c : Thread nD τ).loc main_arg2)) (m ((c : Thread nD τ).loc main_arg3)) i j
/-- The token's query column, from the arguments. -/
def qry (c : Dev nD) (i : Fin 14208) (j : Fin 2048) : EReal := query (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) i j
/-- The token's key code, from the arguments. -/
def keyCode (c : Dev nD) (i : Fin 14208) (j : Fin 1024) : EReal := key (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) i j
/-- The token's value code, from the arguments. -/
def valCode (c : Dev nD) (i : Fin 14208) (j : Fin 1024) : EReal := value (m ((c : Thread nD τ).loc main_arg0)) (m ((c : Thread nD τ).loc main_arg1)) (m ((c : Thread nD τ).loc main_arg2)) (m ((c : Thread nD τ).loc main_arg3)) (m ((c : Thread nD τ).loc main_arg7)) i j

theorem y_blk (c : Dev nD) (t : Fin cfg0.N) (r : Fin 14208) (j : Fin 4608) :
    k0_pay3 (F := Ideal) (iblk m c 0 t) (iblk m c 1 t) (ix2 r j) = inY m c r j := by
  refine (Rows.y_at _ _ r j).trans ?_
  unfold inY qkvY
  simp only [x_blk, g_blk]
theorem scale_blk (c : Dev nD) (t : Fin cfg0.N) (r : Fin 14208) :
    k0_pay4 (F := Ideal) (iblk m c 0 t) (iblk m c 1 t) (ix2 r 0) = inScale m c r :=
  (Rows.scale_at _ _ r).trans (congrArg rowScale (funext fun j => y_blk m c t r j))
theorem code_blk (c : Dev nD) (t : Fin cfg0.N) (r : Fin 14208) (j : Fin 4608) :
    k0_pay5 (F := Ideal) (iblk m c 0 t) (iblk m c 1 t) (ix2 r j) = inCode m c r j :=
  (Rows.code_at _ _ r j).trans (congrArg₂ quantCode (y_blk m c t r j) (scale_blk m c t r))
theorem lin_blk (c : Dev nD) (t : Fin cfg0.N) (r : Fin 14208) (j : Fin 4096) :
    k0_pay7 (F := Ideal) (k0_pay4 (F := Ideal) (iblk m c 0 t) (iblk m c 1 t)) (k0_pay5 (F := Ideal) (iblk m c 0 t) (iblk m c 1 t)) (iblk m c 2 t) (iblk m c 3 t) (ix2 r j) = lin m c r j := by
  refine (Rows.lin_at _ _ _ _ r j).trans ?_
  simp only [code_blk, scale_blk, w_blk, ws_blk]
  rfl
theorem query_blk (c : Dev nD) (t : Fin cfg0.N) (r : Fin 14208) (j : Fin 2048) :
    k0_pay10 (F := Ideal) (k0_pay4 (F := Ideal) (iblk m c 0 t) (iblk m c 1 t)) (k0_pay5 (F := Ideal) (iblk m c 0 t) (iblk m c 1 t)) (iblk m c 2 t) (iblk m c 3 t) (iblk m c 4 t) (iblk m c 5 t) (ix2 r j) = qry m c r j := by
  refine (Rows.query_at _ _ _ _ _ _ r j).trans ?_
  simp only [lin_blk, cos_blk, sin_blk]
  rfl
theorem key_blk (c : Dev nD) (t : Fin cfg0.N) (r : Fin 14208) (j : Fin 1024) :
    k0_pay1 (F := Ideal) (k0_pay15 (F := Ideal) (k0_pay4 (F := Ideal) (iblk m c 0 t) (iblk m c 1 t)) (k0_pay5 (F := Ideal) (iblk m c 0 t) (iblk m c 1 t)) (iblk m c 2 t) (iblk m c 3 t) (iblk m c 4 t) (iblk m c 5 t)) (k0_pay16 (F := Ideal) (k0_pay4 (F := Ideal) (iblk m c 0 t) (iblk m c 1 t)) (k0_pay5 (F := Ideal) (iblk m c 0 t) (iblk m c 1 t)) (iblk m c 2 t) (iblk m c 3 t) (iblk m c 4 t))
        (k0_pay17 (F := Ideal) (k0_pay4 (F := Ideal) (iblk m c 0 t) (iblk m c 1 t)) (k0_pay5 (F := Ideal) (iblk m c 0 t) (iblk m c 1 t)) (iblk m c 2 t) (iblk m c 3 t) (iblk m c 5 t)) (iblk m c 6 t) (ix2 r j) = keyCode m c r j := by
  refine (Rows.key_at _ _ _ _ _ _ _ r j).trans ?_
  simp only [lin_blk, cos_blk, sin_blk, ks_blk]
  rfl
theorem value_blk (c : Dev nD) (t : Fin cfg0.N) (r : Fin 14208) (j : Fin 1024) :
    k0_pay2 (F := Ideal) (k0_pay9 (F := Ideal) (k0_pay4 (F := Ideal) (iblk m c 0 t) (iblk m c 1 t)) (k0_pay5 (F := Ideal) (iblk m c 0 t) (iblk m c 1 t)) (iblk m c 2 t) (iblk m c 3 t)) (iblk m c 7 t) (ix2 r j) = valCode m c r j := by
  refine (Rows.value_at _ _ _ _ _ r j).trans ?_
  simp only [lin_blk, vs_blk]
  rfl

theorem row8 (t : Fin cfg0.N) (y : S14208x4608.Idx) : y 0 = (((cfg0.win 8).blk t).view.emb y 0 : Fin 14208) :=
  Fin.ext (by blk_simp [idx t])
theorem col8 (t : Fin cfg0.N) (y : S14208x4608.Idx) : y 1 = (((cfg0.win 8).blk t).view.emb y 1 : Fin 4608) :=
  Fin.ext (by blk_simp [idx t])
theorem row9 (t : Fin cfg0.N) (y : S14208x128.Idx) : y 0 = (((cfg0.win 9).blk t).view.emb y 0 : Fin 14208) :=
  Fin.ext (by blk_simp [idx t])
theorem row10 (t : Fin cfg0.N) (y : S14208x2048.Idx) : y 0 = (((cfg0.win 10).blk t).view.emb y 0 : Fin 14208) :=
  Fin.ext (by blk_simp [idx t])
theorem col10 (t : Fin cfg0.N) (y : S14208x2048.Idx) : y 1 = (((cfg0.win 10).blk t).view.emb y 1 : Fin 2048) :=
  Fin.ext (by blk_simp [idx t])
theorem row11 (t : Fin cfg0.N) (y : S14208x1024.Idx) : y 0 = (((cfg0.win 11).blk t).view.emb y 0 : Fin 14208) :=
  Fin.ext (by blk_simp [idx t])
theorem col11 (t : Fin cfg0.N) (y : S14208x1024.Idx) : y 1 = (((cfg0.win 11).blk t).view.emb y 1 : Fin 1024) :=
  Fin.ext (by blk_simp [idx t])
theorem row12 (t : Fin cfg0.N) (y : S14208x1024.Idx) : y 0 = (((cfg0.win 12).blk t).view.emb y 0 : Fin 14208) :=
  Fin.ext (by blk_simp [idx t])
theorem col12 (t : Fin cfg0.N) (y : S14208x1024.Idx) : y 1 = (((cfg0.win 12).blk t).view.emb y 1 : Fin 1024) :=
  Fin.ext (by blk_simp [idx t])

/-- Window 8 after the run: the codes of every token's normed input. -/
theorem final8 (c : Dev nD) : (dats m 0 c).arrAt 8 cfg0.N = fun i => inCode m c (i 0) (i 1) := by
  refine (dats m 0 c).arrAt_eq_of_covers 8 _ (by decide +kernel) fun t _ y => ?_
  blk_simp
  rw [after0_8]
  unfold out0_8
  frame_out
  exact (congrArg _ (eq_ix2 y)).trans ((code_blk m c t _ _).trans (congrArg₂ (inCode m c) (row8 t y) (col8 t y)))

/-- Window 9 after the run: every token's scale, in every lane. -/
theorem final9 (c : Dev nD) : (dats m 0 c).arrAt 9 cfg0.N = fun i => inScale m c (i 0) := by
  refine (dats m 0 c).arrAt_eq_of_covers 9 _ (by decide +kernel) fun t _ y => ?_
  blk_simp
  rw [after0_9]
  unfold out0_9
  frame_out
  exact (congrArg _ (eq_ix2 y)).trans ((Rows.spread_at _ _ _ _).trans ((scale_blk m c t _).trans (congrArg (inScale m c) (row9 t y))))

/-- Window 10 after the run: the queries. -/
theorem final10 (c : Dev nD) : (dats m 0 c).arrAt 10 cfg0.N = fun i => qry m c (i 0) (i 1) := by
  refine (dats m 0 c).arrAt_eq_of_covers 10 _ (by decide +kernel) fun t _ y => ?_
  blk_simp
  rw [after0_10]
  unfold out0_10 k0_pay18 k0_pay19
  frame_out
  exact (congrArg _ (eq_ix2 y)).trans ((query_blk m c t _ _).trans (congrArg₂ (qry m c) (row10 t y) (col10 t y)))

/-- Window 11 after the run: the key codes. -/
theorem final11 (c : Dev nD) : (dats m 0 c).arrAt 11 cfg0.N = fun i => keyCode m c (i 0) (i 1) := by
  refine (dats m 0 c).arrAt_eq_of_covers 11 _ (by decide +kernel) fun t _ y => ?_
  blk_simp
  rw [after0_11]
  unfold out0_11 k0_pay18 k0_pay19
  frame_out
  exact (congrArg _ (eq_ix2 y)).trans ((key_blk m c t _ _).trans (congrArg₂ (keyCode m c) (row11 t y) (col11 t y)))

/-- Window 12 after the run: the value codes. -/
theorem final12 (c : Dev nD) : (dats m 0 c).arrAt 12 cfg0.N = fun i => valCode m c (i 0) (i 1) := by
  refine (dats m 0 c).arrAt_eq_of_covers 12 _ (by decide +kernel) fun t _ y => ?_
  blk_simp
  rw [after0_12]
  unfold out0_12 k0_pay18 k0_pay19
  frame_out
  exact (congrArg _ (eq_ix2 y)).trans ((value_blk m c t _ _).trans (congrArg₂ (valCode m c) (row12 t y) (col12 t y)))

end Cert.QkvRefIdeal.Blocks

end
-- ==== Proof.QkvClaim.lean ====
/- The q/k/v kernel computes its reference: the two runs end with the same five result arrays. -/
module

public import proofs.«01_k».proof.Defs
public import proofs.«01_k».proof.Proof.QkvValue
public import proofs.«01_k».proof.Proof.QkvRefValue

@[expose] public section

namespace Cert.QkvClaim

open Idealize.ShloMosaic Idealize.SL.Sem

set_option maxHeartbeats 2000000 in
/-- From memories agreeing on the arguments, kernel and reference end with equal codes, scales, queries, keys and values, and
    with their arguments unchanged: each side's arrays are the layer's functions of its own arguments. -/
theorem algebraic : Cert.algebraic_QkvIdeal_QkvRefIdeal (hQkvIdeal := Cert.QkvIdeal.Gen.facts)
    (hQkvRefIdeal := Cert.QkvRefIdeal.Gen.facts) := by
  intro m g m' g' _ hag
  refine ⟨_, _, _, _, _, Cert.QkvIdeal.Value.run_blocks m g, ?_⟩
  refine (θ_run _ _ _).mono (fun r h c => ?_) (Cert.QkvRefIdeal.Value.run_blocks m' g')
  obtain ⟨h0, h1, h2, h3, h4, hrest⟩ := h c
  obtain ⟨a0, a1, a2, a3, a4, a5, a6, a7⟩ := hag c
  refine ⟨h0.trans ?_, h1.trans ?_, h2.trans ?_, h3.trans ?_, h4.trans ?_, hrest⟩
  · refine (Cert.QkvRefIdeal.Blocks.final8 m' c).trans (Eq.trans ?_ (Cert.QkvIdeal.Blocks.final8 m c).symm)
    unfold Cert.QkvRefIdeal.Blocks.inCode Cert.QkvIdeal.Blocks.inCode
    rw [a0, a1]
    rfl
  · refine (Cert.QkvRefIdeal.Blocks.final9 m' c).trans (Eq.trans ?_ (Cert.QkvIdeal.Blocks.final9 m c).symm)
    unfold Cert.QkvRefIdeal.Blocks.inScale Cert.QkvIdeal.Blocks.inScale
    rw [a0, a1]
    rfl
  · refine (Cert.QkvRefIdeal.Blocks.final10 m' c).trans (Eq.trans ?_ (Cert.QkvIdeal.Blocks.final10 m c).symm)
    unfold Cert.QkvRefIdeal.Blocks.qry Cert.QkvIdeal.Blocks.qry
    rw [a0, a1, a2, a3, a4, a5]
    rfl
  · refine (Cert.QkvRefIdeal.Blocks.final11 m' c).trans (Eq.trans ?_ (Cert.QkvIdeal.Blocks.final11 m c).symm)
    unfold Cert.QkvRefIdeal.Blocks.keyCode Cert.QkvIdeal.Blocks.keyCode
    rw [a0, a1, a2, a3, a4, a5, a6]
    rfl
  · refine (Cert.QkvRefIdeal.Blocks.final12 m' c).trans (Eq.trans ?_ (Cert.QkvIdeal.Blocks.final12 m c).symm)
    unfold Cert.QkvRefIdeal.Blocks.valCode Cert.QkvIdeal.Blocks.valCode
    rw [a0, a1, a2, a3, a7]
    rfl

end Cert.QkvClaim

end
-- ==== Proof.DownRows.lean ====
/- The down-projection kernel, row by row: what its vector operations on a block of 1184 tokens give at one token and
   column, in the layer's terms. -/
module

public import proofs.«01_k».proof.Proof.Gen.DownIdeal.Skeleton
public import proofs.«01_k».proof.Proof.Layer

@[expose] public section

set_option maxRecDepth 65536

noncomputable section

namespace Cert.DownIdeal.Rows

open Idealize.ShloMosaic Idealize.ShloMosaic.TcCoe Idealize.SL.Sem
open Cert.DownIdeal Cert.DownIdeal.Gen Cert.Layer

/-- The codes of a block of activations under the tokens' scales. -/
theorem code_at (s : FVec Ideal S1184x1 .f32) (a : FVec Ideal S1184x1024 .f32) (r : Fin 1184) (j : Fin 1024) :
    k0_pay4 (F := Ideal) s a (ix2 r j) = quantCode (a (ix2 r j)) (s (ix2 r 0)) := by
  pointwise [k0_pay4]
  rfl

end Cert.DownIdeal.Rows

end
-- ==== Proof.DownValue.lean ====
/- The down-projection kernel's codes after the run, as a function of the argument arrays: grid point `18 i + k` codes tokens
   `1184 i …` at hidden columns `1024 k …`. -/
module

public import proofs.«01_k».proof.Proof.Gen.DownIdeal.Value
public import proofs.«01_k».proof.Proof.DownRows
public import Idealize.ShloMosaic.Lib.Pipeline.ValueKit
public import Idealize.ShloMosaic.Lib.Pipeline.ReadBack
public import Idealize.ShloMosaic.Lib.Claim

@[expose] public section

set_option maxRecDepth 16384

noncomputable section

namespace Cert.DownIdeal.Blocks

open Idealize.ShloMosaic Idealize.ShloMosaic.TcCoe Idealize.SL.Sem
open Idealize.ShloMosaic.Pipeline (Dat)
open Cert.DownIdeal Cert.DownIdeal.Gen Cert.Layer

variable (m : (ℓ : Loc nD τ sig) → Buf (Elt Ideal) ℓ)

/-- Every window's block index at every grid point: token blocks move with `t / 18`, blocks of hidden columns with `t % 18`. -/
theorem idx : ∀ t : Fin cfg0.N, win0_0.index t = ![t.val / 18, t.val % 18] ∧ win0_1.index t = ![t.val / 18, 0] ∧ win0_2.index t = ![t.val % 18, 0]
    ∧ win0_3.index t = ![0, 0] ∧ win0_4.index t = ![0, 0] ∧ win0_5.index t = ![t.val / 18, t.val % 18] :=
  (by decide +kernel : ∀ t : Fin grid0.N, _)

/-- The token that row `r` of point `t`'s block is. -/
def tok (t : Fin cfg0.N) (r : Fin 1184) : Fin 14208 :=
  ⟨t.val / 18 * 1184 + r, by have := lt_of_lt_of_eq t.isLt N_0; omega⟩

/-- The hidden column that column `j` of point `t`'s block is. -/
def col (t : Fin cfg0.N) (j : Fin 1024) : Fin 18432 :=
  ⟨t.val % 18 * 1024 + j, by omega⟩

theorem act_blk (c : Dev nD) (t : Fin cfg0.N) (r : Fin 1184) (j : Fin 1024) :
    iblk m c 0 t (ix2 r j) = m ((c : Thread nD τ).loc main_arg0) (ix2 (tok t r) (col t j)) := by
  blk_ext [iblk, V, idx t, tok, col]
theorem scale_blk (c : Dev nD) (t : Fin cfg0.N) (r : Fin 1184) (l : Fin 128) :
    iblk m c 1 t (ix2 r l) = m ((c : Thread nD τ).loc main_arg1) (ix2 (tok t r) l) := by
  blk_ext [iblk, V, idx t, tok]

/-- The code of token `i`'s hidden column `j`, from the arguments. -/
def code (c : Dev nD) (i : Fin 14208) (j : Fin 18432) : EReal :=
  quantCode (m ((c : Thread nD τ).loc main_arg0) (ix2 i j)) (m ((c : Thread nD τ).loc main_arg1) (ix2 i 0))

/-- The codes of point `t`'s block of activations are its tokens', whatever column of scales it reads as its one column. -/
theorem code_blk (c : Dev nD) (t : Fin cfg0.N) (s : FVec Ideal S1184x1 .f32) (hs : ∀ r, s (ix2 r 0) = iblk m c 1 t (ix2 r 0)) (r : Fin 1184) (j : Fin 1024) :
    k0_pay4 (F := Ideal) s (iblk m c 0 t) (ix2 r j) = code m c (tok t r) (col t j) := by
  refine (Rows.code_at _ _ _ _).trans ?_
  unfold code
  rw [hs, act_blk, scale_blk]

/-- The codes after the first point of a token block. -/
theorem code_A (c : Dev nD) (t : Fin cfg0.N) (h0 : t.val % 18 = 0) (h1 : ¬t.val % 18 = 17) (r : Fin 1184) (j : Fin 1024) :
    (outsAt0 m c t.val t.isLt).1 (ix2 r j) = code m c (tok t r) (col t j) := by
  rw [outsAt0_A m c t h0 h1]
  frame_out
  exact code_blk m c t _ (fun r => by pointwise) r j

/-- The codes after a point between. -/
theorem code_B (c : Dev nD) (t : Fin cfg0.N) (h0 : ¬t.val % 18 = 0) (h1 : ¬t.val % 18 = 17) (r : Fin 1184) (j : Fin 1024) :
    (outsAt0 m c t.val t.isLt).1 (ix2 r j) = code m c (tok t r) (col t j) := by
  rw [outsAt0_B m c t h0 h1]
  frame_out
  exact code_blk m c t _ (fun r => by pointwise) r j

/-- The codes after the last. -/
theorem code_C (c : Dev nD) (t : Fin cfg0.N) (h0 : ¬t.val % 18 = 0) (h1 : t.val % 18 = 17) (r : Fin 1184) (j : Fin 1024) :
    (outsAt0 m c t.val t.isLt).1 (ix2 r j) = code m c (tok t r) (col t j) := by
  rw [outsAt0_C m c t h0 h1]
  frame_out
  exact code_blk m c t _ (fun r => by pointwise) r j

/-- The codes a point leaves are its tokens'. -/
theorem code_point (c : Dev nD) (t : Fin cfg0.N) (y : S1184x1024.Idx) :
    (outsAt0 m c t.val t.isLt).1 y = code m c (tok t (y 0)) (col t (y 1)) := by
  refine (congrArg _ (eq_ix2 y)).trans ?_
  by_cases h0 : t.val % 18 = 0
  · exact code_A m c t h0 (by omega) _ _
  · by_cases h1 : t.val % 18 = 17
    · exact code_C m c t h0 h1 _ _
    · exact code_B m c t h0 h1 _ _

theorem row5 (t : Fin cfg0.N) (y : S1184x1024.Idx) : tok t (y 0) = (((cfg0.win 5).blk t).view.emb y 0 : Fin 14208) :=
  Fin.ext (by blk_simp [idx t]; rfl)
theorem col5 (t : Fin cfg0.N) (y : S1184x1024.Idx) : col t (y 1) = (((cfg0.win 5).blk t).view.emb y 1 : Fin 18432) :=
  Fin.ext (by blk_simp [idx t]; rfl)

/-- Window 5 after the run: every token's codes. -/
theorem final5 (c : Dev nD) : (dats m 0 c).arrAt 5 cfg0.N
    = fun i => quantCode (m ((c : Thread nD τ).loc main_arg0) (ix2 (i 0) (i 1))) (m ((c : Thread nD τ).loc main_arg1) (ix2 (i 0) 0)) := by
  refine (dats m 0 c).arrAt_eq_of_covers 5 _ (by decide +kernel) fun t _ y => ?_
  blk_simp
  rw [after0_5]
  exact (code_point m c t y).trans (congrArg₂ (code m c) (row5 t y) (col5 t y))

end Cert.DownIdeal.Blocks

end
-- ==== Proof.DownAcc.lean ====
/- The down-projection kernel's accumulator: each grid point adds its block of hidden columns' products, 256 output columns at
   a time, and the first point of a token block starts from zero. -/
module

public import proofs.«01_k».proof.Proof.DownValue

@[expose] public section

set_option maxRecDepth 16384

noncomputable section

namespace Cert.DownIdeal.Blocks

open Idealize.ShloMosaic Idealize.ShloMosaic.TcCoe Idealize.SL.Sem
open Idealize.ShloMosaic.Pipeline (Dat)
open Cert.DownIdeal Cert.DownIdeal.Gen Cert.Layer

/-- One chunk's products added to what the accumulator holds there. -/
theorem chunk_at (a : FVec Ideal S1184x256 .f32) (q : FVec Ideal S1184x1024 .fp8e4m3) (w : FVec Ideal S1024x256 .fp8e4m3) (r : Fin 1184) (j : Fin 256) :
    k0_pay6 (F := Ideal) a q w (ix2 r j) = a (ix2 r j) + ∑ k, q (ix2 r k) * w (ix2 k j) := by
  pointwise [k0_pay6]

/-- The accumulator after a point: what it held plus the point's products. -/
def step (prev : FVec Ideal S1184x4608 .f32) (q : FVec Ideal S1184x1024 .fp8e4m3) (w : FVec Ideal S1024x4608 .fp8e4m3) (y : S1184x4608.Idx) : EReal :=
  prev y + ∑ k, q (ix2 (y 0) k) * w (ix2 k (y 1))

/-- A chunk stored at column `o` is the step's block there. -/
theorem piece_at (prev : FVec Ideal S1184x4608 .f32) (q : FVec Ideal S1184x1024 .fp8e4m3) (w : FVec Ideal S1024x4608 .fp8e4m3) (o : ℕ)
    (hr : ∀ a, (![0, o] : Fin 2 → ℕ) a + S1184x256.size a ≤ S1184x4608.size a) (hw : ∀ a, (![0, o] : Fin 2 → ℕ) a + S1024x256.size a ≤ S1024x4608.size a)
    (x : S1184x256.Idx) :
    k0_pay6 (F := Ideal) (View.ld (Val := Elt Ideal) (e' := .f32) prev (Rect.unit (s := S1184x4608) ![0, o] S1184x256.size hr)) q (View.ld (Val := Elt Ideal) (e' := .fp8e4m3) w (Rect.unit (s := S1024x4608) ![0, o] S1024x256.size hw)) x
      = step prev q w ((Rect.unit (s := S1184x4608) ![0, o] S1184x256.size hr).emb x) := by
  refine (congrArg _ (eq_ix2 x)).trans ((chunk_at _ _ _ _ _).trans ?_)
  unfold step
  refine congrArg₂ (· + ·) (congrArg prev ?_) (Finset.sum_congr rfl fun k _ => congrArg₂ (· * ·) (congrArg q ?_) (congrArg w ?_))
  · funext a; fin_cases a <;> rfl
  · funext a; fin_cases a <;> exact Fin.ext (by simp)
  · funext a; fin_cases a <;> exact Fin.ext (by simp)

/-- One store read at a place: the store's own value inside its rectangle, what the stores before it left outside. -/
theorem link {s : Shape} (G : s.Idx → EReal) (r : Rect s) (v : r.shape.Idx → EReal) (L : List (View.Piece (Elt Ideal) s .f32)) (y : s.Idx)
    (hv : ∀ x, v x = G (r.emb x)) (hL : y ∉ r.set → View.canon L y = G y) :
    View.canon (⟨r, v⟩ :: L : List (View.Piece (Elt Ideal) s .f32)) y = G y := by
  by_cases h : y ∈ r.set
  · obtain ⟨x, _, hx⟩ := Finset.mem_map.mp (Rect.map_emb_univ _ ▸ h)
    rw [← hx]
    exact (View.canon_cons_emb _ _ _ x).trans (hv x)
  · exact (View.canon_cons_of_not_mem ⟨r, v⟩ L h).trans (hL h)

/-- A place outside the chunk at column `o`, and left of the chunk's end, is left of the chunk. -/
theorem left_of (o : ℕ) (hr : ∀ a, (![0, o] : Fin 2 → ℕ) a + S1184x256.size a ≤ S1184x4608.size a) (r : Fin 1184) (j : Fin 4608) (hj : j.val < o + 256)
    (h : (ix2 r j : S1184x4608.Idx) ∉ (Rect.unit (s := S1184x4608) ![0, o] S1184x256.size hr).set) : j.val < o := by
  refine Nat.lt_of_not_le fun ho => h ?_
  refine Rect.mem_set_unit.mpr fun a => ?_
  match a with
  | ⟨0, _⟩ => exact ⟨Nat.zero_le _, (by show r.val < 0 + 1184; omega)⟩
  | ⟨1, _⟩ => exact ⟨ho, hj⟩

/-- Stores of 256-column chunks from the right, read at a column: the first that reaches it, if it agrees with `G`. -/
theorem chain (G : S1184x4608.Idx → EReal) (o : ℕ) (hr : ∀ a, (![0, o] : Fin 2 → ℕ) a + S1184x256.size a ≤ S1184x4608.size a) (v : S1184x256.Idx → EReal)
    (L : List (View.Piece (Elt Ideal) S1184x4608 .f32)) (r : Fin 1184) (j : Fin 4608) (hj : j.val < o + 256)
    (hv : ∀ x, v x = G ((Rect.unit (s := S1184x4608) ![0, o] S1184x256.size hr).emb x))
    (hL : j.val < o → View.canon L (ix2 r j) = G (ix2 r j)) :
    View.canon (⟨Rect.unit (s := S1184x4608) ![0, o] S1184x256.size hr, v⟩ :: L : List (View.Piece (Elt Ideal) S1184x4608 .f32)) (ix2 r j) = G (ix2 r j) :=
  link G (Rect.unit (s := S1184x4608) ![0, o] S1184x256.size hr) v L (ix2 r j) hv fun h => hL (left_of o hr r j hj h)

end Cert.DownIdeal.Blocks

end
-- ==== Proof.DownPoint.lean ====
/- What one grid point of the down-projection kernel leaves in the accumulator. -/
module

public import proofs.«01_k».proof.Proof.DownAcc

@[expose] public section

set_option maxRecDepth 16384
set_option maxHeartbeats 2000000

noncomputable section

namespace Cert.DownIdeal.Blocks

open Idealize.ShloMosaic Idealize.ShloMosaic.TcCoe Idealize.SL.Sem
open Idealize.ShloMosaic.Pipeline (Dat)
open Cert.DownIdeal Cert.DownIdeal.Gen Cert.Layer

variable (m : (ℓ : Loc nD τ sig) → Buf (Elt Ideal) ℓ)

/-- The block of codes a point computes. -/
def codes (c : Dev nD) (t : Fin cfg0.N) : FVec Ideal S1184x1024 .fp8e4m3 :=
  k0_pay4 (View.ld (Val := Elt Ideal) (e' := .f32) (iblk m c 1 t) (Rect.unit (s := S1184x128) ![0, 0] S1184x1.size inb_S1184x128_S1184x1_0_0)) (iblk m c 0 t)

/-- A point that is not the first of its token block adds its products to what the point before left. -/
theorem acc_B (c : Dev nD) (t : Fin cfg0.N) (h0 : ¬ t.val % 18 = 0) (h1 : ¬ t.val % 18 = 17) (r : Fin 1184) (j : Fin 4608) :
    (outsAt0 m c t.val t.isLt).2 (ix2 r j) = step (outsAt0 m c (t.val - 1) (by omega)).2 (codes m c t) (iblk m c 2 t) (ix2 r j) := by
  rw [outsAt0_B m c t h0 h1]
  dsimp only
  unfold sout0_B_0
  frame_out
  simp only [read_unread_whole]
  refine chain _ 4352 _ _ _ r j (lt_of_lt_of_eq j.isLt (by decide)) (fun x => piece_at (outsAt0 m c (t.val - 1) (by omega)).2 (codes m c t) (iblk m c 2 t) 4352 inb_S1184x4608_S1184x256_0_4352 inb_S1024x4608_S1024x256_0_4352 x) fun h4352 => ?_
  refine chain _ 4096 _ _ _ r j h4352 (fun x => piece_at (outsAt0 m c (t.val - 1) (by omega)).2 (codes m c t) (iblk m c 2 t) 4096 inb_S1184x4608_S1184x256_0_4096 inb_S1024x4608_S1024x256_0_4096 x) fun h4096 => ?_
  refine chain _ 3840 _ _ _ r j h4096 (fun x => piece_at (outsAt0 m c (t.val - 1) (by omega)).2 (codes m c t) (iblk m c 2 t) 3840 inb_S1184x4608_S1184x256_0_3840 inb_S1024x4608_S1024x256_0_3840 x) fun h3840 => ?_
  refine chain _ 3584 _ _ _ r j h3840 (fun x => piece_at (outsAt0 m c (t.val - 1) (by omega)).2 (codes m c t) (iblk m c 2 t) 3584 inb_S1184x4608_S1184x256_0_3584 inb_S1024x4608_S1024x256_0_3584 x) fun h3584 => ?_
  refine chain _ 3328 _ _ _ r j h3584 (fun x => piece_at (outsAt0 m c (t.val - 1) (by omega)).2 (codes m c t) (iblk m c 2 t) 3328 inb_S1184x4608_S1184x256_0_3328 inb_S1024x4608_S1024x256_0_3328 x) fun h3328 => ?_
  refine chain _ 3072 _ _ _ r j h3328 (fun x => piece_at (outsAt0 m c (t.val - 1) (by omega)).2 (codes m c t) (iblk m c 2 t) 3072 inb_S1184x4608_S1184x256_0_3072 inb_S1024x4608_S1024x256_0_3072 x) fun h3072 => ?_
  refine chain _ 2816 _ _ _ r j h3072 (fun x => piece_at (outsAt0 m c (t.val - 1) (by omega)).2 (codes m c t) (iblk m c 2 t) 2816 inb_S1184x4608_S1184x256_0_2816 inb_S1024x4608_S1024x256_0_2816 x) fun h2816 => ?_
  refine chain _ 2560 _ _ _ r j h2816 (fun x => piece_at (outsAt0 m c (t.val - 1) (by omega)).2 (codes m c t) (iblk m c 2 t) 2560 inb_S1184x4608_S1184x256_0_2560 inb_S1024x4608_S1024x256_0_2560 x) fun h2560 => ?_
  refine chain _ 2304 _ _ _ r j h2560 (fun x => piece_at (outsAt0 m c (t.val - 1) (by omega)).2 (codes m c t) (iblk m c 2 t) 2304 inb_S1184x4608_S1184x256_0_2304 inb_S1024x4608_S1024x256_0_2304 x) fun h2304 => ?_
  refine chain _ 2048 _ _ _ r j h2304 (fun x => piece_at (outsAt0 m c (t.val - 1) (by omega)).2 (codes m c t) (iblk m c 2 t) 2048 inb_S1184x4608_S1184x256_0_2048 inb_S1024x4608_S1024x256_0_2048 x) fun h2048 => ?_
  refine chain _ 1792 _ _ _ r j h2048 (fun x => piece_at (outsAt0 m c (t.val - 1) (by omega)).2 (codes m c t) (iblk m c 2 t) 1792 inb_S1184x4608_S1184x256_0_1792 inb_S1024x4608_S1024x256_0_1792 x) fun h1792 => ?_
  refine chain _ 1536 _ _ _ r j h1792 (fun x => piece_at (outsAt0 m c (t.val - 1) (by omega)).2 (codes m c t) (iblk m c 2 t) 1536 inb_S1184x4608_S1184x256_0_1536 inb_S1024x4608_S1024x256_0_1536 x) fun h1536 => ?_
  refine chain _ 1280 _ _ _ r j h1536 (fun x => piece_at (outsAt0 m c (t.val - 1) (by omega)).2 (codes m c t) (iblk m c 2 t) 1280 inb_S1184x4608_S1184x256_0_1280 inb_S1024x4608_S1024x256_0_1280 x) fun h1280 => ?_
  refine chain _ 1024 _ _ _ r j h1280 (fun x => piece_at (outsAt0 m c (t.val - 1) (by omega)).2 (codes m c t) (iblk m c 2 t) 1024 inb_S1184x4608_S1184x256_0_1024 inb_S1024x4608_S1024x256_0_1024 x) fun h1024 => ?_
  refine chain _ 768 _ _ _ r j h1024 (fun x => piece_at (outsAt0 m c (t.val - 1) (by omega)).2 (codes m c t) (iblk m c 2 t) 768 inb_S1184x4608_S1184x256_0_768 inb_S1024x4608_S1024x256_0_768 x) fun h768 => ?_
  refine chain _ 512 _ _ _ r j h768 (fun x => piece_at (outsAt0 m c (t.val - 1) (by omega)).2 (codes m c t) (iblk m c 2 t) 512 inb_S1184x4608_S1184x256_0_512 inb_S1024x4608_S1024x256_0_512 x) fun h512 => ?_
  refine chain _ 256 _ _ _ r j h512 (fun x => piece_at (outsAt0 m c (t.val - 1) (by omega)).2 (codes m c t) (iblk m c 2 t) 256 inb_S1184x4608_S1184x256_0_256 inb_S1024x4608_S1024x256_0_256 x) fun h256 => ?_
  refine chain _ 0 _ _ _ r j h256 (fun x => piece_at (outsAt0 m c (t.val - 1) (by omega)).2 (codes m c t) (iblk m c 2 t) 0 inb_S1184x4608_S1184x256_0_0 inb_S1024x4608_S1024x256_0_0 x) fun hz => ?_
  exact absurd hz (Nat.not_lt_zero _)

/-- A point that is not the first of its token block adds its products to what the point before left. -/
theorem acc_C (c : Dev nD) (t : Fin cfg0.N) (h0 : ¬ t.val % 18 = 0) (h1 : t.val % 18 = 17) (r : Fin 1184) (j : Fin 4608) :
    (outsAt0 m c t.val t.isLt).2 (ix2 r j) = step (outsAt0 m c (t.val - 1) (by omega)).2 (codes m c t) (iblk m c 2 t) (ix2 r j) := by
  rw [outsAt0_C m c t h0 h1]
  dsimp only
  unfold sout0_C_0
  frame_out
  simp only [read_unread_whole]
  refine chain _ 4352 _ _ _ r j (lt_of_lt_of_eq j.isLt (by decide)) (fun x => piece_at (outsAt0 m c (t.val - 1) (by omega)).2 (codes m c t) (iblk m c 2 t) 4352 inb_S1184x4608_S1184x256_0_4352 inb_S1024x4608_S1024x256_0_4352 x) fun h4352 => ?_
  refine chain _ 4096 _ _ _ r j h4352 (fun x => piece_at (outsAt0 m c (t.val - 1) (by omega)).2 (codes m c t) (iblk m c 2 t) 4096 inb_S1184x4608_S1184x256_0_4096 inb_S1024x4608_S1024x256_0_4096 x) fun h4096 => ?_
  refine chain _ 3840 _ _ _ r j h4096 (fun x => piece_at (outsAt0 m c (t.val - 1) (by omega)).2 (codes m c t) (iblk m c 2 t) 3840 inb_S1184x4608_S1184x256_0_3840 inb_S1024x4608_S1024x256_0_3840 x) fun h3840 => ?_
  refine chain _ 3584 _ _ _ r j h3840 (fun x => piece_at (outsAt0 m c (t.val - 1) (by omega)).2 (codes m c t) (iblk m c 2 t) 3584 inb_S1184x4608_S1184x256_0_3584 inb_S1024x4608_S1024x256_0_3584 x) fun h3584 => ?_
  refine chain _ 3328 _ _ _ r j h3584 (fun x => piece_at (outsAt0 m c (t.val - 1) (by omega)).2 (codes m c t) (iblk m c 2 t) 3328 inb_S1184x4608_S1184x256_0_3328 inb_S1024x4608_S1024x256_0_3328 x) fun h3328 => ?_
  refine chain _ 3072 _ _ _ r j h3328 (fun x => piece_at (outsAt0 m c (t.val - 1) (by omega)).2 (codes m c t) (iblk m c 2 t) 3072 inb_S1184x4608_S1184x256_0_3072 inb_S1024x4608_S1024x256_0_3072 x) fun h3072 => ?_
  refine chain _ 2816 _ _ _ r j h3072 (fun x => piece_at (outsAt0 m c (t.val - 1) (by omega)).2 (codes m c t) (iblk m c 2 t) 2816 inb_S1184x4608_S1184x256_0_2816 inb_S1024x4608_S1024x256_0_2816 x) fun h2816 => ?_
  refine chain _ 2560 _ _ _ r j h2816 (fun x => piece_at (outsAt0 m c (t.val - 1) (by omega)).2 (codes m c t) (iblk m c 2 t) 2560 inb_S1184x4608_S1184x256_0_2560 inb_S1024x4608_S1024x256_0_2560 x) fun h2560 => ?_
  refine chain _ 2304 _ _ _ r j h2560 (fun x => piece_at (outsAt0 m c (t.val - 1) (by omega)).2 (codes m c t) (iblk m c 2 t) 2304 inb_S1184x4608_S1184x256_0_2304 inb_S1024x4608_S1024x256_0_2304 x) fun h2304 => ?_
  refine chain _ 2048 _ _ _ r j h2304 (fun x => piece_at (outsAt0 m c (t.val - 1) (by omega)).2 (codes m c t) (iblk m c 2 t) 2048 inb_S1184x4608_S1184x256_0_2048 inb_S1024x4608_S1024x256_0_2048 x) fun h2048 => ?_
  refine chain _ 1792 _ _ _ r j h2048 (fun x => piece_at (outsAt0 m c (t.val - 1) (by omega)).2 (codes m c t) (iblk m c 2 t) 1792 inb_S1184x4608_S1184x256_0_1792 inb_S1024x4608_S1024x256_0_1792 x) fun h1792 => ?_
  refine chain _ 1536 _ _ _ r j h1792 (fun x => piece_at (outsAt0 m c (t.val - 1) (by omega)).2 (codes m c t) (iblk m c 2 t) 1536 inb_S1184x4608_S1184x256_0_1536 inb_S1024x4608_S1024x256_0_1536 x) fun h1536 => ?_
  refine chain _ 1280 _ _ _ r j h1536 (fun x => piece_at (outsAt0 m c (t.val - 1) (by omega)).2 (codes m c t) (iblk m c 2 t) 1280 inb_S1184x4608_S1184x256_0_1280 inb_S1024x4608_S1024x256_0_1280 x) fun h1280 => ?_
  refine chain _ 1024 _ _ _ r j h1280 (fun x => piece_at (outsAt0 m c (t.val - 1) (by omega)).2 (codes m c t) (iblk m c 2 t) 1024 inb_S1184x4608_S1184x256_0_1024 inb_S1024x4608_S1024x256_0_1024 x) fun h1024 => ?_
  refine chain _ 768 _ _ _ r j h1024 (fun x => piece_at (outsAt0 m c (t.val - 1) (by omega)).2 (codes m c t) (iblk m c 2 t) 768 inb_S1184x4608_S1184x256_0_768 inb_S1024x4608_S1024x256_0_768 x) fun h768 => ?_
  refine chain _ 512 _ _ _ r j h768 (fun x => piece_at (outsAt0 m c (t.val - 1) (by omega)).2 (codes m c t) (iblk m c 2 t) 512 inb_S1184x4608_S1184x256_0_512 inb_S1024x4608_S1024x256_0_512 x) fun h512 => ?_
  refine chain _ 256 _ _ _ r j h512 (fun x => piece_at (outsAt0 m c (t.val - 1) (by omega)).2 (codes m c t) (iblk m c 2 t) 256 inb_S1184x4608_S1184x256_0_256 inb_S1024x4608_S1024x256_0_256 x) fun h256 => ?_
  refine chain _ 0 _ _ _ r j h256 (fun x => piece_at (outsAt0 m c (t.val - 1) (by omega)).2 (codes m c t) (iblk m c 2 t) 0 inb_S1184x4608_S1184x256_0_0 inb_S1024x4608_S1024x256_0_0 x) fun hz => ?_
  exact absurd hz (Nat.not_lt_zero _)

/-- The first point of a token block starts from zero. -/
theorem acc_A (c : Dev nD) (t : Fin cfg0.N) (h0 : t.val % 18 = 0) (h1 : ¬ t.val % 18 = 17) (r : Fin 1184) (j : Fin 4608) :
    (outsAt0 m c t.val t.isLt).2 (ix2 r j) = step (fun _ => 0) (codes m c t) (iblk m c 2 t) (ix2 r j) := by
  rw [outsAt0_A m c t h0 h1]
  dsimp only
  unfold sout0_A_0
  frame_open
  simp (disch := first | decide | rfl) only [↓View.readCov_skip, ↓View.readCov_fill]
  frame_out
  have hz : k0_pay5 (F := Ideal) = fun _ => (0 : EReal) := by funext y; pointwise [k0_pay5]
  simp only [hz]
  refine chain _ 4352 _ _ _ r j (lt_of_lt_of_eq j.isLt (by decide)) (fun x => piece_at (fun _ => (0 : EReal)) (codes m c t) (iblk m c 2 t) 4352 inb_S1184x4608_S1184x256_0_4352 inb_S1024x4608_S1024x256_0_4352 x) fun h4352 => ?_
  refine chain _ 4096 _ _ _ r j h4352 (fun x => piece_at (fun _ => (0 : EReal)) (codes m c t) (iblk m c 2 t) 4096 inb_S1184x4608_S1184x256_0_4096 inb_S1024x4608_S1024x256_0_4096 x) fun h4096 => ?_
  refine chain _ 3840 _ _ _ r j h4096 (fun x => piece_at (fun _ => (0 : EReal)) (codes m c t) (iblk m c 2 t) 3840 inb_S1184x4608_S1184x256_0_3840 inb_S1024x4608_S1024x256_0_3840 x) fun h3840 => ?_
  refine chain _ 3584 _ _ _ r j h3840 (fun x => piece_at (fun _ => (0 : EReal)) (codes m c t) (iblk m c 2 t) 3584 inb_S1184x4608_S1184x256_0_3584 inb_S1024x4608_S1024x256_0_3584 x) fun h3584 => ?_
  refine chain _ 3328 _ _ _ r j h3584 (fun x => piece_at (fun _ => (0 : EReal)) (codes m c t) (iblk m c 2 t) 3328 inb_S1184x4608_S1184x256_0_3328 inb_S1024x4608_S1024x256_0_3328 x) fun h3328 => ?_
  refine chain _ 3072 _ _ _ r j h3328 (fun x => piece_at (fun _ => (0 : EReal)) (codes m c t) (iblk m c 2 t) 3072 inb_S1184x4608_S1184x256_0_3072 inb_S1024x4608_S1024x256_0_3072 x) fun h3072 => ?_
  refine chain _ 2816 _ _ _ r j h3072 (fun x => piece_at (fun _ => (0 : EReal)) (codes m c t) (iblk m c 2 t) 2816 inb_S1184x4608_S1184x256_0_2816 inb_S1024x4608_S1024x256_0_2816 x) fun h2816 => ?_
  refine chain _ 2560 _ _ _ r j h2816 (fun x => piece_at (fun _ => (0 : EReal)) (codes m c t) (iblk m c 2 t) 2560 inb_S1184x4608_S1184x256_0_2560 inb_S1024x4608_S1024x256_0_2560 x) fun h2560 => ?_
  refine chain _ 2304 _ _ _ r j h2560 (fun x => piece_at (fun _ => (0 : EReal)) (codes m c t) (iblk m c 2 t) 2304 inb_S1184x4608_S1184x256_0_2304 inb_S1024x4608_S1024x256_0_2304 x) fun h2304 => ?_
  refine chain _ 2048 _ _ _ r j h2304 (fun x => piece_at (fun _ => (0 : EReal)) (codes m c t) (iblk m c 2 t) 2048 inb_S1184x4608_S1184x256_0_2048 inb_S1024x4608_S1024x256_0_2048 x) fun h2048 => ?_
  refine chain _ 1792 _ _ _ r j h2048 (fun x => piece_at (fun _ => (0 : EReal)) (codes m c t) (iblk m c 2 t) 1792 inb_S1184x4608_S1184x256_0_1792 inb_S1024x4608_S1024x256_0_1792 x) fun h1792 => ?_
  refine chain _ 1536 _ _ _ r j h1792 (fun x => piece_at (fun _ => (0 : EReal)) (codes m c t) (iblk m c 2 t) 1536 inb_S1184x4608_S1184x256_0_1536 inb_S1024x4608_S1024x256_0_1536 x) fun h1536 => ?_
  refine chain _ 1280 _ _ _ r j h1536 (fun x => piece_at (fun _ => (0 : EReal)) (codes m c t) (iblk m c 2 t) 1280 inb_S1184x4608_S1184x256_0_1280 inb_S1024x4608_S1024x256_0_1280 x) fun h1280 => ?_
  refine chain _ 1024 _ _ _ r j h1280 (fun x => piece_at (fun _ => (0 : EReal)) (codes m c t) (iblk m c 2 t) 1024 inb_S1184x4608_S1184x256_0_1024 inb_S1024x4608_S1024x256_0_1024 x) fun h1024 => ?_
  refine chain _ 768 _ _ _ r j h1024 (fun x => piece_at (fun _ => (0 : EReal)) (codes m c t) (iblk m c 2 t) 768 inb_S1184x4608_S1184x256_0_768 inb_S1024x4608_S1024x256_0_768 x) fun h768 => ?_
  refine chain _ 512 _ _ _ r j h768 (fun x => piece_at (fun _ => (0 : EReal)) (codes m c t) (iblk m c 2 t) 512 inb_S1184x4608_S1184x256_0_512 inb_S1024x4608_S1024x256_0_512 x) fun h512 => ?_
  refine chain _ 256 _ _ _ r j h512 (fun x => piece_at (fun _ => (0 : EReal)) (codes m c t) (iblk m c 2 t) 256 inb_S1184x4608_S1184x256_0_256 inb_S1024x4608_S1024x256_0_256 x) fun h256 => ?_
  refine chain _ 0 _ _ _ r j h256 (fun x => piece_at (fun _ => (0 : EReal)) (codes m c t) (iblk m c 2 t) 0 inb_S1184x4608_S1184x256_0_0 inb_S1024x4608_S1024x256_0_0 x) fun hz => ?_
  exact absurd hz (Nat.not_lt_zero _)

end Cert.DownIdeal.Blocks

end
-- ==== Proof.DownSum.lean ====
/- The down-projection kernel's accumulator over a token block: after the block's `k`-th point it holds the products of the
   first `1024 (k + 1)` hidden columns, and after the last the whole sum. -/
module

public import proofs.«01_k».proof.Proof.DownPoint

@[expose] public section

set_option maxRecDepth 16384

noncomputable section

namespace Cert.DownIdeal.Blocks

open Idealize.ShloMosaic Idealize.ShloMosaic.TcCoe Idealize.SL.Sem
open Idealize.ShloMosaic.Pipeline (Dat)
open Cert.DownIdeal Cert.DownIdeal.Gen Cert.Layer

variable (m : (ℓ : Loc nD τ sig) → Buf (Elt Ideal) ℓ)

theorem w_blk (c : Dev nD) (t : Fin cfg0.N) (k : Fin 1024) (j : Fin 4608) :
    iblk m c 2 t (ix2 k j) = m ((c : Thread nD τ).loc main_arg2) (ix2 (col t k) j) := by
  blk_ext [iblk, V, idx t, col]

/-- A sum over `n` columns, written over the naturals below `n`. -/
theorem sum_below (n : ℕ) (g : Fin n → EReal) : (∑ k ∈ Finset.range n, if h : k < n then g ⟨k, h⟩ else 0) = ∑ k, g k := by
  rw [Finset.sum_range]
  exact Finset.sum_congr rfl fun k _ => dif_pos k.isLt

/-- Hidden column `k`'s product for token `i`, output column `j`. -/
def prods (c : Dev nD) (i : Fin 14208) (j : Fin 4608) (k : ℕ) : EReal :=
  if h : k < 18432 then code m c i ⟨k, h⟩ * m ((c : Thread nD τ).loc main_arg2) (ix2 ⟨k, h⟩ j) else 0

/-- A point's codes are its tokens'. -/
theorem codes_at (c : Dev nD) (t : Fin cfg0.N) (r : Fin 1184) (k : Fin 1024) : codes m c t (ix2 r k) = code m c (tok t r) (col t k) :=
  code_blk m c t _ (fun r => by pointwise) r k

/-- What a point adds: the products of its hidden columns. -/
theorem step_at (prev : FVec Ideal S1184x4608 .f32) (c : Dev nD) (t : Fin cfg0.N) (r : Fin 1184) (j : Fin 4608) :
    step prev (codes m c t) (iblk m c 2 t) (ix2 r j)
      = prev (ix2 r j) + ∑ k ∈ Finset.range 1024, prods m c (tok t r) j (t.val % 18 * 1024 + k) := by
  unfold step
  refine congrArg (prev (ix2 r j) + ·) ?_
  rw [Finset.sum_range]
  refine Finset.sum_congr rfl fun k _ => ?_
  have hk : t.val % 18 * 1024 + k.val < 18432 := by omega
  unfold prods
  rw [dif_pos hk]
  exact congrArg₂ (· * ·) (codes_at m c t r k) (w_blk m c t k j)

/-- Block sums of width `w`, restarted every 18 steps, are sums from the restart. -/
theorem fold_blocks (N w : ℕ) (a : (n : ℕ) → n < N → EReal) (p : ℕ → ℕ → EReal)
    (hA : ∀ n h, n % 18 = 0 → a n h = ∑ k ∈ Finset.range w, p (n / 18) (n % 18 * w + k))
    (hS : ∀ n (h : n + 1 < N), (n + 1) % 18 ≠ 0 → a (n + 1) h = a n (by omega) + ∑ k ∈ Finset.range w, p ((n + 1) / 18) ((n + 1) % 18 * w + k)) :
    ∀ n h, a n h = ∑ k ∈ Finset.range ((n % 18 + 1) * w), p (n / 18) k := by
  intro n
  induction n with
  | zero =>
    intro h
    rw [hA 0 h rfl]
    simp
  | succ n ih =>
    intro h
    by_cases h0 : (n + 1) % 18 = 0
    · rw [hA _ h h0, h0]
      simp
    · rw [hS n h h0, ih, show (n + 1) / 18 = n / 18 by omega, show (n + 1) % 18 = n % 18 + 1 by omega, Nat.add_mul (n % 18 + 1) 1 w, Nat.one_mul, Finset.sum_range_add]

/-- Token row `r` of token block `b`. -/
def tokb (b : ℕ) (r : Fin 1184) : Fin 14208 := ⟨(b * 1184 + r) % 14208, Nat.mod_lt _ (by decide)⟩

theorem tokb_eq (t : Fin cfg0.N) (r : Fin 1184) : tokb (t.val / 18) r = tok t r :=
  Fin.ext (Nat.mod_eq_of_lt (tok t r).isLt)

/-- The accumulator after any point. -/
theorem acc_at (c : Dev nD) (r : Fin 1184) (j : Fin 4608) (n : ℕ) (h : n < cfg0.N) :
    (outsAt0 m c n h).2 (ix2 r j) = ∑ k ∈ Finset.range ((n % 18 + 1) * 1024), prods m c (tokb (n / 18) r) j k := by
  refine fold_blocks cfg0.N 1024 (fun n h => (outsAt0 m c n h).2 (ix2 r j)) (fun b k => prods m c (tokb b r) j k) ?_ ?_ n h
  · intro n h h0
    refine (acc_A m c ⟨n, h⟩ h0 (fun h1 => by have h1 : n % 18 = 17 := h1; omega) r j).trans ((step_at m _ c ⟨n, h⟩ r j).trans ?_)
    rw [← tokb_eq]
    exact zero_add _
  · intro n h h0
    have hs : (outsAt0 m c (n + 1) h).2 (ix2 r j) = step (outsAt0 m c n (by omega)).2 (codes m c ⟨n + 1, h⟩) (iblk m c 2 ⟨n + 1, h⟩) (ix2 r j) := by
      by_cases h1 : (n + 1) % 18 = 17
      · exact acc_C m c ⟨n + 1, h⟩ h0 h1 r j
      · exact acc_B m c ⟨n + 1, h⟩ h0 h1 r j
    refine hs.trans ((step_at m _ c ⟨n + 1, h⟩ r j).trans ?_)
    rw [← tokb_eq]

/-- The accumulator after the last point of a token block: the codes against the weight. -/
theorem acc_last (c : Dev nD) (t : Fin cfg0.N) (h1 : t.val % 18 = 17) (r : Fin 1184) (j : Fin 4608) :
    (outsAt0 m c t.val t.isLt).2 (ix2 r j) = ∑ k : Fin 18432, code m c (tok t r) k * m ((c : Thread nD τ).loc main_arg2) (ix2 k j) := by
  refine (acc_at m c r j t.val t.isLt).trans ?_
  rw [show (t.val % 18 + 1) * 1024 = 18432 by omega, tokb_eq]
  exact sum_below 18432 fun k => code m c (tok t r) k * m ((c : Thread nD τ).loc main_arg2) (ix2 k j)

end Cert.DownIdeal.Blocks

end
-- ==== Proof.DownLoop.lean ====
/- The last point of a token block copies its rows out, 32 at a time: the loop that does so, with what it leaves in the
   result named. -/
module

public import proofs.«01_k».proof.Proof.Gen.DownIdeal.Loops
public import Idealize.ShloMosaic.Lib.Exec
public import Idealize.ShloMosaic.Lib.Tactic
public import Idealize.ShloMosaic.Lib.VecWindow
public import Idealize.ShloMosaic.Lib.Pipeline.ValueKit

@[expose] public section

set_option maxRecDepth 16384
set_option maxHeartbeats 4000000

noncomputable section

namespace Cert.DownIdeal.Out

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.DownIdeal Cert.DownIdeal.Gen

variable {F : FTy → Type} [FloatOps F]

local notation "𝕄D" => MT nD τ sig Unit (Elt F) ℕ (UR sig nD τ × Counters) ℕ

/-- The 32 rows trip `k` copies out: the finish of the accumulator's rows `32 k …` and the residual's rows of the same tokens. -/
def rows {arg3 : Memref sig .tc .vmem S1184x128 .f32} {arg5 : Memref sig .tc .vmem S1x4608 .f32} {arg6 : Memref sig .tc .vmem S1x4608 .f32} {arg10 : Memref sig .tc .vmem S1184x4608 .f32} {arg7 : Memref sig .tc .hbm S14208x4608 .f32} (i : grid0.Coords) (h2 : k0_cond2 i = 1#1) (X_arg3 : BufTy.Contents (Elt F) arg3.view.ty) (X_arg5 : BufTy.Contents (Elt F) arg5.view.ty) (X_arg6 : BufTy.Contents (Elt F) arg6.view.ty) (X_arg10 : BufTy.Contents (Elt F) arg10.view.ty) (X_arg7 : BufTy.Contents (Elt F) arg7.view.ty)
    (k : Fin k0_t1_loop.trips) : FVec F S32x4608 .bf16 :=
  k0_pay2 (k0_pay3 (arg10.view.readAt (Elt F) (Rect.unit (s := S1184x4608) (k0_off2 k) S32x4608.size (k0_off2_inb i k h2)).toLoadRect X_arg10)
    (arg3.view.readAt (Elt F) (Rect.unit (s := S1184x128) (k0_off3 k) S32x1.size (k0_off3_inb i k h2)).toLoadRect X_arg3)
    (arg5.view.readAt (Elt F) (Rect.unit (s := S1x4608) ![0, 0] S1x4608.size inb_S1x4608_S1x4608_0_0).toLoadRect X_arg5)
    ((arg7.slice (Rect.unit (s := S14208x4608) (k0_off1 i k) S32x4608.size (k0_off1_inb i k h2)) (fun _ => rfl)).view.read (Elt F) X_arg7)
    (arg6.view.readAt (Elt F) (Rect.unit (s := S1x4608) ![0, 0] S1x4608.size inb_S1x4608_S1x4608_0_0).toLoadRect X_arg6))

/-- The rows the trips before `k` copied out, last first, each at its place in the result. -/
def placed {arg3 : Memref sig .tc .vmem S1184x128 .f32} {arg5 : Memref sig .tc .vmem S1x4608 .f32} {arg6 : Memref sig .tc .vmem S1x4608 .f32} {arg10 : Memref sig .tc .vmem S1184x4608 .f32} {arg7 : Memref sig .tc .hbm S14208x4608 .f32} (i : grid0.Coords) (h2 : k0_cond2 i = 1#1) (X_arg3 : BufTy.Contents (Elt F) arg3.view.ty) (X_arg5 : BufTy.Contents (Elt F) arg5.view.ty) (X_arg6 : BufTy.Contents (Elt F) arg6.view.ty) (X_arg10 : BufTy.Contents (Elt F) arg10.view.ty) (X_arg7 : BufTy.Contents (Elt F) arg7.view.ty) : ℕ → List (View.Piece (Elt F) S14208x4608 .bf16)
  | 0 => []
  | k + 1 => if h : k < k0_t1_loop.trips then
      ⟨Rect.unit (s := S14208x4608) (k0_off1 i ⟨k, h⟩) S32x4608.size (k0_off1_inb i ⟨k, h⟩ h2), rows i h2 X_arg3 X_arg5 X_arg6 X_arg10 X_arg7 ⟨k, h⟩⟩
        :: placed i h2 X_arg3 X_arg5 X_arg6 X_arg10 X_arg7 k
    else placed i h2 X_arg3 X_arg5 X_arg6 X_arg10 X_arg7 k

theorem placed_succ {arg3 : Memref sig .tc .vmem S1184x128 .f32} {arg5 : Memref sig .tc .vmem S1x4608 .f32} {arg6 : Memref sig .tc .vmem S1x4608 .f32} {arg10 : Memref sig .tc .vmem S1184x4608 .f32} {arg7 : Memref sig .tc .hbm S14208x4608 .f32} (i : grid0.Coords) (h2 : k0_cond2 i = 1#1) (X_arg3 : BufTy.Contents (Elt F) arg3.view.ty) (X_arg5 : BufTy.Contents (Elt F) arg5.view.ty) (X_arg6 : BufTy.Contents (Elt F) arg6.view.ty) (X_arg10 : BufTy.Contents (Elt F) arg10.view.ty) (X_arg7 : BufTy.Contents (Elt F) arg7.view.ty) (k : Fin k0_t1_loop.trips) :
    placed i h2 X_arg3 X_arg5 X_arg6 X_arg10 X_arg7 (k.val + 1)
      = ⟨Rect.unit (s := S14208x4608) (k0_off1 i k) S32x4608.size (k0_off1_inb i k h2), rows i h2 X_arg3 X_arg5 X_arg6 X_arg10 X_arg7 k⟩
        :: placed i h2 X_arg3 X_arg5 X_arg6 X_arg10 X_arg7 k.val := by
  rw [placed]; exact dif_pos k.isLt

/-- A load of a whole buffer after one store of a whole buffer reads what was stored. -/
theorem filled' {Val : EltTy → Type} [∀ e, Nonempty (Val e)] {s : Shape} {e : EltTy} (v : View sig .tc .vmem s e) (w : s.Idx → Val e) {off : Fin s.rank → ℕ}
    (inb : ∀ a, off a + s.size a ≤ s.size a) (h : off = fun _ => 0) :
    v.readCov [⟨Rect.whole s, w⟩] (Rect.unit off s.size inb).toLoadRect = w := by
  subst h; exact View.readCov_full v _ _ w []

/-- A load of the whole of a buffer that a copy has filled reads what was copied. -/
theorem filled (v : View sig .tc .vmem S32x4608 .f32) (w : FVec F S32x4608 .f32) :
    v.readCov (Val := Elt F) [⟨Rect.whole S32x4608, w⟩] (Rect.unit (s := S32x4608) ![0, 0] S32x4608.size inb_S32x4608_S32x4608_0_0).toLoadRect = w :=
  filled' (Val := Elt F) v w _ (by funext a; fin_cases a <;> rfl)

/-- One trip: the result, at any contents before it, ends with the trip's rows written. -/
theorem trip (𝒱 : Variants) (c : Dev nD) (bd : Option 𝒱.V) (i : grid0.Coords) (arg2 : Memref sig .tc .vmem S1184x1024 .f32) (harg2 : arg2.IsWhole) (arg3 : Memref sig .tc .vmem S1184x128 .f32) (harg3 : arg3.IsWhole) (arg4 : Memref sig .tc .vmem S1024x4608 .fp8e4m3) (harg4 : arg4.IsWhole) (arg5 : Memref sig .tc .vmem S1x4608 .f32) (harg5 : arg5.IsWhole) (arg6 : Memref sig .tc .vmem S1x4608 .f32) (harg6 : arg6.IsWhole) (arg7 : Memref sig .tc .hbm S14208x4608 .f32) (harg7 : arg7.IsWhole) (arg8 : Memref sig .tc .vmem S1184x1024 .fp8e4m3) (harg8 : arg8.IsWhole) (arg9 : Memref sig .tc .hbm S14208x4608 .bf16) (harg9 : arg9.IsWhole) (arg10 : Memref sig .tc .vmem S1184x4608 .f32) (harg10 : arg10.IsWhole) (arg11 : Memref sig .tc .vmem S32x4608 .f32) (harg11 : arg11.IsWhole) (arg12 : Memref sig .tc .vmem S32x4608 .bf16) (harg12 : arg12.IsWhole) (arg13 : DmaSems sig S_) (v217_r0 : DmaSems sig S_) (v217_r1 : DmaSems sig S_) (arg0 : BitVec 32) (k0_h2 : k0_cond2 i = 1#1) (X_arg3 : BufTy.Contents (Elt F) arg3.view.ty) (X_arg5 : BufTy.Contents (Elt F) arg5.view.ty) (X_arg6 : BufTy.Contents (Elt F) arg6.view.ty) (X_arg10 : BufTy.Contents (Elt F) arg10.view.ty) (X_arg7 : BufTy.Contents (Elt F) arg7.view.ty) (k : Fin k0_t1_loop.trips)
    (f_arg12 : BufTy.Contents (Elt F) arg12.view.ty) (g_arg9 : BufTy.Contents (Elt F) arg9.view.ty) :
      iprop(Trip_k0_t1 (F := F) c arg3 arg5 arg6 arg10 arg12 arg7 arg11 arg9 v217_r0 v217_r1 X_arg3 X_arg5 X_arg6 X_arg10 X_arg7 f_arg12 ∗ (∃ f, (arg11.view.loc (c : Thread nD τ) ↦[arg11.view.set]{fullShare} f)) ∗ (arg9.view.loc (c : Thread nD τ) ↦{fullShare} g_arg9) ∗ (∃ W, owes (c : Thread nD τ) 0 W))
      ⊢ wp frame (wpE (defs₀ (F := F)) 𝒱 (c : Thread nD τ) bd) Set.univ (k0_t1_body (F := F) i arg2 harg2 arg3 harg3 arg4 harg4 arg5 harg5 arg6 harg6 arg7 harg7 arg8 harg8 arg9 harg9 arg10 harg10 arg11 harg11 arg12 harg12 arg13 v217_r0 v217_r1 arg0 k0_h2 k PUnit.unit)
          (fun _ => iprop((∃ f, Trip_k0_t1 (F := F) c arg3 arg5 arg6 arg10 arg12 arg7 arg11 arg9 v217_r0 v217_r1 X_arg3 X_arg5 X_arg6 X_arg10 X_arg7 f) ∗ (∃ f, (arg11.view.loc (c : Thread nD τ) ↦[arg11.view.set]{fullShare} f)) ∗ (∃ g, (arg9.view.loc (c : Thread nD τ) ↦{fullShare} g)
            ∗ ⌜g = (arg9.slice (Rect.unit (s := S14208x4608) (k0_off1 i k) S32x4608.size (k0_off1_inb i k k0_h2)) (fun _ => rfl)).view.write (Elt F) g_arg9 (rows i k0_h2 X_arg3 X_arg5 X_arg6 X_arg10 X_arg7 k) Finset.univ⌝) ∗ (∃ W, owes (c : Thread nD τ) 0 W))) := by
  have hk : k.val < 37 := Nat.lt_of_lt_of_le k.isLt k0_t1_abs.2.1
  unfold k0_t1_body
  iintro ⟨⟨HR_arg3, HR_arg5, HR_arg6, HR_arg10, HS_arg7, HW_arg12, HC_0, HC_1⟩, ⟨%fd_arg11, HD_arg11⟩, HB_arg9, ⟨%W, HO⟩⟩
  sl_exec
  sl_step
  isplitl [HR_arg3 HR_arg5 HR_arg6 HR_arg10 HS_arg7 HW_arg12 HC_0 HC_1]
  · iexists _
    isplitl [HR_arg3]; · iexact HR_arg3
    isplitl [HR_arg5]; · iexact HR_arg5
    isplitl [HR_arg6]; · iexact HR_arg6
    isplitl [HR_arg10]; · iexact HR_arg10
    isplitl [HS_arg7]; · iexact HS_arg7
    isplitl [HW_arg12]; · iexact HW_arg12
    isplitl [HC_0]; · iexact HC_0
    iexact HC_1
  isplitl [HD_arg11]; · iexists _; iexact HD_arg11
  isplitl [HB_arg9]
  · iexists _; isplitl [HB_arg9]; · iexact HB_arg9
    ipureintro
    frame_open
    unfold rows
    refine congrArg (fun w => View.write (Elt F) (arg9.slice (Rect.unit (s := S14208x4608) (k0_off1 i k) S32x4608.size (k0_off1_inb i k k0_h2)) (fun _ => rfl)).view g_arg9 w Finset.univ) ?_
    refine (View.read_writes_full arg12.view f_arg12 (off := ![0, 0]) _ _ []).trans ?_
    refine congrArg k0_pay2 ?_
    rw [filled]
  iexists _; iexact HO

abbrev inv (𝒱 : Variants) (c : Dev nD) (bd : Option 𝒱.V) (i : grid0.Coords) (arg2 : Memref sig .tc .vmem S1184x1024 .f32) (harg2 : arg2.IsWhole) (arg3 : Memref sig .tc .vmem S1184x128 .f32) (harg3 : arg3.IsWhole) (arg4 : Memref sig .tc .vmem S1024x4608 .fp8e4m3) (harg4 : arg4.IsWhole) (arg5 : Memref sig .tc .vmem S1x4608 .f32) (harg5 : arg5.IsWhole) (arg6 : Memref sig .tc .vmem S1x4608 .f32) (harg6 : arg6.IsWhole) (arg7 : Memref sig .tc .hbm S14208x4608 .f32) (harg7 : arg7.IsWhole) (arg8 : Memref sig .tc .vmem S1184x1024 .fp8e4m3) (harg8 : arg8.IsWhole) (arg9 : Memref sig .tc .hbm S14208x4608 .bf16) (harg9 : arg9.IsWhole) (arg10 : Memref sig .tc .vmem S1184x4608 .f32) (harg10 : arg10.IsWhole) (arg11 : Memref sig .tc .vmem S32x4608 .f32) (harg11 : arg11.IsWhole) (arg12 : Memref sig .tc .vmem S32x4608 .bf16) (harg12 : arg12.IsWhole) (arg13 : DmaSems sig S_) (v217_r0 : DmaSems sig S_) (v217_r1 : DmaSems sig S_) (arg0 : BitVec 32) (k0_h2 : k0_cond2 i = 1#1) (X_arg3 : BufTy.Contents (Elt F) arg3.view.ty) (X_arg5 : BufTy.Contents (Elt F) arg5.view.ty) (X_arg6 : BufTy.Contents (Elt F) arg6.view.ty) (X_arg10 : BufTy.Contents (Elt F) arg10.view.ty) (X_arg7 : BufTy.Contents (Elt F) arg7.view.ty) (G_arg9 : BufTy.Contents (Elt F) arg9.view.ty) (k : ℕ) (_u : PUnit) : sProp 𝕄D :=
  iprop((arg3.view.loc (c : Thread nD τ) ↦[arg3.view.set]{fullShare} X_arg3) ∗ (arg5.view.loc (c : Thread nD τ) ↦[arg5.view.set]{fullShare} X_arg5) ∗ (arg6.view.loc (c : Thread nD τ) ↦[arg6.view.set]{fullShare} X_arg6) ∗ (arg10.view.loc (c : Thread nD τ) ↦[arg10.view.set]{fullShare} X_arg10) ∗ (arg7.view.loc (c : Thread nD τ) ↦{fullShare} X_arg7) ∗ (∃ f, (arg12.view.loc (c : Thread nD τ) ↦[arg12.view.set]{fullShare} f)) ∗ (semVal ((c : Thread nD τ), SemLoc.dma v217_r0.sem) 0) ∗ (semVal ((c : Thread nD τ), SemLoc.dma v217_r1.sem) 0) ∗ (∃ f, (arg11.view.loc (c : Thread nD τ) ↦[arg11.view.set]{fullShare} f))
    ∗ (∃ g, (arg9.view.loc (c : Thread nD τ) ↦{fullShare} g) ∗ ⌜g = arg9.view.writes (Elt F) G_arg9 (placed i k0_h2 X_arg3 X_arg5 X_arg6 X_arg10 X_arg7 k)⌝) ∗ (∃ W, owes (c : Thread nD τ) 0 W))

set_option warn.classDefReducibility false in
/-- The loop by its invariant: before trip `k` the result holds the rows of the trips before `k`, over what it held when the
    loop began. -/
@[sl_loop] def loopInv (𝒱 : Variants) (c : Dev nD) (bd : Option 𝒱.V) (i : grid0.Coords) (arg2 : Memref sig .tc .vmem S1184x1024 .f32) (harg2 : arg2.IsWhole) (arg3 : Memref sig .tc .vmem S1184x128 .f32) (harg3 : arg3.IsWhole) (arg4 : Memref sig .tc .vmem S1024x4608 .fp8e4m3) (harg4 : arg4.IsWhole) (arg5 : Memref sig .tc .vmem S1x4608 .f32) (harg5 : arg5.IsWhole) (arg6 : Memref sig .tc .vmem S1x4608 .f32) (harg6 : arg6.IsWhole) (arg7 : Memref sig .tc .hbm S14208x4608 .f32) (harg7 : arg7.IsWhole) (arg8 : Memref sig .tc .vmem S1184x1024 .fp8e4m3) (harg8 : arg8.IsWhole) (arg9 : Memref sig .tc .hbm S14208x4608 .bf16) (harg9 : arg9.IsWhole) (arg10 : Memref sig .tc .vmem S1184x4608 .f32) (harg10 : arg10.IsWhole) (arg11 : Memref sig .tc .vmem S32x4608 .f32) (harg11 : arg11.IsWhole) (arg12 : Memref sig .tc .vmem S32x4608 .bf16) (harg12 : arg12.IsWhole) (arg13 : DmaSems sig S_) (v217_r0 : DmaSems sig S_) (v217_r1 : DmaSems sig S_) (arg0 : BitVec 32) (k0_h2 : k0_cond2 i = 1#1) (X_arg3 : BufTy.Contents (Elt F) arg3.view.ty) (X_arg5 : BufTy.Contents (Elt F) arg5.view.ty) (X_arg6 : BufTy.Contents (Elt F) arg6.view.ty) (X_arg10 : BufTy.Contents (Elt F) arg10.view.ty) (X_arg7 : BufTy.Contents (Elt F) arg7.view.ty) (G_arg9 : BufTy.Contents (Elt F) arg9.view.ty) :
    Idealize.ShloMosaic.LoopInv (M := 𝕄D) Idealize.ShloMosaic.frame (wpE (defs₀ (F := F)) 𝒱 (c : Thread nD τ) bd) Set.univ k0_t1_loop.lb k0_t1_loop.ub k0_t1_loop.st (k0_t1_ok i k0_h2) ()
      (k0_t1_body (F := F) i arg2 harg2 arg3 harg3 arg4 harg4 arg5 harg5 arg6 harg6 arg7 harg7 arg8 harg8 arg9 harg9 arg10 harg10 arg11 harg11 arg12 harg12 arg13 v217_r0 v217_r1 arg0 k0_h2) where
  inv := inv (F := F) 𝒱 c bd i arg2 harg2 arg3 harg3 arg4 harg4 arg5 harg5 arg6 harg6 arg7 harg7 arg8 harg8 arg9 harg9 arg10 harg10 arg11 harg11 arg12 harg12 arg13 v217_r0 v217_r1 arg0 k0_h2 X_arg3 X_arg5 X_arg6 X_arg10 X_arg7 G_arg9
  step k acc := by
    iintro ⟨HR_arg3, HR_arg5, HR_arg6, HR_arg10, HS_arg7, ⟨%f_arg12, HW_arg12⟩, HC_0, HC_1, HD_arg11, ⟨%g_arg9, HB_arg9, %h_arg9⟩, HO⟩
    iapply (wp_wand_r Idealize.ShloMosaic.frame (wpE (defs₀ (F := F)) 𝒱 (c : Thread nD τ) bd) Set.univ)
    isplitl [HR_arg3 HR_arg5 HR_arg6 HR_arg10 HS_arg7 HW_arg12 HC_0 HC_1 HD_arg11 HB_arg9 HO]
    · iapply (trip (F := F) 𝒱 c bd i arg2 harg2 arg3 harg3 arg4 harg4 arg5 harg5 arg6 harg6 arg7 harg7 arg8 harg8 arg9 harg9 arg10 harg10 arg11 harg11 arg12 harg12 arg13 v217_r0 v217_r1 arg0 k0_h2 X_arg3 X_arg5 X_arg6 X_arg10 X_arg7 k f_arg12 g_arg9)
      isplitl [HR_arg3 HR_arg5 HR_arg6 HR_arg10 HS_arg7 HW_arg12 HC_0 HC_1]
      · isplitl [HR_arg3]; · iexact HR_arg3
        isplitl [HR_arg5]; · iexact HR_arg5
        isplitl [HR_arg6]; · iexact HR_arg6
        isplitl [HR_arg10]; · iexact HR_arg10
        isplitl [HS_arg7]; · iexact HS_arg7
        isplitl [HW_arg12]; · iexact HW_arg12
        isplitl [HC_0]; · iexact HC_0
        iexact HC_1
      isplitl [HD_arg11]; · iexact HD_arg11
      isplitl [HB_arg9]; · iexact HB_arg9
      iexact HO
    · iintro %_ ⟨⟨%fw_arg12, HR_arg3, HR_arg5, HR_arg6, HR_arg10, HS_arg7, HW_arg12, HC_0, HC_1⟩, HD_arg11, ⟨%gd_arg9, HB_arg9, %hg_arg9⟩, HO⟩
      isplitl [HR_arg3]; · iexact HR_arg3
      isplitl [HR_arg5]; · iexact HR_arg5
      isplitl [HR_arg6]; · iexact HR_arg6
      isplitl [HR_arg10]; · iexact HR_arg10
      isplitl [HS_arg7]; · iexact HS_arg7
      isplitl [HW_arg12]; · iexists _; iexact HW_arg12
      isplitl [HC_0]; · iexact HC_0
      isplitl [HC_1]; · iexact HC_1
      isplitl [HD_arg11]; · iexact HD_arg11
      isplitl [HB_arg9]
      · iexists _; isplitl [HB_arg9]; · iexact HB_arg9
        ipureintro; rw [hg_arg9, h_arg9, placed_succ, View.writes_cons]
      iexact HO

end Cert.DownIdeal.Out

end
-- ==== Proof.DownRunA.lean ====
/- The first point of a token block, run: the result is not touched. -/
module

public import proofs.«01_k».proof.Proof.Gen.DownIdeal.Frame.Runs
public import proofs.«01_k».proof.Proof.DownLoop

@[expose] public section

set_option maxRecDepth 16384

noncomputable section

namespace Cert.DownIdeal.Out

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (Pipeline.UD sig nD τ) ℕ
variable (m : (ℓ : Loc nD τ sig) → Buf (Elt F) ℓ) (ρ : Dev nD → PrngReg)
open Cert.DownIdeal Cert.DownIdeal.Gen

set_option maxHeartbeats 1000000 in
/-- The first point of a token block, run: the result is not touched. -/
noncomputable def runA (c : Dev nD) (i : grid0.Coords) (arg2 : Memref sig .tc .vmem S1184x1024 .f32) (harg2 : arg2.IsWhole) (arg3 : Memref sig .tc .vmem S1184x128 .f32) (harg3 : arg3.IsWhole) (arg4 : Memref sig .tc .vmem S1024x4608 .fp8e4m3) (harg4 : arg4.IsWhole) (arg5 : Memref sig .tc .vmem S1x4608 .f32) (harg5 : arg5.IsWhole) (arg6 : Memref sig .tc .vmem S1x4608 .f32) (harg6 : arg6.IsWhole) (arg8 : Memref sig .tc .vmem S1184x1024 .fp8e4m3) (harg8 : arg8.IsWhole) (arg10 : Memref sig .tc .vmem S1184x4608 .f32) (harg10 : arg10.IsWhole) (arg11 : Memref sig .tc .vmem S32x4608 .f32) (harg11 : arg11.IsWhole) (arg12 : Memref sig .tc .vmem S32x4608 .bf16) (harg12 : arg12.IsWhole) (hc0 : cond0_0 i) (hc1 : ¬cond0_1 i)
    (x0 : Vec F S1184x1024 .f32) (x1 : Vec F S1184x128 .f32) (x2 : Vec F S1024x4608 .fp8e4m3) (x3 : Vec F S1x4608 .f32) (x4 : Vec F S1x4608 .f32) (fh0 : HbBuf0 (F := F) c hbM0_0) :
    Σ' (L5 : List (View.Piece (Elt F) S1184x1024 .fp8e4m3)), { LS0 : List (View.Piece (Elt F) S1184x4608 .f32) //
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg8 fullShare d) ∗ (∃ d, owns (c : Thread nD τ) arg10 fullShare d) ∗ (∃ d, owns (c : Thread nD τ) arg11 fullShare d) ∗ (∃ d, owns (c : Thread nD τ) arg12 fullShare d) ∗ semVal ((c : Thread nD τ), SemLoc.dma 10) 0 ∗ semVal ((c : Thread nD τ), SemLoc.dma 11) 0 ∗ semVal ((c : Thread nD τ), SemLoc.dma 12) 0 ∗ hbPt0 c hbM0_0 fh0 ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg8.view.loc (c : Thread nD τ) ↦[arg8.view.set]{fullShare} arg8.view.writes (Elt F) f L5) ∗ (∃ f, arg10.view.loc (c : Thread nD τ) ↦[arg10.view.set]{fullShare} arg10.view.writes (Elt F) f LS0) ∗ (∃ d, owns (c : Thread nD τ) arg11 fullShare d) ∗ (∃ d, owns (c : Thread nD τ) arg12 fullShare d) ∗ semVal ((c : Thread nD τ), SemLoc.dma 10) 0 ∗ semVal ((c : Thread nD τ), SemLoc.dma 11) 0 ∗ semVal ((c : Thread nD τ), SemLoc.dma 12) 0 ∗ hbPt0 c hbM0_0 fh0 ∗ (∃ W', owes (c : Thread nD τ) 0 W')) -∗ K ⟨⟩))
          ⊢ wp frame (wpE (defs₀ (F := F)) Variants.none c none) Set.univ (cc0_down i arg2 harg2 arg3 harg3 arg4 harg4 arg5 harg5 arg6 harg6 (Memref.whole main_arg5) (Memref.isWhole_whole _) arg8 harg8 (Memref.whole main_v2_1) (Memref.isWhole_whole _) arg10 harg10 arg11 harg11 arg12 harg12 cc0_scratch3 cc0_scoped0 cc0_scoped1) K } := by
  refine ⟨?_, ?_, fun W K => ?run⟩
  case run =>
    simp only [cc0_down_eq_skeleton]; unfold cc0_down_skel
    simp only [k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, Hq0, Hq1, Hq2, Hh0, HW, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    isplitl [HS1]
    · iexists _, _; isplitr; swap; · iexact HS1
      ipureintro; rfl
    isplitl [HS2]
    · iexists _, _; isplitr; swap; · iexact HS2
      ipureintro; rfl
    isplitl [Hq0]; · iexact Hq0
    isplitl [Hq1]; · iexact Hq1
    isplitl [Hq2]; · iexact Hq2
    isplitl [Hh0]; · iexact Hh0
    iexists _; iexact HW

end Cert.DownIdeal.Out

end
-- ==== Proof.DownRunB.lean ====
/- A point between, run: the result is not touched. -/
module

public import proofs.«01_k».proof.Proof.Gen.DownIdeal.Frame.Runs
public import proofs.«01_k».proof.Proof.DownLoop

@[expose] public section

set_option maxRecDepth 16384

noncomputable section

namespace Cert.DownIdeal.Out

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (Pipeline.UD sig nD τ) ℕ
variable (m : (ℓ : Loc nD τ sig) → Buf (Elt F) ℓ) (ρ : Dev nD → PrngReg)
open Cert.DownIdeal Cert.DownIdeal.Gen

set_option maxHeartbeats 1000000 in
/-- A point between, run: the result is not touched. -/
noncomputable def runB (c : Dev nD) (i : grid0.Coords) (arg2 : Memref sig .tc .vmem S1184x1024 .f32) (harg2 : arg2.IsWhole) (arg3 : Memref sig .tc .vmem S1184x128 .f32) (harg3 : arg3.IsWhole) (arg4 : Memref sig .tc .vmem S1024x4608 .fp8e4m3) (harg4 : arg4.IsWhole) (arg5 : Memref sig .tc .vmem S1x4608 .f32) (harg5 : arg5.IsWhole) (arg6 : Memref sig .tc .vmem S1x4608 .f32) (harg6 : arg6.IsWhole) (arg8 : Memref sig .tc .vmem S1184x1024 .fp8e4m3) (harg8 : arg8.IsWhole) (arg10 : Memref sig .tc .vmem S1184x4608 .f32) (harg10 : arg10.IsWhole) (arg11 : Memref sig .tc .vmem S32x4608 .f32) (harg11 : arg11.IsWhole) (arg12 : Memref sig .tc .vmem S32x4608 .bf16) (harg12 : arg12.IsWhole) (hc0 : ¬cond0_0 i) (hc1 : ¬cond0_1 i)
    (x0 : Vec F S1184x1024 .f32) (x1 : Vec F S1184x128 .f32) (x2 : Vec F S1024x4608 .fp8e4m3) (x3 : Vec F S1x4608 .f32) (x4 : Vec F S1x4608 .f32) (xs0 : Vec F S1184x4608 .f32) (fh0 : HbBuf0 (F := F) c hbM0_0) :
    Σ' (L5 : List (View.Piece (Elt F) S1184x1024 .fp8e4m3)), { LS0 : List (View.Piece (Elt F) S1184x4608 .f32) //
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg8 fullShare d) ∗ owns (c : Thread nD τ) arg10 fullShare xs0 ∗ (∃ d, owns (c : Thread nD τ) arg11 fullShare d) ∗ (∃ d, owns (c : Thread nD τ) arg12 fullShare d) ∗ semVal ((c : Thread nD τ), SemLoc.dma 10) 0 ∗ semVal ((c : Thread nD τ), SemLoc.dma 11) 0 ∗ semVal ((c : Thread nD τ), SemLoc.dma 12) 0 ∗ hbPt0 c hbM0_0 fh0 ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg8.view.loc (c : Thread nD τ) ↦[arg8.view.set]{fullShare} arg8.view.writes (Elt F) f L5) ∗ (∃ f, arg10.view.loc (c : Thread nD τ) ↦[arg10.view.set]{fullShare} arg10.view.writes (Elt F) f LS0) ∗ (∃ d, owns (c : Thread nD τ) arg11 fullShare d) ∗ (∃ d, owns (c : Thread nD τ) arg12 fullShare d) ∗ semVal ((c : Thread nD τ), SemLoc.dma 10) 0 ∗ semVal ((c : Thread nD τ), SemLoc.dma 11) 0 ∗ semVal ((c : Thread nD τ), SemLoc.dma 12) 0 ∗ hbPt0 c hbM0_0 fh0 ∗ (∃ W', owes (c : Thread nD τ) 0 W')) -∗ K ⟨⟩))
          ⊢ wp frame (wpE (defs₀ (F := F)) Variants.none c none) Set.univ (cc0_down i arg2 harg2 arg3 harg3 arg4 harg4 arg5 harg5 arg6 harg6 (Memref.whole main_arg5) (Memref.isWhole_whole _) arg8 harg8 (Memref.whole main_v2_1) (Memref.isWhole_whole _) arg10 harg10 arg11 harg11 arg12 harg12 cc0_scratch3 cc0_scoped0 cc0_scoped1) K } := by
  refine ⟨?_, ?_, fun W K => ?run⟩
  case run =>
    simp only [cc0_down_eq_skeleton]; unfold cc0_down_skel
    simp only [k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%ds1, %fs1, -, HS1⟩, ⟨%ds2, %fs2, -, HS2⟩, Hq0, Hq1, Hq2, Hh0, HW, Hk⟩
    obtain rfl := harg2.eq_unread hf0; obtain rfl := harg3.eq_unread hf1; obtain rfl := harg4.eq_unread hf2; obtain rfl := harg5.eq_unread hf3; obtain rfl := harg6.eq_unread hf4; obtain rfl := harg10.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    isplitl [HS1]
    · iexists _, _; isplitr; swap; · iexact HS1
      ipureintro; rfl
    isplitl [HS2]
    · iexists _, _; isplitr; swap; · iexact HS2
      ipureintro; rfl
    isplitl [Hq0]; · iexact Hq0
    isplitl [Hq1]; · iexact Hq1
    isplitl [Hq2]; · iexact Hq2
    isplitl [Hh0]; · iexact Hh0
    iexists _; iexact HW

end Cert.DownIdeal.Out

end
-- ==== Proof.DownRunC.lean ====
/- The last point of a token block, run: the result ends with the block's rows placed over what it held. -/
module

public import proofs.«01_k».proof.Proof.Gen.DownIdeal.Frame.Runs
public import proofs.«01_k».proof.Proof.DownLoop

@[expose] public section

set_option maxRecDepth 16384

noncomputable section

namespace Cert.DownIdeal.Out

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (Pipeline.UD sig nD τ) ℕ
variable (m : (ℓ : Loc nD τ sig) → Buf (Elt F) ℓ) (ρ : Dev nD → PrngReg)
open Cert.DownIdeal Cert.DownIdeal.Gen

set_option maxHeartbeats 1000000 in
/-- The last point of a token block, run: the result ends with the block's rows placed over what it held. -/
noncomputable def runC (c : Dev nD) (i : grid0.Coords) (arg2 : Memref sig .tc .vmem S1184x1024 .f32) (harg2 : arg2.IsWhole) (arg3 : Memref sig .tc .vmem S1184x128 .f32) (harg3 : arg3.IsWhole) (arg4 : Memref sig .tc .vmem S1024x4608 .fp8e4m3) (harg4 : arg4.IsWhole) (arg5 : Memref sig .tc .vmem S1x4608 .f32) (harg5 : arg5.IsWhole) (arg6 : Memref sig .tc .vmem S1x4608 .f32) (harg6 : arg6.IsWhole) (arg8 : Memref sig .tc .vmem S1184x1024 .fp8e4m3) (harg8 : arg8.IsWhole) (arg10 : Memref sig .tc .vmem S1184x4608 .f32) (harg10 : arg10.IsWhole) (arg11 : Memref sig .tc .vmem S32x4608 .f32) (harg11 : arg11.IsWhole) (arg12 : Memref sig .tc .vmem S32x4608 .bf16) (harg12 : arg12.IsWhole) (hc0 : ¬cond0_0 i) (hc1 : cond0_1 i)
    (x0 : Vec F S1184x1024 .f32) (x1 : Vec F S1184x128 .f32) (x2 : Vec F S1024x4608 .fp8e4m3) (x3 : Vec F S1x4608 .f32) (x4 : Vec F S1x4608 .f32) (xs0 : Vec F S1184x4608 .f32) (fh0 : HbBuf0 (F := F) c hbM0_0) :
    Σ' (L5 : List (View.Piece (Elt F) S1184x1024 .fp8e4m3)), { LS0 : List (View.Piece (Elt F) S1184x4608 .f32) //
      ∀ (fw : HbBuf0 (F := F) c hbM0_1) (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg8 fullShare d) ∗ owns (c : Thread nD τ) arg10 fullShare xs0 ∗ (∃ d, owns (c : Thread nD τ) arg11 fullShare d) ∗ (∃ d, owns (c : Thread nD τ) arg12 fullShare d) ∗ semVal ((c : Thread nD τ), SemLoc.dma 10) 0 ∗ semVal ((c : Thread nD τ), SemLoc.dma 11) 0 ∗ semVal ((c : Thread nD τ), SemLoc.dma 12) 0 ∗ hbPt0 c hbM0_0 fh0 ∗ hbPt0 c hbM0_1 fw ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg8.view.loc (c : Thread nD τ) ↦[arg8.view.set]{fullShare} arg8.view.writes (Elt F) f L5) ∗ (∃ f, iprop((arg10.view.loc (c : Thread nD τ) ↦[arg10.view.set]{fullShare} arg10.view.writes (Elt F) f LS0) ∗ hbPt0 c hbM0_1 (hbM0_1.view.writes (Elt F) fw (placed (arg7 := hbM0_0) i hc1 (harg3.unread x1) (harg5.unread x3) (harg6.unread x4) (arg10.view.writes (Elt F) f LS0) fh0 k0_t1_loop.trips)))) ∗ (∃ d, owns (c : Thread nD τ) arg11 fullShare d) ∗ (∃ d, owns (c : Thread nD τ) arg12 fullShare d) ∗ semVal ((c : Thread nD τ), SemLoc.dma 10) 0 ∗ semVal ((c : Thread nD τ), SemLoc.dma 11) 0 ∗ semVal ((c : Thread nD τ), SemLoc.dma 12) 0 ∗ hbPt0 c hbM0_0 fh0 ∗ (∃ W', owes (c : Thread nD τ) 0 W')) -∗ K ⟨⟩))
          ⊢ wp frame (wpE (defs₀ (F := F)) Variants.none c none) Set.univ (cc0_down i arg2 harg2 arg3 harg3 arg4 harg4 arg5 harg5 arg6 harg6 (Memref.whole main_arg5) (Memref.isWhole_whole _) arg8 harg8 (Memref.whole main_v2_1) (Memref.isWhole_whole _) arg10 harg10 arg11 harg11 arg12 harg12 cc0_scratch3 cc0_scoped0 cc0_scoped1) K } := by
  refine ⟨?_, ?_, fun fw W K => ?run⟩
  case run =>
    simp only [cc0_down_eq_skeleton]; unfold cc0_down_skel
    simp only [k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%ds1, %fs1, -, HS1⟩, ⟨%ds2, %fs2, -, HS2⟩, Hq0, Hq1, Hq2, Hh0, Hh1, HW, Hk⟩
    obtain rfl := harg2.eq_unread hf0; obtain rfl := harg3.eq_unread hf1; obtain rfl := harg4.eq_unread hf2; obtain rfl := harg5.eq_unread hf3; obtain rfl := harg6.eq_unread hf4; obtain rfl := harg10.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0 Hh1]
    · iexists _; isplitl [HS0]; · iexact HS0
      iexact Hh1
    isplitl [HS1]
    · iexists _, _; isplitr; swap; · iexact HS1
      ipureintro; rfl
    isplitl [HS2]
    · iexists _, _; isplitr; swap; · iexact HS2
      ipureintro; rfl
    isplitl [Hq0]; · iexact Hq0
    isplitl [Hq1]; · iexact Hq1
    isplitl [Hq2]; · iexact Hq2
    isplitl [Hh0]; · iexact Hh0
    iexists _; iexact HW

end Cert.DownIdeal.Out

end
-- ==== Proof.DownRunEq.lean ====
/- The runs of the body that follow the result store the same pieces as the generated runs. -/
module

public import proofs.«01_k».proof.Proof.Gen.DownIdeal.Frame
public import proofs.«01_k».proof.Proof.DownRunA
public import proofs.«01_k».proof.Proof.DownRunB
public import proofs.«01_k».proof.Proof.DownRunC

@[expose] public section

set_option maxRecDepth 16384

noncomputable section

namespace Cert.DownIdeal.Out

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.DownIdeal Cert.DownIdeal.Gen
variable {F : FTy → Type} [FloatOps F]
local notation "𝕄" => MT nD τ sig Unit (Elt F) ℕ (Pipeline.UD sig nD τ) ℕ

theorem runA_codes (c : Dev nD) (i : grid0.Coords) (arg2 : Memref sig .tc .vmem S1184x1024 .f32) (harg2 : arg2.IsWhole) (arg3 : Memref sig .tc .vmem S1184x128 .f32) (harg3 : arg3.IsWhole) (arg4 : Memref sig .tc .vmem S1024x4608 .fp8e4m3) (harg4 : arg4.IsWhole) (arg5 : Memref sig .tc .vmem S1x4608 .f32) (harg5 : arg5.IsWhole) (arg6 : Memref sig .tc .vmem S1x4608 .f32) (harg6 : arg6.IsWhole) (arg8 : Memref sig .tc .vmem S1184x1024 .fp8e4m3) (harg8 : arg8.IsWhole) (arg10 : Memref sig .tc .vmem S1184x4608 .f32) (harg10 : arg10.IsWhole) (arg11 : Memref sig .tc .vmem S32x4608 .f32) (harg11 : arg11.IsWhole) (arg12 : Memref sig .tc .vmem S32x4608 .bf16) (harg12 : arg12.IsWhole) (hc0 : cond0_0 i) (hc1 : ¬cond0_1 i)
    (x0 : Vec F S1184x1024 .f32) (x1 : Vec F S1184x128 .f32) (x2 : Vec F S1024x4608 .fp8e4m3) (x3 : Vec F S1x4608 .f32) (x4 : Vec F S1x4608 .f32) (fh0 : HbBuf0 (F := F) c hbM0_0) :
    (runA (F := F) c i arg2 harg2 arg3 harg3 arg4 harg4 arg5 harg5 arg6 harg6 arg8 harg8 arg10 harg10 arg11 harg11 arg12 harg12 hc0 hc1 x0 x1 x2 x3 x4 fh0).1 = (kernelRun0_A (F := F) c i arg2 harg2 arg3 harg3 arg4 harg4 arg5 harg5 arg6 harg6 arg8 harg8 arg10 harg10 arg11 harg11 arg12 harg12 hc0 hc1 x0 x1 x2 x3 x4 fh0).1 := by
  sl_kernel_rfl
theorem runA_acc (c : Dev nD) (i : grid0.Coords) (arg2 : Memref sig .tc .vmem S1184x1024 .f32) (harg2 : arg2.IsWhole) (arg3 : Memref sig .tc .vmem S1184x128 .f32) (harg3 : arg3.IsWhole) (arg4 : Memref sig .tc .vmem S1024x4608 .fp8e4m3) (harg4 : arg4.IsWhole) (arg5 : Memref sig .tc .vmem S1x4608 .f32) (harg5 : arg5.IsWhole) (arg6 : Memref sig .tc .vmem S1x4608 .f32) (harg6 : arg6.IsWhole) (arg8 : Memref sig .tc .vmem S1184x1024 .fp8e4m3) (harg8 : arg8.IsWhole) (arg10 : Memref sig .tc .vmem S1184x4608 .f32) (harg10 : arg10.IsWhole) (arg11 : Memref sig .tc .vmem S32x4608 .f32) (harg11 : arg11.IsWhole) (arg12 : Memref sig .tc .vmem S32x4608 .bf16) (harg12 : arg12.IsWhole) (hc0 : cond0_0 i) (hc1 : ¬cond0_1 i)
    (x0 : Vec F S1184x1024 .f32) (x1 : Vec F S1184x128 .f32) (x2 : Vec F S1024x4608 .fp8e4m3) (x3 : Vec F S1x4608 .f32) (x4 : Vec F S1x4608 .f32) (fh0 : HbBuf0 (F := F) c hbM0_0) :
    (runA (F := F) c i arg2 harg2 arg3 harg3 arg4 harg4 arg5 harg5 arg6 harg6 arg8 harg8 arg10 harg10 arg11 harg11 arg12 harg12 hc0 hc1 x0 x1 x2 x3 x4 fh0).2.1 = (kernelRun0_A (F := F) c i arg2 harg2 arg3 harg3 arg4 harg4 arg5 harg5 arg6 harg6 arg8 harg8 arg10 harg10 arg11 harg11 arg12 harg12 hc0 hc1 x0 x1 x2 x3 x4 fh0).2.1 := by
  sl_kernel_rfl

/-- The first point of a token block leaves the result alone. -/
theorem run_A (c : Dev nD) (i : grid0.Coords) (arg2 : Memref sig .tc .vmem S1184x1024 .f32) (harg2 : arg2.IsWhole) (arg3 : Memref sig .tc .vmem S1184x128 .f32) (harg3 : arg3.IsWhole) (arg4 : Memref sig .tc .vmem S1024x4608 .fp8e4m3) (harg4 : arg4.IsWhole) (arg5 : Memref sig .tc .vmem S1x4608 .f32) (harg5 : arg5.IsWhole) (arg6 : Memref sig .tc .vmem S1x4608 .f32) (harg6 : arg6.IsWhole) (arg8 : Memref sig .tc .vmem S1184x1024 .fp8e4m3) (harg8 : arg8.IsWhole) (arg10 : Memref sig .tc .vmem S1184x4608 .f32) (harg10 : arg10.IsWhole) (arg11 : Memref sig .tc .vmem S32x4608 .f32) (harg11 : arg11.IsWhole) (arg12 : Memref sig .tc .vmem S32x4608 .bf16) (harg12 : arg12.IsWhole) (hc0 : cond0_0 i) (hc1 : ¬cond0_1 i)
    (x0 : Vec F S1184x1024 .f32) (x1 : Vec F S1184x128 .f32) (x2 : Vec F S1024x4608 .fp8e4m3) (x3 : Vec F S1x4608 .f32) (x4 : Vec F S1x4608 .f32) (fh0 : HbBuf0 (F := F) c hbM0_0) :
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg8 fullShare d) ∗ (∃ d, owns (c : Thread nD τ) arg10 fullShare d) ∗ (∃ d, owns (c : Thread nD τ) arg11 fullShare d) ∗ (∃ d, owns (c : Thread nD τ) arg12 fullShare d) ∗ semVal ((c : Thread nD τ), SemLoc.dma 10) 0 ∗ semVal ((c : Thread nD τ), SemLoc.dma 11) 0 ∗ semVal ((c : Thread nD τ), SemLoc.dma 12) 0 ∗ hbPt0 c hbM0_0 fh0 ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg8.view.loc (c : Thread nD τ) ↦[arg8.view.set]{fullShare} arg8.view.writes (Elt F) f (kernelRun0_A (F := F) c i arg2 harg2 arg3 harg3 arg4 harg4 arg5 harg5 arg6 harg6 arg8 harg8 arg10 harg10 arg11 harg11 arg12 harg12 hc0 hc1 x0 x1 x2 x3 x4 fh0).1) ∗ (∃ f, arg10.view.loc (c : Thread nD τ) ↦[arg10.view.set]{fullShare} arg10.view.writes (Elt F) f (kernelRun0_A (F := F) c i arg2 harg2 arg3 harg3 arg4 harg4 arg5 harg5 arg6 harg6 arg8 harg8 arg10 harg10 arg11 harg11 arg12 harg12 hc0 hc1 x0 x1 x2 x3 x4 fh0).2.1) ∗ (∃ d, owns (c : Thread nD τ) arg11 fullShare d) ∗ (∃ d, owns (c : Thread nD τ) arg12 fullShare d) ∗ semVal ((c : Thread nD τ), SemLoc.dma 10) 0 ∗ semVal ((c : Thread nD τ), SemLoc.dma 11) 0 ∗ semVal ((c : Thread nD τ), SemLoc.dma 12) 0 ∗ hbPt0 c hbM0_0 fh0 ∗ (∃ W', owes (c : Thread nD τ) 0 W')) -∗ K ⟨⟩))
          ⊢ wp frame (wpE (defs₀ (F := F)) Variants.none c none) Set.univ (cc0_down i arg2 harg2 arg3 harg3 arg4 harg4 arg5 harg5 arg6 harg6 (Memref.whole main_arg5) (Memref.isWhole_whole _) arg8 harg8 (Memref.whole main_v2_1) (Memref.isWhole_whole _) arg10 harg10 arg11 harg11 arg12 harg12 cc0_scratch3 cc0_scoped0 cc0_scoped1) K := by
  have h := (runA (F := F) c i arg2 harg2 arg3 harg3 arg4 harg4 arg5 harg5 arg6 harg6 arg8 harg8 arg10 harg10 arg11 harg11 arg12 harg12 hc0 hc1 x0 x1 x2 x3 x4 fh0).2.2
  rw [runA_acc, runA_codes] at h
  exact h

theorem runB_codes (c : Dev nD) (i : grid0.Coords) (arg2 : Memref sig .tc .vmem S1184x1024 .f32) (harg2 : arg2.IsWhole) (arg3 : Memref sig .tc .vmem S1184x128 .f32) (harg3 : arg3.IsWhole) (arg4 : Memref sig .tc .vmem S1024x4608 .fp8e4m3) (harg4 : arg4.IsWhole) (arg5 : Memref sig .tc .vmem S1x4608 .f32) (harg5 : arg5.IsWhole) (arg6 : Memref sig .tc .vmem S1x4608 .f32) (harg6 : arg6.IsWhole) (arg8 : Memref sig .tc .vmem S1184x1024 .fp8e4m3) (harg8 : arg8.IsWhole) (arg10 : Memref sig .tc .vmem S1184x4608 .f32) (harg10 : arg10.IsWhole) (arg11 : Memref sig .tc .vmem S32x4608 .f32) (harg11 : arg11.IsWhole) (arg12 : Memref sig .tc .vmem S32x4608 .bf16) (harg12 : arg12.IsWhole) (hc0 : ¬cond0_0 i) (hc1 : ¬cond0_1 i)
    (x0 : Vec F S1184x1024 .f32) (x1 : Vec F S1184x128 .f32) (x2 : Vec F S1024x4608 .fp8e4m3) (x3 : Vec F S1x4608 .f32) (x4 : Vec F S1x4608 .f32) (xs0 : Vec F S1184x4608 .f32) (fh0 : HbBuf0 (F := F) c hbM0_0) :
    (runB (F := F) c i arg2 harg2 arg3 harg3 arg4 harg4 arg5 harg5 arg6 harg6 arg8 harg8 arg10 harg10 arg11 harg11 arg12 harg12 hc0 hc1 x0 x1 x2 x3 x4 xs0 fh0).1 = (kernelRun0_B (F := F) c i arg2 harg2 arg3 harg3 arg4 harg4 arg5 harg5 arg6 harg6 arg8 harg8 arg10 harg10 arg11 harg11 arg12 harg12 hc0 hc1 x0 x1 x2 x3 x4 xs0 fh0).1 := by
  sl_kernel_rfl
theorem runB_acc (c : Dev nD) (i : grid0.Coords) (arg2 : Memref sig .tc .vmem S1184x1024 .f32) (harg2 : arg2.IsWhole) (arg3 : Memref sig .tc .vmem S1184x128 .f32) (harg3 : arg3.IsWhole) (arg4 : Memref sig .tc .vmem S1024x4608 .fp8e4m3) (harg4 : arg4.IsWhole) (arg5 : Memref sig .tc .vmem S1x4608 .f32) (harg5 : arg5.IsWhole) (arg6 : Memref sig .tc .vmem S1x4608 .f32) (harg6 : arg6.IsWhole) (arg8 : Memref sig .tc .vmem S1184x1024 .fp8e4m3) (harg8 : arg8.IsWhole) (arg10 : Memref sig .tc .vmem S1184x4608 .f32) (harg10 : arg10.IsWhole) (arg11 : Memref sig .tc .vmem S32x4608 .f32) (harg11 : arg11.IsWhole) (arg12 : Memref sig .tc .vmem S32x4608 .bf16) (harg12 : arg12.IsWhole) (hc0 : ¬cond0_0 i) (hc1 : ¬cond0_1 i)
    (x0 : Vec F S1184x1024 .f32) (x1 : Vec F S1184x128 .f32) (x2 : Vec F S1024x4608 .fp8e4m3) (x3 : Vec F S1x4608 .f32) (x4 : Vec F S1x4608 .f32) (xs0 : Vec F S1184x4608 .f32) (fh0 : HbBuf0 (F := F) c hbM0_0) :
    (runB (F := F) c i arg2 harg2 arg3 harg3 arg4 harg4 arg5 harg5 arg6 harg6 arg8 harg8 arg10 harg10 arg11 harg11 arg12 harg12 hc0 hc1 x0 x1 x2 x3 x4 xs0 fh0).2.1 = (kernelRun0_B (F := F) c i arg2 harg2 arg3 harg3 arg4 harg4 arg5 harg5 arg6 harg6 arg8 harg8 arg10 harg10 arg11 harg11 arg12 harg12 hc0 hc1 x0 x1 x2 x3 x4 xs0 fh0).2.1 := by
  sl_kernel_rfl

/-- A point between leaves the result alone. -/
theorem run_B (c : Dev nD) (i : grid0.Coords) (arg2 : Memref sig .tc .vmem S1184x1024 .f32) (harg2 : arg2.IsWhole) (arg3 : Memref sig .tc .vmem S1184x128 .f32) (harg3 : arg3.IsWhole) (arg4 : Memref sig .tc .vmem S1024x4608 .fp8e4m3) (harg4 : arg4.IsWhole) (arg5 : Memref sig .tc .vmem S1x4608 .f32) (harg5 : arg5.IsWhole) (arg6 : Memref sig .tc .vmem S1x4608 .f32) (harg6 : arg6.IsWhole) (arg8 : Memref sig .tc .vmem S1184x1024 .fp8e4m3) (harg8 : arg8.IsWhole) (arg10 : Memref sig .tc .vmem S1184x4608 .f32) (harg10 : arg10.IsWhole) (arg11 : Memref sig .tc .vmem S32x4608 .f32) (harg11 : arg11.IsWhole) (arg12 : Memref sig .tc .vmem S32x4608 .bf16) (harg12 : arg12.IsWhole) (hc0 : ¬cond0_0 i) (hc1 : ¬cond0_1 i)
    (x0 : Vec F S1184x1024 .f32) (x1 : Vec F S1184x128 .f32) (x2 : Vec F S1024x4608 .fp8e4m3) (x3 : Vec F S1x4608 .f32) (x4 : Vec F S1x4608 .f32) (xs0 : Vec F S1184x4608 .f32) (fh0 : HbBuf0 (F := F) c hbM0_0) :
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg8 fullShare d) ∗ owns (c : Thread nD τ) arg10 fullShare xs0 ∗ (∃ d, owns (c : Thread nD τ) arg11 fullShare d) ∗ (∃ d, owns (c : Thread nD τ) arg12 fullShare d) ∗ semVal ((c : Thread nD τ), SemLoc.dma 10) 0 ∗ semVal ((c : Thread nD τ), SemLoc.dma 11) 0 ∗ semVal ((c : Thread nD τ), SemLoc.dma 12) 0 ∗ hbPt0 c hbM0_0 fh0 ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg8.view.loc (c : Thread nD τ) ↦[arg8.view.set]{fullShare} arg8.view.writes (Elt F) f (kernelRun0_B (F := F) c i arg2 harg2 arg3 harg3 arg4 harg4 arg5 harg5 arg6 harg6 arg8 harg8 arg10 harg10 arg11 harg11 arg12 harg12 hc0 hc1 x0 x1 x2 x3 x4 xs0 fh0).1) ∗ (∃ f, arg10.view.loc (c : Thread nD τ) ↦[arg10.view.set]{fullShare} arg10.view.writes (Elt F) f (kernelRun0_B (F := F) c i arg2 harg2 arg3 harg3 arg4 harg4 arg5 harg5 arg6 harg6 arg8 harg8 arg10 harg10 arg11 harg11 arg12 harg12 hc0 hc1 x0 x1 x2 x3 x4 xs0 fh0).2.1) ∗ (∃ d, owns (c : Thread nD τ) arg11 fullShare d) ∗ (∃ d, owns (c : Thread nD τ) arg12 fullShare d) ∗ semVal ((c : Thread nD τ), SemLoc.dma 10) 0 ∗ semVal ((c : Thread nD τ), SemLoc.dma 11) 0 ∗ semVal ((c : Thread nD τ), SemLoc.dma 12) 0 ∗ hbPt0 c hbM0_0 fh0 ∗ (∃ W', owes (c : Thread nD τ) 0 W')) -∗ K ⟨⟩))
          ⊢ wp frame (wpE (defs₀ (F := F)) Variants.none c none) Set.univ (cc0_down i arg2 harg2 arg3 harg3 arg4 harg4 arg5 harg5 arg6 harg6 (Memref.whole main_arg5) (Memref.isWhole_whole _) arg8 harg8 (Memref.whole main_v2_1) (Memref.isWhole_whole _) arg10 harg10 arg11 harg11 arg12 harg12 cc0_scratch3 cc0_scoped0 cc0_scoped1) K := by
  have h := (runB (F := F) c i arg2 harg2 arg3 harg3 arg4 harg4 arg5 harg5 arg6 harg6 arg8 harg8 arg10 harg10 arg11 harg11 arg12 harg12 hc0 hc1 x0 x1 x2 x3 x4 xs0 fh0).2.2
  rw [runB_acc, runB_codes] at h
  exact h

theorem runC_codes (c : Dev nD) (i : grid0.Coords) (arg2 : Memref sig .tc .vmem S1184x1024 .f32) (harg2 : arg2.IsWhole) (arg3 : Memref sig .tc .vmem S1184x128 .f32) (harg3 : arg3.IsWhole) (arg4 : Memref sig .tc .vmem S1024x4608 .fp8e4m3) (harg4 : arg4.IsWhole) (arg5 : Memref sig .tc .vmem S1x4608 .f32) (harg5 : arg5.IsWhole) (arg6 : Memref sig .tc .vmem S1x4608 .f32) (harg6 : arg6.IsWhole) (arg8 : Memref sig .tc .vmem S1184x1024 .fp8e4m3) (harg8 : arg8.IsWhole) (arg10 : Memref sig .tc .vmem S1184x4608 .f32) (harg10 : arg10.IsWhole) (arg11 : Memref sig .tc .vmem S32x4608 .f32) (harg11 : arg11.IsWhole) (arg12 : Memref sig .tc .vmem S32x4608 .bf16) (harg12 : arg12.IsWhole) (hc0 : ¬cond0_0 i) (hc1 : cond0_1 i)
    (x0 : Vec F S1184x1024 .f32) (x1 : Vec F S1184x128 .f32) (x2 : Vec F S1024x4608 .fp8e4m3) (x3 : Vec F S1x4608 .f32) (x4 : Vec F S1x4608 .f32) (xs0 : Vec F S1184x4608 .f32) (fh0 : HbBuf0 (F := F) c hbM0_0) :
    (runC (F := F) c i arg2 harg2 arg3 harg3 arg4 harg4 arg5 harg5 arg6 harg6 arg8 harg8 arg10 harg10 arg11 harg11 arg12 harg12 hc0 hc1 x0 x1 x2 x3 x4 xs0 fh0).1 = (kernelRun0_C (F := F) c i arg2 harg2 arg3 harg3 arg4 harg4 arg5 harg5 arg6 harg6 arg8 harg8 arg10 harg10 arg11 harg11 arg12 harg12 hc0 hc1 x0 x1 x2 x3 x4 xs0 fh0).1 := by
  sl_kernel_rfl
theorem runC_acc (c : Dev nD) (i : grid0.Coords) (arg2 : Memref sig .tc .vmem S1184x1024 .f32) (harg2 : arg2.IsWhole) (arg3 : Memref sig .tc .vmem S1184x128 .f32) (harg3 : arg3.IsWhole) (arg4 : Memref sig .tc .vmem S1024x4608 .fp8e4m3) (harg4 : arg4.IsWhole) (arg5 : Memref sig .tc .vmem S1x4608 .f32) (harg5 : arg5.IsWhole) (arg6 : Memref sig .tc .vmem S1x4608 .f32) (harg6 : arg6.IsWhole) (arg8 : Memref sig .tc .vmem S1184x1024 .fp8e4m3) (harg8 : arg8.IsWhole) (arg10 : Memref sig .tc .vmem S1184x4608 .f32) (harg10 : arg10.IsWhole) (arg11 : Memref sig .tc .vmem S32x4608 .f32) (harg11 : arg11.IsWhole) (arg12 : Memref sig .tc .vmem S32x4608 .bf16) (harg12 : arg12.IsWhole) (hc0 : ¬cond0_0 i) (hc1 : cond0_1 i)
    (x0 : Vec F S1184x1024 .f32) (x1 : Vec F S1184x128 .f32) (x2 : Vec F S1024x4608 .fp8e4m3) (x3 : Vec F S1x4608 .f32) (x4 : Vec F S1x4608 .f32) (xs0 : Vec F S1184x4608 .f32) (fh0 : HbBuf0 (F := F) c hbM0_0) :
    (runC (F := F) c i arg2 harg2 arg3 harg3 arg4 harg4 arg5 harg5 arg6 harg6 arg8 harg8 arg10 harg10 arg11 harg11 arg12 harg12 hc0 hc1 x0 x1 x2 x3 x4 xs0 fh0).2.1 = (kernelRun0_C (F := F) c i arg2 harg2 arg3 harg3 arg4 harg4 arg5 harg5 arg6 harg6 arg8 harg8 arg10 harg10 arg11 harg11 arg12 harg12 hc0 hc1 x0 x1 x2 x3 x4 xs0 fh0).2.1 := by
  sl_kernel_rfl

/-- The last point of a token block: the result ends with the block's rows placed over what it held. -/
theorem run_C (c : Dev nD) (i : grid0.Coords) (arg2 : Memref sig .tc .vmem S1184x1024 .f32) (harg2 : arg2.IsWhole) (arg3 : Memref sig .tc .vmem S1184x128 .f32) (harg3 : arg3.IsWhole) (arg4 : Memref sig .tc .vmem S1024x4608 .fp8e4m3) (harg4 : arg4.IsWhole) (arg5 : Memref sig .tc .vmem S1x4608 .f32) (harg5 : arg5.IsWhole) (arg6 : Memref sig .tc .vmem S1x4608 .f32) (harg6 : arg6.IsWhole) (arg8 : Memref sig .tc .vmem S1184x1024 .fp8e4m3) (harg8 : arg8.IsWhole) (arg10 : Memref sig .tc .vmem S1184x4608 .f32) (harg10 : arg10.IsWhole) (arg11 : Memref sig .tc .vmem S32x4608 .f32) (harg11 : arg11.IsWhole) (arg12 : Memref sig .tc .vmem S32x4608 .bf16) (harg12 : arg12.IsWhole) (hc0 : ¬cond0_0 i) (hc1 : cond0_1 i)
    (x0 : Vec F S1184x1024 .f32) (x1 : Vec F S1184x128 .f32) (x2 : Vec F S1024x4608 .fp8e4m3) (x3 : Vec F S1x4608 .f32) (x4 : Vec F S1x4608 .f32) (xs0 : Vec F S1184x4608 .f32) (fh0 : HbBuf0 (F := F) c hbM0_0) :
      ∀ (fw : HbBuf0 (F := F) c hbM0_1) (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg8 fullShare d) ∗ owns (c : Thread nD τ) arg10 fullShare xs0 ∗ (∃ d, owns (c : Thread nD τ) arg11 fullShare d) ∗ (∃ d, owns (c : Thread nD τ) arg12 fullShare d) ∗ semVal ((c : Thread nD τ), SemLoc.dma 10) 0 ∗ semVal ((c : Thread nD τ), SemLoc.dma 11) 0 ∗ semVal ((c : Thread nD τ), SemLoc.dma 12) 0 ∗ hbPt0 c hbM0_0 fh0 ∗ hbPt0 c hbM0_1 fw ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg8.view.loc (c : Thread nD τ) ↦[arg8.view.set]{fullShare} arg8.view.writes (Elt F) f (kernelRun0_C (F := F) c i arg2 harg2 arg3 harg3 arg4 harg4 arg5 harg5 arg6 harg6 arg8 harg8 arg10 harg10 arg11 harg11 arg12 harg12 hc0 hc1 x0 x1 x2 x3 x4 xs0 fh0).1) ∗ (∃ f, iprop((arg10.view.loc (c : Thread nD τ) ↦[arg10.view.set]{fullShare} arg10.view.writes (Elt F) f (kernelRun0_C (F := F) c i arg2 harg2 arg3 harg3 arg4 harg4 arg5 harg5 arg6 harg6 arg8 harg8 arg10 harg10 arg11 harg11 arg12 harg12 hc0 hc1 x0 x1 x2 x3 x4 xs0 fh0).2.1) ∗ hbPt0 c hbM0_1 (hbM0_1.view.writes (Elt F) fw (placed (arg7 := hbM0_0) i hc1 (harg3.unread x1) (harg5.unread x3) (harg6.unread x4) (arg10.view.writes (Elt F) f (kernelRun0_C (F := F) c i arg2 harg2 arg3 harg3 arg4 harg4 arg5 harg5 arg6 harg6 arg8 harg8 arg10 harg10 arg11 harg11 arg12 harg12 hc0 hc1 x0 x1 x2 x3 x4 xs0 fh0).2.1) fh0 k0_t1_loop.trips)))) ∗ (∃ d, owns (c : Thread nD τ) arg11 fullShare d) ∗ (∃ d, owns (c : Thread nD τ) arg12 fullShare d) ∗ semVal ((c : Thread nD τ), SemLoc.dma 10) 0 ∗ semVal ((c : Thread nD τ), SemLoc.dma 11) 0 ∗ semVal ((c : Thread nD τ), SemLoc.dma 12) 0 ∗ hbPt0 c hbM0_0 fh0 ∗ (∃ W', owes (c : Thread nD τ) 0 W')) -∗ K ⟨⟩))
          ⊢ wp frame (wpE (defs₀ (F := F)) Variants.none c none) Set.univ (cc0_down i arg2 harg2 arg3 harg3 arg4 harg4 arg5 harg5 arg6 harg6 (Memref.whole main_arg5) (Memref.isWhole_whole _) arg8 harg8 (Memref.whole main_v2_1) (Memref.isWhole_whole _) arg10 harg10 arg11 harg11 arg12 harg12 cc0_scratch3 cc0_scoped0 cc0_scoped1) K := by
  have h := (runC (F := F) c i arg2 harg2 arg3 harg3 arg4 harg4 arg5 harg5 arg6 harg6 arg8 harg8 arg10 harg10 arg11 harg11 arg12 harg12 hc0 hc1 x0 x1 x2 x3 x4 xs0 fh0).2.2
  rw [runC_acc, runC_codes] at h
  exact h

end Cert.DownIdeal.Out

end
-- ==== Proof.DownOut.lean ====
/- The down-projection kernel's whole run with its first result followed from point to point: whatever property of the result's
   contents the points carry on holds of them at the end. -/
module

public import proofs.«01_k».proof.Proof.DownRunEq
public import Idealize.ShloMosaic.Lib.Pipeline.FrameValue

@[expose] public section

set_option maxRecDepth 16384

noncomputable section

namespace Cert.DownIdeal.Out

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.DownIdeal Cert.DownIdeal.Gen

variable {F : FTy → Type} [FloatOps F]
variable (m : (ℓ : Loc nD τ sig) → Buf (Elt F) ℓ) (ρ : Dev nD → PrngReg)
variable (D : (c : Dev nD) → ℕ → HbBuf0 (F := F) c hbM0_1 → Prop)

local notation "𝕄" => MT nD τ sig Unit (Elt F) ℕ (Pipeline.UD sig nD τ) ℕ

/-- The property `D` of the result's contents is carried on by every point: by those that leave the result alone, and by the
    last of a token block, which writes the block's rows. -/
structure Follows : Prop where
  keep : ∀ (c : Dev nD) (t : Fin cfg0.N) (f : HbBuf0 (F := F) c hbM0_1), ¬ t.val % 18 = 17 → D c t.val f → D c (t.val + 1) f
  place : ∀ (c : Dev nD) (t : Fin cfg0.N) (h1 : t.val % 18 = 17) {arg3 : Memref sig .tc .vmem S1184x128 .f32} {arg5 : Memref sig .tc .vmem S1x4608 .f32} {arg6 : Memref sig .tc .vmem S1x4608 .f32}
    (harg3 : arg3.IsWhole) (harg5 : arg5.IsWhole) (harg6 : arg6.IsWhole) (h2 : k0_cond2 (grid0.coords t) = 1#1)
    (X : BufTy.Contents (Elt F) scM0_0.view.ty) (f : HbBuf0 (F := F) c hbM0_1), scM0_0.view.read (Elt F) X = (outsAt0 m c t.val t.isLt).2 → D c t.val f →
    D c (t.val + 1) (hbM0_1.view.writes (Elt F) f (placed (arg7 := hbM0_0) (arg10 := scM0_0) (grid0.coords t) h2 (harg3.unread (iblk m c 1 t)) (harg5.unread (iblk m c 3 t)) (harg6.unread (iblk m c 4 t)) X (V m c main_arg5) k0_t1_loop.trips))

/-- The invariant before position `n`: the accumulator at what the point before left in it (before the first point, at anything),
    the other scratch at anything, the register, the cells at zero, the residual as found, and the result at contents of which
    `D` holds. -/
def PhiO (c : Dev nD) : (n : ℕ) → n ≤ cfg0.N → sProp 𝕄
  | 0, _ => iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r) ∗ iprop(semVal ((c : Thread nD τ), SemLoc.dma 10) 0 ∗ semVal ((c : Thread nD τ), SemLoc.dma 11) 0 ∗ semVal ((c : Thread nD τ), SemLoc.dma 12) 0) ∗ iprop(hbPt0 c hbM0_0 (V m c main_arg5)) ∗ iprop((∃ f, iprop(⌜D c 0 f⌝ ∗ hbPt0 c hbM0_1 f))))
  | n + 1, hn => iprop(iprop(owns (c : Thread nD τ) scM0_0 fullShare ((outsAt0 m c n hn).2) ∗ (∃ d, owns (c : Thread nD τ) scM0_1 fullShare d) ∗ (∃ d, owns (c : Thread nD τ) scM0_2 fullShare d)) ∗ (∃ r, prngReg c r) ∗ iprop(semVal ((c : Thread nD τ), SemLoc.dma 10) 0 ∗ semVal ((c : Thread nD τ), SemLoc.dma 11) 0 ∗ semVal ((c : Thread nD τ), SemLoc.dma 12) 0) ∗ iprop(hbPt0 c hbM0_0 (V m c main_arg5)) ∗ iprop((∃ f, iprop(⌜D c (n + 1) f⌝ ∗ hbPt0 c hbM0_1 f))))

theorem PhiO_zero (c : Dev nD) (n : ℕ) (h : n ≤ cfg0.N) (hz : n = 0) : PhiO m D c n h = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r) ∗ iprop(semVal ((c : Thread nD τ), SemLoc.dma 10) 0 ∗ semVal ((c : Thread nD τ), SemLoc.dma 11) 0 ∗ semVal ((c : Thread nD τ), SemLoc.dma 12) 0) ∗ iprop(hbPt0 c hbM0_0 (V m c main_arg5)) ∗ iprop((∃ f, iprop(⌜D c n f⌝ ∗ hbPt0 c hbM0_1 f)))) := by
  subst hz; rfl

theorem PhiO_succ (c : Dev nD) (n : ℕ) (hn : n < cfg0.N) :
    PhiO m D c (n + 1) hn = iprop(iprop(owns (c : Thread nD τ) scM0_0 fullShare ((outsAt0 m c n hn).2) ∗ (∃ d, owns (c : Thread nD τ) scM0_1 fullShare d) ∗ (∃ d, owns (c : Thread nD τ) scM0_2 fullShare d)) ∗ (∃ r, prngReg c r) ∗ iprop(semVal ((c : Thread nD τ), SemLoc.dma 10) 0 ∗ semVal ((c : Thread nD τ), SemLoc.dma 11) 0 ∗ semVal ((c : Thread nD τ), SemLoc.dma 12) 0) ∗ iprop(hbPt0 c hbM0_0 (V m c main_arg5)) ∗ iprop((∃ f, iprop(⌜D c (n + 1) f⌝ ∗ hbPt0 c hbM0_1 f)))) := rfl

theorem PhiO_pos (c : Dev nD) (n : ℕ) (h : n ≤ cfg0.N) (hz : n ≠ 0) :
    PhiO m D c n h = iprop(iprop(owns (c : Thread nD τ) scM0_0 fullShare ((outsAt0 m c (n - 1) (by omega)).2) ∗ (∃ d, owns (c : Thread nD τ) scM0_1 fullShare d) ∗ (∃ d, owns (c : Thread nD τ) scM0_2 fullShare d)) ∗ (∃ r, prngReg c r) ∗ iprop(semVal ((c : Thread nD τ), SemLoc.dma 10) 0 ∗ semVal ((c : Thread nD τ), SemLoc.dma 11) 0 ∗ semVal ((c : Thread nD τ), SemLoc.dma 12) 0) ∗ iprop(hbPt0 c hbM0_0 (V m c main_arg5)) ∗ iprop((∃ f, iprop(⌜D c n f⌝ ∗ hbPt0 c hbM0_1 f)))) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant
    (Lib/Pipeline/Frame.lean `ΦD`: the scoped rest, the generator register, the own cells at zero, the HBM operands at
    their launch contents); nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
  Φ t := PhiO m D c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m D 0 c).A w = V m c (Pipeline.arrRef spec0 w) := by
  dsimp only [dats]

/-- The invariant at a point's start (the proof data at `t.castSucc`), restated at `t.val`. -/
theorem PhiO_castSucc (c : Dev nD) (t : Fin cfg0.N) :
    (dats m D 0 c).Φ t.castSucc = PhiO m D c t.val (Nat.le_of_lt t.isLt) := by
  dsimp only [dats]; exact Pipeline.Dat.Φ_castSucc (PhiO m D c) t

/-- What the body leaves, window by window (the proof data's `match` reduced by `dsimp`). -/
theorem after0_0 (c : Dev nD) (t : Fin cfg0.N) : (dats m D 0 c).after 0 t = iblk m c 0 t := by dsimp only [dats]
theorem after0_1 (c : Dev nD) (t : Fin cfg0.N) : (dats m D 0 c).after 1 t = iblk m c 1 t := by dsimp only [dats]
theorem after0_2 (c : Dev nD) (t : Fin cfg0.N) : (dats m D 0 c).after 2 t = iblk m c 2 t := by dsimp only [dats]
theorem after0_3 (c : Dev nD) (t : Fin cfg0.N) : (dats m D 0 c).after 3 t = iblk m c 3 t := by dsimp only [dats]
theorem after0_4 (c : Dev nD) (t : Fin cfg0.N) : (dats m D 0 c).after 4 t = iblk m c 4 t := by dsimp only [dats]
theorem after0_5 (c : Dev nD) (t : Fin cfg0.N) : (dats m D 0 c).after 5 t = (outsAt0 m c t.val t.isLt).1 := by dsimp only [dats]

/-- Each input's current staging buffer holds its block at every point, fetched there or not (`beforeK_W_of`). -/
theorem before0_0 (c : Dev nD) (t : Fin cfg0.N) (d) : (dats m D 0 c).before 0 t d = iblk m c 0 t :=
  before0_0_of m (dats m D 0 c) (A_eq m D c 0) (after0_0 m D c) t d
theorem before0_1 (c : Dev nD) (t : Fin cfg0.N) (d) : (dats m D 0 c).before 1 t d = iblk m c 1 t :=
  before0_1_of m (dats m D 0 c) (A_eq m D c 1) (after0_1 m D c) t d
theorem before0_2 (c : Dev nD) (t : Fin cfg0.N) (d) : (dats m D 0 c).before 2 t d = iblk m c 2 t :=
  before0_2_of m (dats m D 0 c) (A_eq m D c 2) (after0_2 m D c) t d
theorem before0_3 (c : Dev nD) (t : Fin cfg0.N) (d) : (dats m D 0 c).before 3 t d = iblk m c 3 t :=
  before0_3_of m (dats m D 0 c) (A_eq m D c 3) (after0_3 m D c) t d
theorem before0_4 (c : Dev nD) (t : Fin cfg0.N) (d) : (dats m D 0 c).before 4 t d = iblk m c 4 t :=
  before0_4_of m (dats m D 0 c) (A_eq m D c 4) (after0_4 m D c) t d

/-! ## The body obligation, at a generic point -/

/-- What the body is called with at point `t` (Lib/Pipeline.lean `BodyObligation`'s precondition, the windows one by one), -/
def bodyPre (c : Dev nD) (t : Fin cfg0.N) : sProp 𝕄 :=
  iprop((dats m D 0 c).Φ t.castSucc ∗ (dats m D 0 c).owesAt () t.castSucc
    ∗ (∃ d, owns (c : Thread nD τ) (ms0_0 t) fullShare ((dats m D 0 c).before 0 t d))
    ∗ (∃ d, owns (c : Thread nD τ) (ms0_1 t) fullShare ((dats m D 0 c).before 1 t d))
    ∗ (∃ d, owns (c : Thread nD τ) (ms0_2 t) fullShare ((dats m D 0 c).before 2 t d))
    ∗ (∃ d, owns (c : Thread nD τ) (ms0_3 t) fullShare ((dats m D 0 c).before 3 t d))
    ∗ (∃ d, owns (c : Thread nD τ) (ms0_4 t) fullShare ((dats m D 0 c).before 4 t d))
    ∗ (∃ d, owns (c : Thread nD τ) (ms0_5 t) fullShare ((dats m D 0 c).before 5 t d)))

/-- and what it returns. -/
def bodyPost (c : Dev nD) (t : Fin cfg0.N) : sProp 𝕄 :=
  iprop((dats m D 0 c).Φ t.succ ∗ (dats m D 0 c).owesAt () t.succ
    ∗ owns (c : Thread nD τ) (ms0_0 t) fullShare ((dats m D 0 c).after 0 t)
    ∗ owns (c : Thread nD τ) (ms0_1 t) fullShare ((dats m D 0 c).after 1 t)
    ∗ owns (c : Thread nD τ) (ms0_2 t) fullShare ((dats m D 0 c).after 2 t)
    ∗ owns (c : Thread nD τ) (ms0_3 t) fullShare ((dats m D 0 c).after 3 t)
    ∗ owns (c : Thread nD τ) (ms0_4 t) fullShare ((dats m D 0 c).after 4 t)
    ∗ owns (c : Thread nD τ) (ms0_5 t) fullShare ((dats m D 0 c).after 5 t))

set_option maxHeartbeats 9600000 in
/-- The body at any point: the inputs' memrefs hold their blocks (`before0_W`); the closed forms say which case the point is in (`by_cases`), an output the case reads before covering holds what the point before left (`before0_W_κ`); so the
    run applies; the invariant (`PhiDR0_eq`) hands the body its scratch, the register, its DMA cells at zero, the HBM operands it reads and those it writes, and takes them back — the written ones at whatever the point left, the rest as they were; the core's `owes` goes in at whatever the points before recorded and comes back with this point's waits, within the next point's bound (everything). -/
theorem sound_body (hF : Follows m D) (c : Dev nD) (t : Fin cfg0.N) :
    bodyPre m D c t ⊢ wp frame (wpE (defs₀ (F := F)) Variants.none c none) Set.univ (bodyAt0 t) (fun _ => bodyPost m D c t) := by
  unfold bodyPre bodyPost bodyAt0
  simp only [before0_0, before0_1, before0_2, before0_3, before0_4]
  rw [show (dats m D 0 c).Φ t.succ = PhiO m D c (t.val + 1) t.isLt from rfl, PhiO_succ,
    after0_0, after0_1, after0_2, after0_3, after0_4, after0_5]
  unfold Dat.owesAt Pipeline.owesWithin
  rw [show (dats m D 0 c).owed t.castSucc = 0 from rfl, show (dats m D 0 c).owed t.succ = 0 from rfl]
  have hN : t.val < 216 := lt_of_lt_of_eq t.isLt (show cfg0.N = 216 from N_0)
  by_cases h0 : t.val % 18 = 0
  · by_cases h1 : t.val % 18 = 17
    · exfalso; omega
    · by_cases hz : t.val = 0
      · rw [PhiO_castSucc m D c t, PhiO_zero m D c _ _ hz]
        rw [outsAt0_A m c t h0 h1]
        unfold out0_A_5 sout0_A_0; (try dsimp only)
        iintro ⟨⟨⟨HS0, HS1, HS2⟩, Hg, ⟨Hq0, Hq1, Hq2⟩, Hh0, ⟨%fw, %hD, Hh1⟩⟩, ⟨%W, -, HW⟩, ⟨%d0, H0⟩, ⟨%d1, H1⟩, ⟨%d2, H2⟩, ⟨%d3, H3⟩, ⟨%d4, H4⟩, ⟨%d5, H5⟩⟩
        iapply ((run_A c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (V m c main_arg5)) W _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        isplitl [HS2]; · iexact HS2
        isplitl [Hq0]; · iexact Hq0
        isplitl [Hq1]; · iexact Hq1
        isplitl [Hq2]; · iexact Hq2
        isplitl [Hh0]; · iexact Hh0
        isplitl [HW]; · iexact HW
        iintro ⟨H0, H1, H2, H3, H4, ⟨%e5, H5⟩, ⟨%es0, HS0⟩, HS1, HS2, Hq0, Hq1, Hq2, Hh0, ⟨%W', HW'⟩⟩
        isplitl [HS0 HS1 HS2 Hg Hq0 Hq1 Hq2 Hh0 Hh1]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _)
            isplitl [HS1]; · iexact HS1
            iexact HS2
          isplitl [Hg]
          · iexact Hg
          isplitl [Hq0 Hq1 Hq2]
          · isplitl [Hq0]; · iexact Hq0
            isplitl [Hq1]; · iexact Hq1
            iexact Hq2
          isplitl [Hh0]
          · iexact Hh0
          iexists _; isplitr
          swap; · iexact Hh1
          ipureintro; exact hF.keep c t fw h1 hD
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover0_A_5 c _ _ _ _ _ _ _ _ _ _ _ _ _ _ _ _ _ _ _ _ _ _ _ _ _ _ _)
      · rw [PhiO_castSucc m D c t, PhiO_pos m D c _ _ hz]
        rw [outsAt0_A m c t h0 h1]
        unfold out0_A_5 sout0_A_0; (try dsimp only)
        iintro ⟨⟨⟨HS0, HS1, HS2⟩, Hg, ⟨Hq0, Hq1, Hq2⟩, Hh0, ⟨%fw, %hD, Hh1⟩⟩, ⟨%W, -, HW⟩, ⟨%d0, H0⟩, ⟨%d1, H1⟩, ⟨%d2, H2⟩, ⟨%d3, H3⟩, ⟨%d4, H4⟩, ⟨%d5, H5⟩⟩
        iapply ((run_A c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (V m c main_arg5)) W _)
        isplitl [H0]; · iexact H0
        isplitl [H1]; · iexact H1
        isplitl [H2]; · iexact H2
        isplitl [H3]; · iexact H3
        isplitl [H4]; · iexact H4
        isplitl [H5]; · iexists _; iexact H5
        isplitl [HS0]; · iexists _; iexact HS0
        isplitl [HS1]; · iexact HS1
        isplitl [HS2]; · iexact HS2
        isplitl [Hq0]; · iexact Hq0
        isplitl [Hq1]; · iexact Hq1
        isplitl [Hq2]; · iexact Hq2
        isplitl [Hh0]; · iexact Hh0
        isplitl [HW]; · iexact HW
        iintro ⟨H0, H1, H2, H3, H4, ⟨%e5, H5⟩, ⟨%es0, HS0⟩, HS1, HS2, Hq0, Hq1, Hq2, Hh0, ⟨%W', HW'⟩⟩
        isplitl [HS0 HS1 HS2 Hg Hq0 Hq1 Hq2 Hh0 Hh1]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _)
            isplitl [HS1]; · iexact HS1
            iexact HS2
          isplitl [Hg]
          · iexact Hg
          isplitl [Hq0 Hq1 Hq2]
          · isplitl [Hq0]; · iexact Hq0
            isplitl [Hq1]; · iexact Hq1
            iexact Hq2
          isplitl [Hh0]
          · iexact Hh0
          iexists _; isplitr
          swap; · iexact Hh1
          ipureintro; exact hF.keep c t fw h1 hD
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover0_A_5 c _ _ _ _ _ _ _ _ _ _ _ _ _ _ _ _ _ _ _ _ _ _ _ _ _ _ _)
  · by_cases h1 : t.val % 18 = 17
    · by_cases hz : t.val = 0
      · exfalso; have hN : t.val < 216 := lt_of_lt_of_eq t.isLt (show cfg0.N = 216 from N_0); omega
      · rw [PhiO_castSucc m D c t, PhiO_pos m D c _ _ hz]
        rw [outsAt0_C m c t h0 h1]
        unfold out0_C_5 sout0_C_0; (try dsimp only)
        iintro ⟨⟨⟨HS0, HS1, HS2⟩, Hg, ⟨Hq0, Hq1, Hq2⟩, Hh0, ⟨%fw, %hD, Hh1⟩⟩, ⟨%W, -, HW⟩, ⟨%d0, H0⟩, ⟨%d1, H1⟩, ⟨%d2, H2⟩, ⟨%d3, H3⟩, ⟨%d4, H4⟩, ⟨%d5, H5⟩⟩
        iapply ((run_C c (grid0.coords t) _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _ (V m c main_arg5) fw) W _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        isplitl [HS2]; · iexact HS2
        isplitl [Hq0]; · iexact Hq0
        isplitl [Hq1]; · iexact Hq1
        isplitl [Hq2]; · iexact Hq2
        isplitl [Hh0]; · iexact Hh0
        isplitl [Hh1]; · iexact Hh1
        isplitl [HW]; · iexact HW
        iintro ⟨H0, H1, H2, H3, H4, ⟨%e5, H5⟩, ⟨%es0, HS0, Hh1⟩, HS1, HS2, Hq0, Hq1, Hq2, Hh0, ⟨%W', HW'⟩⟩
        isplitl [HS0 HS1 HS2 Hg Hq0 Hq1 Hq2 Hh0 Hh1]
        · isplitl [HS0 HS1 HS2]
          · isplitl [HS0]
            · unfold owns; iexists _; isplitr
              swap; · iexact HS0
              ipureintro; exact View.read_writes_of_cover _ _ _ _ _ (scover0_C_0 (F := F) c _ _ _ _ _ _ _ _ _ _ _ _ _ _ _ _ _ _ _ _ _ _ _ _ _ _ _ _)
            isplitl [HS1]; · iexact HS1
            iexact HS2
          isplitl [Hg]
          · iexact Hg
          isplitl [Hq0 Hq1 Hq2]
          · isplitl [Hq0]; · iexact Hq0
            isplitl [Hq1]; · iexact Hq1
            iexact Hq2
          isplitl [Hh0]
          · iexact Hh0
          iexists _; isplitr
          swap; · iexact Hh1
          ipureintro; exact hF.place c t h1 _ _ _ _ _ _ (by rw [outsAt0_C m c t h0 h1]; unfold sout0_C_0; dsimp only; exact View.read_writes_of_cover _ _ _ _ _ (scover0_C_0 (F := F) c _ _ _ _ _ _ _ _ _ _ _ _ _ _ _ _ _ _ _ _ _ _ _ _ _ _ _ _)) hD
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover0_C_5 c _ _ _ _ _ _ _ _ _ _ _ _ _ _ _ _ _ _ _ _ _ _ _ _ _ _ _ _)
    · by_cases hz : t.val = 0
      · exfalso; have hN : t.val < 216 := lt_of_lt_of_eq t.isLt (show cfg0.N = 216 from N_0); omega
      · rw [PhiO_castSucc m D c t, PhiO_pos m D c _ _ hz]
        rw [outsAt0_B m c t h0 h1]
        unfold out0_B_5 sout0_B_0; (try dsimp only)
        iintro ⟨⟨⟨HS0, HS1, HS2⟩, Hg, ⟨Hq0, Hq1, Hq2⟩, Hh0, ⟨%fw, %hD, Hh1⟩⟩, ⟨%W, -, HW⟩, ⟨%d0, H0⟩, ⟨%d1, H1⟩, ⟨%d2, H2⟩, ⟨%d3, H3⟩, ⟨%d4, H4⟩, ⟨%d5, H5⟩⟩
        iapply ((run_B c (grid0.coords t) _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) _ (V m c main_arg5)) W _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        isplitl [HS2]; · iexact HS2
        isplitl [Hq0]; · iexact Hq0
        isplitl [Hq1]; · iexact Hq1
        isplitl [Hq2]; · iexact Hq2
        isplitl [Hh0]; · iexact Hh0
        isplitl [HW]; · iexact HW
        iintro ⟨H0, H1, H2, H3, H4, ⟨%e5, H5⟩, ⟨%es0, HS0⟩, HS1, HS2, Hq0, Hq1, Hq2, Hh0, ⟨%W', HW'⟩⟩
        isplitl [HS0 HS1 HS2 Hg Hq0 Hq1 Hq2 Hh0 Hh1]
        · isplitl [HS0 HS1 HS2]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _)
            isplitl [HS1]; · iexact HS1
            iexact HS2
          isplitl [Hg]
          · iexact Hg
          isplitl [Hq0 Hq1 Hq2]
          · isplitl [Hq0]; · iexact Hq0
            isplitl [Hq1]; · iexact Hq1
            iexact Hq2
          isplitl [Hh0]
          · iexact Hh0
          iexists _; isplitr
          swap; · iexact Hh1
          ipureintro; exact hF.keep c t fw h1 hD
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover0_B_5 c _ _ _ _ _ _ _ _ _ _ _ _ _ _ _ _ _ _ _ _ _ _ _ _ _ _ _ _)

/-- The library's body obligation, at every point: the body's triple restated (Lib/Pipeline/FrameBody.lean `triple_restated`). -/
theorem body_obligation (hF : Follows m D) (c : Dev nD) : BodyObligation (dats (F := F) m D 0 c) (defs₀ (F := F)) Variants.none () Set.univ := fun t => by
  rw [bigSep_W0, bigSep_W0, defs₀_row]
  exact triple_restated (sound_body m D hF c t) rfl .rfl fun _ => .rfl

/-- The launch hands the region the invariant before the first point. -/
theorem hin (h0 : ∀ c, D c 0 (V m c main_v2_1)) (c : Dev nD) : Pipeline.ΦDRG osem0 spec0 H0 R0 (V m) (V m) c ⊢ (dats m D 0 c).Φ 0 := by
  rw [show (dats m D 0 c).Φ 0 = PhiO m D c 0 (Nat.zero_le _) from rfl, PhiO_zero m D c 0 _ rfl, Pipeline.ΦDRG_eq, scopedRest0_eq, ownSems00_eq, hbmPts0_eq]
  unfold R0
  rw [Pipeline.routed_singleton]
  simp only [scM0_0, scM0_1, scM0_2, owns_whole]
  iintro ⟨HS, Hg, Hq, Hh0, Hh1⟩
  isplitl [HS]; · iexact HS
  isplitl [Hg]; · iexact Hg
  isplitl [Hq]; · iexact Hq
  isplitl [Hh0]; · iexact Hh0
  iexists _; isplitr
  swap; · iexact Hh1
  ipureintro; exact h0 c

/-- The invariant after the last point gives the launch back its pieces, the result at the contents the property determines. -/
theorem hout (G : (c : Dev nD) → (b : Ref sig .tc) → Buf (Elt F) ((c.tc : Thread nD τ).loc b)) (hG : ∀ c f, D c 216 f → f = G c main_v2_1) (c : Dev nD) :
    (dats m D 0 c).Φ (Fin.last cfg0.N) ⊢ Pipeline.ΦDRG osem0 spec0 H0 R0 (V m) G c := by
  have hN : cfg0.N = 216 := N_0
  rw [show (dats m D 0 c).Φ (Fin.last cfg0.N) = PhiO m D c cfg0.N le_rfl from rfl, PhiO_pos m D c _ _ (by omega), Pipeline.ΦDRG_eq, scopedRest0_eq, ownSems00_eq, hbmPts0_eq]
  unfold R0
  rw [Pipeline.routed_singleton]
  iintro ⟨⟨HS0, HS1, HS2⟩, Hg, Hq, Hh0, ⟨%f, %hD, Hh1⟩⟩
  have hf : f = G c main_v2_1 := hG c f (hN ▸ hD)
  rw [← hf]
  simp only [scM0_0, scM0_1, scM0_2, owns_whole]
  isplitl [HS0 HS1 HS2]
  · isplitl [HS0]; · iexists _; iexact HS0
    isplitl [HS1]; · iexact HS1
    iexact HS2
  isplitl [Hg]; · iexact Hg
  isplitl [Hq]; · iexact Hq
  isplitl [Hh0]; · iexact Hh0
  iexact Hh1

set_option backward.isDefEq.respectTransparency.types false in
/-- The whole run: every array of the pipeline at what its points leave in it, and the result at the contents the property
    determines. -/
theorem run_result (hF : Follows m D) (h0 : ∀ c, D c 0 (V m c main_v2_1))
    (G : (c : Dev nD) → (b : Ref sig .tc) → Buf (Elt F) ((c.tc : Thread nD τ).loc b)) (hG : ∀ c f, D c 216 f → f = G c main_v2_1) :
    θ_run defs (onTc (τ := τ) (main (F := F))) (s₀ m ρ) (Pipeline.FramePostRG cfgs (dats m D) 0 R0 (V m) G) :=
  Pipeline.θ_run_frame_dmaRG (Q' := _) cfgs (dats m D) (0 : Fin 1) launch0 osem0 defs₀ Variants.none ownSemFacts0 H0 R0 H0_sub R0_sub m ρ main
    (hbody := fun c => (body_obligation m D hF c).loose) (hshare := fun c => (dats m D 0 c).share_full fun _ => rfl)
    (howed := fun _ _ => rfl) (V := V m) (hmain := hmain m Variants.none) (hA := A_eq m D) (G := G)
    (hin := hin m D h0) (hout := hout m D G hG)

end Cert.DownIdeal.Out

end
-- ==== Proof.DownPlace.lean ====
/- What the last point of a token block writes: the finish of its accumulated rows, each at its token in the result. -/
module

public import proofs.«01_k».proof.Proof.DownSum
public import proofs.«01_k».proof.Proof.DownOut

@[expose] public section

set_option maxRecDepth 16384

noncomputable section

namespace Cert.DownIdeal.Blocks

open Idealize.ShloMosaic Idealize.ShloMosaic.TcCoe Idealize.SL.Sem
open Idealize.ShloMosaic.Pipeline (Dat)
open Cert.DownIdeal Cert.DownIdeal.Gen Cert.Layer Cert.DownIdeal.Out

variable (m : (ℓ : Loc nD τ sig) → Buf (Elt Ideal) ℓ)

theorem trips_eq : k0_t1_loop.trips = 37 := by decide +kernel
theorem off1 : ∀ (t : Fin cfg0.N) (k : Fin k0_t1_loop.trips), k0_off1 (grid0.coords t) k = ![t.val / 18 * 1184 + 32 * k.val, 0] :=
  (by decide +kernel : ∀ (t : Fin grid0.N) (k : Fin k0_t1_loop.trips), _)
theorem off2 : ∀ k : Fin k0_t1_loop.trips, k0_off2 k = ![32 * k.val, 0] := by decide +kernel
theorem off3 : ∀ k : Fin k0_t1_loop.trips, k0_off3 k = ![32 * k.val, 0] := by decide +kernel

theorem ws_row (c : Dev nD) (j : Fin 4608) : V m c main_v0 (ix2 0 j) = m ((c : Thread nD τ).loc main_arg3) (ix1 j) := by
  entry_read
  pointwise
theorem g_row (c : Dev nD) (j : Fin 4608) : V m c main_v1 (ix2 0 j) = m ((c : Thread nD τ).loc main_arg4) (ix1 j) := by
  entry_read
  pointwise
theorem ws_blk (c : Dev nD) (t : Fin cfg0.N) (j : Fin 4608) :
    iblk m c 3 t (ix2 0 j) = m ((c : Thread nD τ).loc main_arg3) (ix1 j) :=
  Eq.trans (b := V m c main_v0 (ix2 0 j)) (by blk_ext [iblk, idx t]) (ws_row m c _)
theorem g_blk (c : Dev nD) (t : Fin cfg0.N) (j : Fin 4608) :
    iblk m c 4 t (ix2 0 j) = m ((c : Thread nD τ).loc main_arg4) (ix1 j) :=
  Eq.trans (b := V m c main_v1 (ix2 0 j)) (by blk_ext [iblk, idx t]) (g_row m c _)

/-- The finish of 32 accumulated rows: the residual plus the normed projection. -/
theorem finish_at (a : FVec Ideal S32x4608 .f32) (s : FVec Ideal S32x1 .f32) (ws : FVec Ideal S1x4608 .f32) (h : FVec Ideal S32x4608 .f32) (g : FVec Ideal S1x4608 .f32)
    (r : Fin 32) (j : Fin 4608) :
    k0_pay2 (F := Ideal) (k0_pay3 (F := Ideal) a s ws h g) (ix2 r j)
      = h (ix2 r j) + normed (fun j => a (ix2 r j) * s (ix2 r 0) * ws (ix2 0 j)) (fun j => g (ix2 0 j)) j := by
  pointwise [k0_pay2, k0_pay3]
  rfl

/-- A load of a unit-stride rectangle, at a place `x` of it that is the place `y` of the whole. -/
theorem readAt_at {κ : Kind} {sp : Space} {s : Shape} {e : EltTy} (v : View sig κ sp s e) (f : v.ty.Contents (Elt Ideal)) {off off' size : Fin s.rank → ℕ}
    (inb : ∀ a, off a + size a ≤ s.size a) (ho : off = off') (x : (Rect.unit off size inb).shape.Idx) (y : s.Idx) (h : ∀ a, (y a).val = off' a + (x a).val) :
    v.readAt (Elt Ideal) (Rect.unit off size inb).toLoadRect f x = v.read (Elt Ideal) f y := by
  subst ho
  rw [View.readAt_apply]
  refine congrArg _ (funext fun a => Fin.ext ?_)
  show off a + 1 * (x a).val = (y a).val
  rw [h, one_mul]

/-- The layer's output at token `i`, column `j`, from the arguments. -/
def out (c : Dev nD) (i : Fin 14208) (j : Fin 4608) : EReal :=
  downOut (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) i j

/-- The rows one trip of the last point writes are the layer's output at their tokens. -/
theorem rows_at (c : Dev nD) (t : Fin cfg0.N) (h1 : t.val % 18 = 17) {arg3 : Memref sig .tc .vmem S1184x128 .f32} {arg5 : Memref sig .tc .vmem S1x4608 .f32} {arg6 : Memref sig .tc .vmem S1x4608 .f32}
    (harg3 : arg3.IsWhole) (harg5 : arg5.IsWhole) (harg6 : arg6.IsWhole) (h2 : k0_cond2 (grid0.coords t) = 1#1)
    (X : BufTy.Contents (Elt Ideal) scM0_0.view.ty) (hX : scM0_0.view.read (Elt Ideal) X = (outsAt0 m c t.val t.isLt).2)
    (k : Fin k0_t1_loop.trips) (r : Fin 32) (j : Fin 4608) (i : Fin 14208) (hi : i.val = t.val / 18 * 1184 + 32 * k.val + r.val) :
    rows (arg7 := hbM0_0) (arg10 := scM0_0) (grid0.coords t) h2 (harg3.unread (iblk m c 1 t)) (harg5.unread (iblk m c 3 t)) (harg6.unread (iblk m c 4 t)) X (V m c main_arg5) k (ix2 r j)
      = out m c i j := by
  have hk : k.val < 37 := lt_of_lt_of_eq k.isLt trips_eq
  have hq : 32 * k.val + r.val < 1184 := by omega
  obtain ⟨q, hqv⟩ : ∃ q : Fin 1184, q.val = 32 * k.val + r.val := ⟨⟨_, hq⟩, rfl⟩
  have ht : tok t q = i := Fin.ext (by show t.val / 18 * 1184 + q.val = i.val; omega)
  unfold rows
  refine (finish_at _ _ _ _ _ r j).trans ?_
  unfold out downOut
  refine congrArg₂ (· + ·) ?_ (congrFun (congrArg₂ normed (funext fun j => ?_) (funext fun j => ?_)) j)
  · refine (readAt_at hbM0_0.view (V m c main_arg5) _ (off1 t k) (ix2 r j) (ix2 i j) ?_).trans (congrFun (V_main_arg5 m c) (ix2 i j))
    intro a
    match a with
    | ⟨0, _⟩ => exact hi
    | ⟨1, _⟩ => exact (Nat.zero_add _).symm
  · unfold downLinear linear
    refine congrArg₂ (· * ·) (congrArg₂ (· * ·) ?_ ?_) ?_
    · refine (readAt_at scM0_0.view X _ (off2 k) (ix2 r j) (ix2 q j) ?_).trans ((congrFun hX _).trans ((acc_last m c t h1 q j).trans ?_))
      · intro a
        match a with
        | ⟨0, _⟩ => exact hqv
        | ⟨1, _⟩ => exact (Nat.zero_add _).symm
      · rw [ht]; rfl
    · refine (readAt_at arg3.view _ _ (off3 k) (ix2 r 0) (ix2 q 0) ?_).trans ((congrFun (harg3.read_unread _) _).trans ((scale_blk m c t q 0).trans ?_))
      · intro a
        match a with
        | ⟨0, _⟩ => exact hqv
        | ⟨1, _⟩ => rfl
      · rw [ht]
    · refine (readAt_at arg5.view _ _ rfl (ix2 0 j) (ix2 0 j) ?_).trans ((congrFun (harg5.read_unread _) _).trans (ws_blk m c t j))
      intro a
      match a with
      | ⟨0, _⟩ => rfl
      | ⟨1, _⟩ => exact (Nat.zero_add _).symm
  · refine (readAt_at arg6.view _ _ rfl (ix2 0 j) (ix2 0 j) ?_).trans ((congrFun (harg6.read_unread _) _).trans (g_blk m c t j))
    intro a
    match a with
    | ⟨0, _⟩ => rfl
    | ⟨1, _⟩ => exact (Nat.zero_add _).symm

end Cert.DownIdeal.Blocks

end
-- ==== Proof.DownResult.lean ====
/- The down-projection kernel after its run: the codes and the layer's output, as functions of the argument arrays. -/
module

public import proofs.«01_k».proof.Proof.DownPlace

@[expose] public section

set_option maxRecDepth 16384

noncomputable section

namespace Cert.DownIdeal.Blocks

open Idealize.ShloMosaic Idealize.ShloMosaic.TcCoe Idealize.SL.Sem
open Idealize.ShloMosaic.Pipeline (Dat)
open Cert.DownIdeal Cert.DownIdeal.Gen Cert.Layer Cert.DownIdeal.Out

variable (m : (ℓ : Loc nD τ sig) → Buf (Elt Ideal) ℓ) (ρ : Dev nD → PrngReg)

section Placed

variable (c : Dev nD) (t : Fin cfg0.N) (h1 : t.val % 18 = 17) {arg3 : Memref sig .tc .vmem S1184x128 .f32} {arg5 : Memref sig .tc .vmem S1x4608 .f32} {arg6 : Memref sig .tc .vmem S1x4608 .f32}
  (harg3 : arg3.IsWhole) (harg5 : arg5.IsWhole) (harg6 : arg6.IsWhole) (h2 : k0_cond2 (grid0.coords t) = 1#1)
  (X : BufTy.Contents (Elt Ideal) scM0_0.view.ty) (hX : scM0_0.view.read (Elt Ideal) X = (outsAt0 m c t.val t.isLt).2)
  (f : HbBuf0 (F := Ideal) c hbM0_1)

/-- The rows the first `n` trips of the last point write, as stores into the result. -/
abbrev stores (n : ℕ) : List (View.Piece (Elt Ideal) S14208x4608 .bf16) :=
  placed (arg7 := hbM0_0) (arg10 := scM0_0) (grid0.coords t) h2 (harg3.unread (iblk m c 1 t)) (harg5.unread (iblk m c 3 t)) (harg6.unread (iblk m c 4 t)) X (V m c main_arg5) n

include h1 hX in
/-- After the first `n` trips of the last point, the block's first `32 n` tokens have the layer's output. -/
theorem stores_in (j : Fin 4608) (i : Fin 14208) : ∀ n, n ≤ k0_t1_loop.trips → t.val / 18 * 1184 ≤ i.val → i.val < t.val / 18 * 1184 + 32 * n →
    hbM0_1.view.read (Elt Ideal) (hbM0_1.view.writes (Elt Ideal) f (stores m c t harg3 harg5 harg6 h2 X n)) (ix2 i j) = out m c i j := by
  intro n
  induction n with
  | zero => intro _ hl hr; omega
  | succ n ih =>
    intro hn hl hr
    unfold stores
    rw [placed_succ (grid0.coords t) h2 _ _ _ _ _ ⟨n, hn⟩]
    by_cases hi : i.val < t.val / 18 * 1184 + 32 * n
    · refine (View.read_writes_cons_unit_of_not_mem hbM0_1.view f _ _ _ (ix2 i j) (off1 t ⟨n, hn⟩) (0 : Fin 2) (Or.inl hi)).trans ?_
      exact ih (by omega) hl hi
    · obtain ⟨r, hrv⟩ : ∃ r : Fin 32, i.val = t.val / 18 * 1184 + 32 * n + r.val := ⟨⟨i.val - (t.val / 18 * 1184 + 32 * n), by omega⟩, by show i.val = _ + (i.val - _); omega⟩
      refine (View.read_writes_cons_unit_of_mem hbM0_1.view f _ _ _ (ix2 i j) (ix2 r j) (off1 t ⟨n, hn⟩) ?_).trans
        (rows_at m c t h1 harg3 harg5 harg6 h2 X hX ⟨n, hn⟩ r j i hrv)
      intro a
      match a with
      | ⟨0, _⟩ => exact hrv
      | ⟨1, _⟩ => exact (Nat.zero_add _).symm

/-- They leave the tokens before the block as they were. -/
theorem stores_out (j : Fin 4608) (i : Fin 14208) (hi : i.val < t.val / 18 * 1184) : ∀ n, n ≤ k0_t1_loop.trips →
    hbM0_1.view.read (Elt Ideal) (hbM0_1.view.writes (Elt Ideal) f (stores m c t harg3 harg5 harg6 h2 X n)) (ix2 i j) = hbM0_1.view.read (Elt Ideal) f (ix2 i j) := by
  intro n
  induction n with
  | zero => intro _; rfl
  | succ n ih =>
    intro hn
    unfold stores
    rw [placed_succ (grid0.coords t) h2 _ _ _ _ _ ⟨n, hn⟩]
    refine (View.read_writes_cons_unit_of_not_mem hbM0_1.view f _ _ _ (ix2 i j) (off1 t ⟨n, hn⟩) (0 : Fin 2) (Or.inl (show i.val < t.val / 18 * 1184 + 32 * n by omega))).trans ?_
    exact ih (by omega)

end Placed

/-- Before point `n` the tokens of the blocks already finished have the layer's output. -/
def done (c : Dev nD) (n : ℕ) (f : HbBuf0 (F := Ideal) c hbM0_1) : Prop :=
  ∀ (i : Fin 14208) (j : Fin 4608), i.val < n / 18 * 1184 → hbM0_1.view.read (Elt Ideal) f (ix2 i j) = out m c i j

/-- Every point carries that on. -/
theorem follows : Follows m (done m) where
  keep c t f h1 hf i j hi := hf i j (by rwa [show (t.val + 1) / 18 = t.val / 18 by omega] at hi)
  place c t h1 _ _ _ harg3 harg5 harg6 h2 X f hX hf := by
    intro i j hi
    have hn : (t.val + 1) / 18 = t.val / 18 + 1 := by omega
    rw [hn] at hi
    by_cases hl : i.val < t.val / 18 * 1184
    · exact (stores_out m c t harg3 harg5 harg6 h2 X f j i hl _ le_rfl).trans (hf i j hl)
    · exact stores_in m c t h1 harg3 harg5 harg6 h2 X hX f j i _ le_rfl (by omega) (by rw [trips_eq]; omega)

/-- What the run leaves in the buffers it writes itself: the layer's output in the first result. -/
def left (c : Dev nD) (b : Ref sig .tc) : Buf (Elt Ideal) ((c.tc : Thread nD τ).loc b) :=
  Function.update (V m c) main_v2_1 (fun i => out m c (i 0) (i 1)) b

theorem left_eq (c : Dev nD) : left m c main_v2_1 = fun i => out m c (i 0) (i 1) := Function.update_self ..

/-- After the last point the whole first result is the layer's output. -/
theorem whole (c : Dev nD) (f : HbBuf0 (F := Ideal) c hbM0_1) (hf : done m c 216 f) : f = left m c main_v2_1 := by
  rw [left_eq]
  funext i
  have e : i = (ix2 (i 0) (i 1) : S14208x4608.Idx) := eq_ix2 i
  exact (congrArg f e).trans (hf (i 0) (i 1) (i 0).isLt)

/-- The codes after the run. -/
theorem codes_final (c : Dev nD) : (Out.dats m (done m) 0 c).arrAt 5 cfg0.N
    = fun i => quantCode (m ((c : Thread nD τ).loc main_arg0) (ix2 (i 0) (i 1))) (m ((c : Thread nD τ).loc main_arg1) (ix2 (i 0) 0)) := by
  refine (Out.dats m (done m) 0 c).arrAt_eq_of_covers 5 _ (by decide +kernel) fun t _ y => ?_
  blk_simp
  rw [Out.after0_5]
  exact (code_point m c t y).trans (congrArg₂ (code m c) (row5 t y) (col5 t y))

/-- The kernel's run: the codes and the layer's output in its two results, its arguments unchanged. -/
theorem run_results : θ_run defs (onTc (τ := τ) (main (F := Ideal))) ⟨m, fun _ => 0, ρ⟩ fun r => ∀ c : Dev nD,
      r.2.mem ((c : Thread nD τ).loc main_v2_0) = (fun i => quantCode (m ((c : Thread nD τ).loc main_arg0) (ix2 (i 0) (i 1))) (m ((c : Thread nD τ).loc main_arg1) (ix2 (i 0) 0)))
      ∧ r.2.mem ((c : Thread nD τ).loc main_v2_1) = (fun i => out m c (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  refine (θ_run defs _ _).mono (fun r h c => ?_)
    (run_result m ρ (done m) (follows m) (fun c i j hi => absurd hi (by omega)) (left m) (whole m))
  have hR := h.toR
  refine ⟨((hR c).1 5).trans (codes_final m c), (h.written c (by decide)).trans (left_eq m c), ?_, ?_, ?_, ?_, ?_, ?_⟩
  · exact ((hR c).1 0).trans (((Out.dats m (done m) 0 c).arrAt_in 0 rfl _).trans ((Out.A_eq m (done m) c 0).trans (V_main_arg0 m c)))
  · exact ((hR c).1 1).trans (((Out.dats m (done m) 0 c).arrAt_in 1 rfl _).trans ((Out.A_eq m (done m) c 1).trans (V_main_arg1 m c)))
  · exact ((hR c).1 2).trans (((Out.dats m (done m) 0 c).arrAt_in 2 rfl _).trans ((Out.A_eq m (done m) c 2).trans (V_main_arg2 m c)))
  · exact ((hR c).2 main_arg3 (Finset.mem_sdiff.mpr ⟨Pipeline.mem_restRefs_of main_arg3 (by decide) (by decide), by decide⟩)).trans (V_main_arg3 m c)
  · exact ((hR c).2 main_arg4 (Finset.mem_sdiff.mpr ⟨Pipeline.mem_restRefs_of main_arg4 (by decide) (by decide), by decide⟩)).trans (V_main_arg4 m c)
  · exact ((hR c).2 main_arg5 (Finset.mem_sdiff.mpr ⟨Pipeline.mem_restRefs_of main_arg5 (by decide) (by decide), by decide⟩)).trans (V_main_arg5 m c)

end Cert.DownIdeal.Blocks

end
-- ==== Proof.DownRefRows.lean ====
/- The down-projection reference, row by row: what its vector operations on all tokens give at one token and column, in the
   layer's terms. -/
module

public import proofs.«01_k».proof.Proof.Gen.DownRefIdeal.Skeleton
public import proofs.«01_k».proof.Proof.Layer

@[expose] public section

set_option maxRecDepth 65536

noncomputable section

namespace Cert.DownRefIdeal.Rows

open Idealize.ShloMosaic Idealize.ShloMosaic.TcCoe Idealize.SL.Sem
open Cert.DownRefIdeal Cert.DownRefIdeal.Gen Cert.Layer

/-- The codes of the activations under the tokens' scales. -/
theorem code_at (s : FVec Ideal S14208x1 .f32) (a : FVec Ideal S14208x18432 .f32) (r : Fin 14208) (j : Fin 18432) :
    k0_pay1 (F := Ideal) s a (ix2 r j) = quantCode (a (ix2 r j)) (s (ix2 r 0)) := by
  pointwise [k0_pay1]
  rfl

/-- The output: the residual plus the normed down projection of the codes. -/
theorem out_at (s : FVec Ideal S14208x1 .f32) (a : FVec Ideal S14208x18432 .f32) (w : FVec Ideal S18432x4608 .fp8e4m3)
    (ws : FVec Ideal S1x4608 .f32) (h1 : FVec Ideal S14208x4608 .f32) (g : FVec Ideal S1x4608 .f32) (r : Fin 14208) (j : Fin 4608) :
    k0_pay2 (F := Ideal) s a w ws h1 g (ix2 r j)
      = h1 (ix2 r j) + normed (fun j => linear (fun x => k0_pay1 (F := Ideal) s a (ix2 r x)) (fun x => w (ix2 x j)) (s (ix2 r 0)) (ws (ix2 0 j)))
          (fun j => g (ix2 0 j)) j := by
  pointwise [k0_pay2]
  rfl

end Cert.DownRefIdeal.Rows

end
-- ==== Proof.DownRefValue.lean ====
/- The down-projection reference's codes and output after the run, as functions of the argument arrays: one point over whole arrays. -/
module

public import proofs.«01_k».proof.Proof.Gen.DownRefIdeal.Value
public import proofs.«01_k».proof.Proof.DownRefRows
public import Idealize.ShloMosaic.Lib.Pipeline.ValueKit
public import Idealize.ShloMosaic.Lib.Claim

@[expose] public section

set_option maxRecDepth 1614208

noncomputable section

namespace Cert.DownRefIdeal.Blocks

open Idealize.ShloMosaic Idealize.ShloMosaic.TcCoe Idealize.SL.Sem
open Idealize.ShloMosaic.Pipeline (Dat)
open Cert.DownRefIdeal Cert.DownRefIdeal.Gen Cert.Layer

variable (m : (ℓ : Loc nD τ sig) → Buf (Elt Ideal) ℓ)

/-- Every window's block is its whole array. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] ∧ win0_7.index t = ![0, 0] :=
  (by decide +kernel : ∀ t : Fin grid0.N, _)

theorem act_blk (c : Dev nD) (t : Fin cfg0.N) (r : Fin 14208) (j : Fin 18432) :
    iblk m c 0 t (ix2 r j) = m ((c : Thread nD τ).loc main_arg0) (ix2 r j) := by
  blk_ext [iblk, V, idx t]
theorem scale_blk (c : Dev nD) (t : Fin cfg0.N) (r : Fin 14208) (l : Fin 128) :
    iblk m c 1 t (ix2 r l) = m ((c : Thread nD τ).loc main_arg1) (ix2 r l) := by
  blk_ext [iblk, V, idx t]

/-- The code of token `i`'s hidden column `j`, from the arguments. -/
def code (c : Dev nD) (i : Fin 14208) (j : Fin 18432) : EReal :=
  quantCode (m ((c : Thread nD τ).loc main_arg0) (ix2 i j)) (m ((c : Thread nD τ).loc main_arg1) (ix2 i 0))

theorem ws_row (c : Dev nD) (j : Fin 4608) : V m c main_v0 (ix2 0 j) = m ((c : Thread nD τ).loc main_arg3) (ix1 j) := by
  entry_read
  pointwise
theorem g_row (c : Dev nD) (j : Fin 4608) : V m c main_v1 (ix2 0 j) = m ((c : Thread nD τ).loc main_arg4) (ix1 j) := by
  entry_read
  pointwise
theorem w_blk (c : Dev nD) (t : Fin cfg0.N) (k : Fin 18432) (j : Fin 4608) :
    iblk m c 2 t (ix2 k j) = m ((c : Thread nD τ).loc main_arg2) (ix2 k j) := by
  blk_ext [iblk, V, idx t]
theorem ws_blk (c : Dev nD) (t : Fin cfg0.N) (j : Fin 4608) :
    iblk m c 3 t (ix2 0 j) = m ((c : Thread nD τ).loc main_arg3) (ix1 j) :=
  Eq.trans (b := V m c main_v0 (ix2 0 j)) (by blk_ext [iblk, idx t]) (ws_row m c _)
theorem g_blk (c : Dev nD) (t : Fin cfg0.N) (j : Fin 4608) :
    iblk m c 4 t (ix2 0 j) = m ((c : Thread nD τ).loc main_arg4) (ix1 j) :=
  Eq.trans (b := V m c main_v1 (ix2 0 j)) (by blk_ext [iblk, idx t]) (g_row m c _)
theorem h1_blk (c : Dev nD) (t : Fin cfg0.N) (r : Fin 14208) (j : Fin 4608) :
    iblk m c 5 t (ix2 r j) = m ((c : Thread nD τ).loc main_arg5) (ix2 r j) := by
  blk_ext [iblk, V, idx t]

/-- The point's codes are the tokens', whatever column of scales it reads as its one column. -/
theorem code_blk (c : Dev nD) (t : Fin cfg0.N) (s : FVec Ideal S14208x1 .f32) (hs : ∀ r, s (ix2 r 0) = iblk m c 1 t (ix2 r 0)) (r : Fin 14208) (j : Fin 18432) :
    k0_pay1 (F := Ideal) s (iblk m c 0 t) (ix2 r j) = code m c r j := by
  refine (Rows.code_at _ _ r j).trans ?_
  unfold code
  rw [hs, act_blk, scale_blk]

/-- The layer's output at token `i`, column `j`, from the arguments. -/
def out (c : Dev nD) (i : Fin 14208) (j : Fin 4608) : EReal :=
  downOut (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) i j

/-- The point's output is the tokens', whatever column of scales it reads as its one column. -/
theorem out_blk (c : Dev nD) (t : Fin cfg0.N) (s : FVec Ideal S14208x1 .f32) (hs : ∀ r, s (ix2 r 0) = iblk m c 1 t (ix2 r 0)) (r : Fin 14208) (j : Fin 4608) :
    k0_pay2 (F := Ideal) s (iblk m c 0 t) (iblk m c 2 t) (iblk m c 3 t) (iblk m c 5 t) (iblk m c 4 t) (ix2 r j) = out m c r j := by
  refine (Rows.out_at _ _ _ _ _ _ r j).trans ?_
  unfold out downOut
  refine congrArg₂ (· + ·) (h1_blk m c t r j) (congrArg₂ (fun v g => normed v g j) (funext fun j => ?_) (funext fun j => g_blk m c t j))
  unfold downLinear
  rw [ws_blk, hs, scale_blk]
  exact congrArg₂ (fun a b => linear a b _ _) (funext fun k => code_blk m c t s hs r k) (funext fun k => w_blk m c t k j)

theorem row6 (t : Fin cfg0.N) (y : S14208x18432.Idx) : y 0 = (((cfg0.win 6).blk t).view.emb y 0 : Fin 14208) :=
  Fin.ext (by blk_simp [idx t])
theorem col6 (t : Fin cfg0.N) (y : S14208x18432.Idx) : y 1 = (((cfg0.win 6).blk t).view.emb y 1 : Fin 18432) :=
  Fin.ext (by blk_simp [idx t])
theorem row7 (t : Fin cfg0.N) (y : S14208x4608.Idx) : y 0 = (((cfg0.win 7).blk t).view.emb y 0 : Fin 14208) :=
  Fin.ext (by blk_simp [idx t])
theorem col7 (t : Fin cfg0.N) (y : S14208x4608.Idx) : y 1 = (((cfg0.win 7).blk t).view.emb y 1 : Fin 4608) :=
  Fin.ext (by blk_simp [idx t])

/-- Window 6 after the run: every token's codes. -/
theorem final6 (c : Dev nD) : (dats m 0 c).arrAt 6 cfg0.N
    = fun i => quantCode (m ((c : Thread nD τ).loc main_arg0) (ix2 (i 0) (i 1))) (m ((c : Thread nD τ).loc main_arg1) (ix2 (i 0) 0)) := by
  refine (dats m 0 c).arrAt_eq_of_covers 6 _ (by decide +kernel) fun t _ y => ?_
  blk_simp
  rw [after0_6]
  unfold out0_6
  frame_out
  exact (congrArg _ (eq_ix2 y)).trans ((code_blk m c t _ (fun r => by pointwise) _ _).trans (congrArg₂ (code m c) (row6 t y) (col6 t y)))

/-- Window 7 after the run: every token's output. -/
theorem final7 (c : Dev nD) : (dats m 0 c).arrAt 7 cfg0.N = fun i => out m c (i 0) (i 1) := by
  refine (dats m 0 c).arrAt_eq_of_covers 7 _ (by decide +kernel) fun t _ y => ?_
  blk_simp
  rw [after0_7]
  unfold out0_7
  frame_out
  exact (congrArg _ (eq_ix2 y)).trans ((out_blk m c t _ (fun r => by pointwise) _ _).trans (congrArg₂ (out m c) (row7 t y) (col7 t y)))

end Cert.DownRefIdeal.Blocks

end
-- ==== Proof.DownClaim.lean ====
/- The down-projection kernel computes its reference: the two runs end with the same codes and the same output. -/
module

public import proofs.«01_k».proof.Defs
public import proofs.«01_k».proof.Proof.DownResult
public import proofs.«01_k».proof.Proof.DownRefValue

@[expose] public section

namespace Cert.DownClaim

open Idealize.ShloMosaic Idealize.SL.Sem

/-- From memories agreeing on the arguments, kernel and reference end with equal codes and equal outputs, and with their
    arguments unchanged: each side's arrays are the layer's functions of its own arguments. -/
theorem algebraic : Cert.algebraic_DownIdeal_DownRefIdeal (hDownIdeal := Cert.DownIdeal.Gen.facts)
    (hDownRefIdeal := Cert.DownRefIdeal.Gen.facts) := by
  intro m g m' g' _ hag
  refine ⟨_, _, Cert.DownIdeal.Blocks.run_results m g, ?_⟩
  refine (θ_run _ _ _).mono (fun r h c => ?_) (Cert.DownRefIdeal.Value.run_blocks m' g')
  obtain ⟨h0, h1, hrest⟩ := h c
  obtain ⟨a0, a1, a2, a3, a4, a5⟩ := hag c
  refine ⟨h0.trans ?_, h1.trans ?_, hrest⟩
  · refine (Cert.DownRefIdeal.Blocks.final6 m' c).trans ?_
    rw [a0, a1]
    rfl
  · refine (Cert.DownRefIdeal.Blocks.final7 m' c).trans ?_
    unfold Cert.DownRefIdeal.Blocks.out Cert.DownIdeal.Blocks.out
    rw [a0, a1, a2, a3, a4, a5]
    rfl

end Cert.DownClaim

end
-- ==== Proof.lean ====
/- The proof of the certificate's claims. Per call: the kernel, its ideal version and the reference run to the end and leave no
   copy or semaphore pending (the generated frames); the ideal version keeps the program (it is the same text, no rule is
   applied); and, for the calls with a value claim, the two runs end with equal results. -/
module

public import proofs.«01_k».proof.Defs
public import proofs.«01_k».proof.Proof.Gen.GateUp.Frame
public import proofs.«01_k».proof.Proof.Gen.GateUpIdeal.Frame
public import proofs.«01_k».proof.Proof.Gen.GateUpRefIdeal.Frame
public import proofs.«01_k».proof.Proof.Gen.Proj.Frame
public import proofs.«01_k».proof.Proof.Gen.ProjIdeal.Frame
public import proofs.«01_k».proof.Proof.Gen.ProjRefIdeal.Frame
public import proofs.«01_k».proof.Proof.Gen.Qkv.Frame
public import proofs.«01_k».proof.Proof.Gen.QkvIdeal.Frame
public import proofs.«01_k».proof.Proof.Gen.QkvRefIdeal.Frame
public import proofs.«01_k».proof.Proof.Gen.Down.Frame
public import proofs.«01_k».proof.Proof.Gen.DownIdeal.Frame
public import proofs.«01_k».proof.Proof.Gen.DownRefIdeal.Frame
public import proofs.«01_k».proof.Proof.ProjClaim
public import proofs.«01_k».proof.Proof.GateUpClaim
public import proofs.«01_k».proof.Proof.QkvClaim
public import proofs.«01_k».proof.Proof.DownClaim

@[expose] public section

namespace Cert.Proof

open Idealize.ShloMosaic Idealize.SL.Sem

/-- Every claim of the certificate, in its order. -/
theorem claim : Cert.Claim := ⟨Cert.GateUp.Gen.facts, Cert.GateUpIdeal.Gen.facts, Cert.GateUpRefIdeal.Gen.facts, Cert.Proj.Gen.facts, Cert.ProjIdeal.Gen.facts, Cert.ProjRefIdeal.Gen.facts, Cert.Qkv.Gen.facts, Cert.QkvIdeal.Gen.facts, Cert.QkvRefIdeal.Gen.facts, Cert.Down.Gen.facts, Cert.DownIdeal.Gen.facts, Cert.DownRefIdeal.Gen.facts,
  fun m ρ _ => Cert.GateUp.Gen.frame m ρ,
  fun m ρ _ => Cert.GateUpIdeal.Gen.frame m ρ,
  fun m ρ _ => Cert.GateUpRefIdeal.Gen.frame m ρ,
  fun m ρ _ => Cert.Proj.Gen.frame m ρ,
  fun m ρ _ => Cert.ProjIdeal.Gen.frame m ρ,
  fun m ρ _ => Cert.ProjRefIdeal.Gen.frame m ρ,
  fun m ρ _ => Cert.Qkv.Gen.frame m ρ,
  fun m ρ _ => Cert.QkvIdeal.Gen.frame m ρ,
  fun m ρ _ => Cert.QkvRefIdeal.Gen.frame m ρ,
  fun m ρ _ => Cert.Down.Gen.frame m ρ,
  fun m ρ _ => Cert.DownIdeal.Gen.frame m ρ,
  fun m ρ _ => Cert.DownRefIdeal.Gen.frame m ρ,
  trivial, Cert.GateUpClaim.algebraic, trivial, Cert.ProjClaim.algebraic, trivial, Cert.QkvClaim.algebraic, trivial, Cert.DownClaim.algebraic⟩

end Cert.Proof

end
